-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3072x1152 : Shape := ⟨3, ![8, 3072, 1152]⟩
abbrev S8x3072x6784 : Shape := ⟨3, ![8, 3072, 6784]⟩
abbrev S1152x6784 : Shape := ⟨2, ![1152, 6784]⟩
abbrev S6784 : Shape := ⟨1, ![6784]⟩
abbrev S_ : Shape := ⟨0, ![]⟩

class Facts : Prop where
  bitsLt_bf16_f32 : FTy.bits .bf16 < FTy.bits .f32
  bcast_S_S8x3072x1152 : S_.BroadcastsInDim S8x3072x1152 (![] : Fin 0 → Fin S8x3072x1152.rank)
  bcast_S_S6784 : S_.BroadcastsInDim S6784 (![] : Fin 0 → Fin S6784.rank)

variable [Facts]

def fn {F : FTy → Type} [FloatOps F] (main_arg0 : FVec F S8x3072x1152 .bf16) (main_arg1 : FVec F S8x3072x6784 .bf16) (main_arg2 : FVec F S1152x6784 .fp8e4m3) (main_arg3 : FVec F S6784 .f32) (main_arg4 : FVec F S6784 .f32) (main_arg5 : FVec F S6784 .f32) : IVec S8x3072x1152 1 × IVec S6784 1 :=
  let main_v0 : FVec F S8x3072x1152 .f32 := (extf .f32 · bitsLt_bf16_f32) main_arg0
  let main_v1 : FVec F S8x3072x1152 .f32 := Host.absf main_v0
  let main_cst : FVec F S_ .f32 := constant S_ .f32 0x7F7FFFFF#32
  let main_v2 : FVec F S8x3072x1152 .f32 := broadcastInDim S8x3072x1152 ![] bcast_S_S8x3072x1152 main_cst
  let main_v3 : IVec S8x3072x1152 1 := cmpf .ole main_v1 main_v2
  let main_v4 : FVec F S6784 .f32 := Host.absf main_arg5
  let main_cst_0 : FVec F S_ .f32 := constant S_ .f32 0x7F7FFFFF#32
  let main_v5 : FVec F S6784 .f32 := broadcastInDim S6784 ![] bcast_S_S6784 main_cst_0
  let main_v6 : IVec S6784 1 := cmpf .ole main_v4 main_v5
  (main_v3, main_v6)
-- ==== Kernel.lean ====
abbrev S8x3072x1152 : Shape := ⟨3, ![8, 3072, 1152]⟩
abbrev S8x3072x6784 : Shape := ⟨3, ![8, 3072, 6784]⟩
abbrev S1152x6784 : Shape := ⟨2, ![1152, 6784]⟩
abbrev S6784 : Shape := ⟨1, ![6784]⟩
abbrev S1x6784 : Shape := ⟨2, ![1, 6784]⟩
abbrev S_ : Shape := ⟨0, ![]⟩
abbrev S24576x1152 : Shape := ⟨2, ![24576, 1152]⟩
abbrev S24576x6784 : Shape := ⟨2, ![24576, 6784]⟩
abbrev S24576x1 : Shape := ⟨2, ![24576, 1]⟩
abbrev S256x1152 : Shape := ⟨2, ![256, 1152]⟩
abbrev S256x6784 : Shape := ⟨2, ![256, 6784]⟩
abbrev S256x1 : Shape := ⟨2, ![256, 1]⟩
abbrev S2x256x1152 : Shape := ⟨3, ![2, 256, 1152]⟩
abbrev S3x256x1 : Shape := ⟨3, ![3, 256, 1]⟩
abbrev S2x256x6784 : Shape := ⟨3, ![2, 256, 6784]⟩
abbrev S1x256x1 : Shape := ⟨3, ![1, 256, 1]⟩
abbrev S32x1 : Shape := ⟨2, ![32, 1]⟩
abbrev S1x256x6784 : Shape := ⟨3, ![1, 256, 6784]⟩
abbrev S32x128 : Shape := ⟨2, ![32, 128]⟩
abbrev S1x128 : Shape := ⟨2, ![1, 128]⟩
abbrev S32 : Shape := ⟨1, ![32]⟩
abbrev S16x128 : Shape := ⟨2, ![16, 128]⟩
abbrev S1x256x1152 : Shape := ⟨3, ![1, 256, 1152]⟩
abbrev S1152x256 : Shape := ⟨2, ![1152, 256]⟩
abbrev S256x256 : Shape := ⟨2, ![256, 256]⟩
abbrev S1152x128 : Shape := ⟨2, ![1152, 128]⟩
abbrev S256x128 : Shape := ⟨2, ![256, 128]⟩
abbrev S1x32x128 : Shape := ⟨3, ![1, 32, 128]⟩

abbrev nBuf : Space → Nat
  | .hbm => 23
  | .vmem => 21
  | .smem => 0
  | _ => 0

abbrev bufTy : (tb : Table) → Fin (tcTables nBuf tb) → BufTy
  | .hbm, ⟨0, _⟩ => ⟨S8x3072x1152, .bf16⟩
  | .hbm, ⟨1, _⟩ => ⟨S8x3072x6784, .bf16⟩
  | .hbm, ⟨2, _⟩ => ⟨S1152x6784, .fp8e4m3⟩
  | .hbm, ⟨3, _⟩ => ⟨S6784, .f32⟩
  | .hbm, ⟨4, _⟩ => ⟨S6784, .f32⟩
  | .hbm, ⟨5, _⟩ => ⟨S6784, .f32⟩
  | .hbm, ⟨6, _⟩ => ⟨S1x6784, .f32⟩
  | .hbm, ⟨7, _⟩ => ⟨S1x6784, .f32⟩
  | .hbm, ⟨8, _⟩ => ⟨S_, .f32⟩
  | .hbm, ⟨9, _⟩ => ⟨S1x6784, .f32⟩
  | .hbm, ⟨10, _⟩ => ⟨S1x6784, .f32⟩
  | .hbm, ⟨11, _⟩ => ⟨S1x6784, .f32⟩
  | .hbm, ⟨12, _⟩ => ⟨S1x6784, .f32⟩
  | .hbm, ⟨13, _⟩ => ⟨S_, .f32⟩
  | .hbm, ⟨14, _⟩ => ⟨S1x6784, .f32⟩
  | .hbm, ⟨15, _⟩ => ⟨S1x6784, .f32⟩
  | .hbm, ⟨16, _⟩ => ⟨S24576x1152, .bf16⟩
  | .hbm, ⟨17, _⟩ => ⟨S24576x6784, .bf16⟩
  | .hbm, ⟨18, _⟩ => ⟨S24576x6784, .bf16⟩
  | .hbm, ⟨19, _⟩ => ⟨S24576x1152, .fp8e4m3⟩
  | .hbm, ⟨20, _⟩ => ⟨S24576x1, .f32⟩
  | .hbm, ⟨21, _⟩ => ⟨S24576x6784, .fp8e4m3⟩
  | .hbm, ⟨22, _⟩ => ⟨S24576x1, .f32⟩
  | .local _ .vmem, ⟨0, _⟩ => ⟨S256x1152, .bf16⟩
  | .local _ .vmem, ⟨1, _⟩ => ⟨S256x1152, .bf16⟩
  | .local _ .vmem, ⟨2, _⟩ => ⟨S256x6784, .bf16⟩
  | .local _ .vmem, ⟨3, _⟩ => ⟨S256x6784, .bf16⟩
  | .local _ .vmem, ⟨4, _⟩ => ⟨S1152x6784, .fp8e4m3⟩
  | .local _ .vmem, ⟨5, _⟩ => ⟨S1x6784, .f32⟩
  | .local _ .vmem, ⟨6, _⟩ => ⟨S1x6784, .f32⟩
  | .local _ .vmem, ⟨7, _⟩ => ⟨S1x6784, .f32⟩
  | .local _ .vmem, ⟨8, _⟩ => ⟨S256x6784, .bf16⟩
  | .local _ .vmem, ⟨9, _⟩ => ⟨S256x6784, .bf16⟩
  | .local _ .vmem, ⟨10, _⟩ => ⟨S256x1152, .fp8e4m3⟩
  | .local _ .vmem, ⟨11, _⟩ => ⟨S256x1152, .fp8e4m3⟩
  | .local _ .vmem, ⟨12, _⟩ => ⟨S256x1, .f32⟩
  | .local _ .vmem, ⟨13, _⟩ => ⟨S256x1, .f32⟩
  | .local _ .vmem, ⟨14, _⟩ => ⟨S256x6784, .fp8e4m3⟩
  | .local _ .vmem, ⟨15, _⟩ => ⟨S256x6784, .fp8e4m3⟩
  | .local _ .vmem, ⟨16, _⟩ => ⟨S256x1, .f32⟩
  | .local _ .vmem, ⟨17, _⟩ => ⟨S256x1, .f32⟩
  | .local _ .vmem, ⟨18, _⟩ => ⟨S2x256x1152, .fp8e4m3⟩
  | .local _ .vmem, ⟨19, _⟩ => ⟨S3x256x1, .f32⟩
  | .local _ .vmem, ⟨20, _⟩ => ⟨S2x256x6784, .f32⟩
  | _, _ => ⟨S8x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![98], ![false]⟩

@[reducible] def k0_t1_loop : Scf.Loop 32 :=
  let c0_i32 : BitVec 32 := 0#32
  let c8_i32 : BitVec 32 := 8#32
  let v4 : BitVec 32 := Scalar.addi c0_i32 c8_i32
  let c1_i32_1 : BitVec 32 := 1#32
  ⟨c0_i32, v4, c1_i32_1⟩
def k0_mult1 (k0_t1 : Fin k0_t1_loop.trips) : BitVec 32 :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  v277
def k0_off1 (i : grid0.Coords) : Fin 3 → Nat :=
  let arg0 : BitVec 32 := BitVec.ofNat 32 (i 0).val
  let c1_i32_0 : BitVec 32 := 1#32
  let v2 : BitVec 32 := Scalar.addi arg0 c1_i32_0
  let c3_i32 : BitVec 32 := 3#32
  let v3 : BitVec 32 := Scalar.remsi v2 c3_i32
  let c0_i32_223 : BitVec 32 := 0#32
  let c0_i32_224 : BitVec 32 := 0#32
  ![v3.toNat, 0, 0]
def k0_off2 (k0_t1 : Fin k0_t1_loop.trips) : Fin 2 → Nat :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  let v278 : BitVec 32 := v277
  let v281 : Index := Scalar.indexCast v278
  let c0_225 : Index := 0#32
  ![v281.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_226 : BitVec 32 := 0#32
  let c0_i32_227 : BitVec 32 := 0#32
  ![v0.toNat, 0, 0]
def k0_off4 (k0_t1 : Fin k0_t1_loop.trips) : Fin 2 → Nat :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  let v278 : BitVec 32 := v277
  let v285 : Index := Scalar.indexCast v278
  let c0_228 : Index := 0#32
  ![v285.toNat, 0]
@[reducible] def k0_t2_loop : Scf.Loop 32 :=
  let c1_i32_231 : BitVec 32 := 1#32
  let c52_i32 : BitVec 32 := 52#32
  let v292 : BitVec 32 := Scalar.addi c1_i32_231 c52_i32
  let c1_i32_232 : BitVec 32 := 1#32
  ⟨c1_i32_231, v292, c1_i32_232⟩
def k0_mult2 (k0_t2 : Fin k0_t2_loop.trips) : BitVec 32 :=
  let c1_i32_231 : BitVec 32 := 1#32
  let c1_i32_232 : BitVec 32 := 1#32
  let arg16 : BitVec 32 := Scf.iv c1_i32_231 c1_i32_232 k0_t2
  let c128_i32_269 : BitVec 32 := 128#32
  let v402 : BitVec 32 := Scalar.muli arg16 c128_i32_269
  v402
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_270 : BitVec 32 := 0#32
  let c0_i32_271 : BitVec 32 := 0#32
  ![v0.toNat, 0, 0]
def k0_off6 (k0_t1 : Fin k0_t1_loop.trips) (k0_t2 : Fin k0_t2_loop.trips) : Fin 2 → Nat :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  let v278 : BitVec 32 := v277
  let v406 : Index := Scalar.indexCast v278
  let c1_i32_231 : BitVec 32 := 1#32
  let c1_i32_232 : BitVec 32 := 1#32
  let arg16 : BitVec 32 := Scf.iv c1_i32_231 c1_i32_232 k0_t2
  let c128_i32_269 : BitVec 32 := 128#32
  let v402 : BitVec 32 := Scalar.muli arg16 c128_i32_269
  let v403 : BitVec 32 := v402
  let v407 : Index := Scalar.indexCast v403
  ![v406.toNat, v407.toNat]
def k0_off7 (k0_t2 : Fin k0_t2_loop.trips) : Fin 2 → Nat :=
  let c0_272 : Index := 0#32
  let c1_i32_231 : BitVec 32 := 1#32
  let c1_i32_232 : BitVec 32 := 1#32
  let arg16 : BitVec 32 := Scf.iv c1_i32_231 c1_i32_232 k0_t2
  let c128_i32_269 : BitVec 32 := 128#32
  let v402 : BitVec 32 := Scalar.muli arg16 c128_i32_269
  let v403 : BitVec 32 := v402
  let v409 : Index := Scalar.indexCast v403
  ![0, v409.toNat]
@[reducible] def k0_t3_loop : Scf.Loop 32 :=
  let c0_i32_239 : BitVec 32 := 0#32
  let c53_i32 : BitVec 32 := 53#32
  let v308 : BitVec 32 := Scalar.addi c0_i32_239 c53_i32
  let c1_i32_240 : BitVec 32 := 1#32
  ⟨c0_i32_239, v308, c1_i32_240⟩
def k0_mult3 (k0_t3 : Fin k0_t3_loop.trips) : BitVec 32 :=
  let c0_i32_239 : BitVec 32 := 0#32
  let c1_i32_240 : BitVec 32 := 1#32
  let arg16 : BitVec 32 := Scf.iv c0_i32_239 c1_i32_240 k0_t3
  let c128_i32_269 : BitVec 32 := 128#32
  let v402 : BitVec 32 := Scalar.muli arg16 c128_i32_269
  v402
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_270 : BitVec 32 := 0#32
  let c0_i32_271 : BitVec 32 := 0#32
  ![v0.toNat, 0, 0]
def k0_off9 (k0_t1 : Fin k0_t1_loop.trips) (k0_t3 : Fin k0_t3_loop.trips) : Fin 2 → Nat :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  let v278 : BitVec 32 := v277
  let v406 : Index := Scalar.indexCast v278
  let c0_i32_239 : BitVec 32 := 0#32
  let c1_i32_240 : BitVec 32 := 1#32
  let arg16 : BitVec 32 := Scf.iv c0_i32_239 c1_i32_240 k0_t3
  let c128_i32_269 : BitVec 32 := 128#32
  let v402 : BitVec 32 := Scalar.muli arg16 c128_i32_269
  let v403 : BitVec 32 := v402
  let v407 : Index := Scalar.indexCast v403
  ![v406.toNat, v407.toNat]
def k0_off10 (k0_t3 : Fin k0_t3_loop.trips) : Fin 2 → Nat :=
  let c0_272 : Index := 0#32
  let c0_i32_239 : BitVec 32 := 0#32
  let c1_i32_240 : BitVec 32 := 1#32
  let arg16 : BitVec 32 := Scf.iv c0_i32_239 c1_i32_240 k0_t3
  let c128_i32_269 : BitVec 32 := 128#32
  let v402 : BitVec 32 := Scalar.muli arg16 c128_i32_269
  let v403 : BitVec 32 := v402
  let v410 : Index := Scalar.indexCast v403
  ![0, v410.toNat]
@[reducible] def k0_t4_loop : Scf.Loop 32 :=
  let c0_i32_265 : BitVec 32 := 0#32
  let c53_i32_266 : BitVec 32 := 53#32
  let v401 : BitVec 32 := Scalar.addi c0_i32_265 c53_i32_266
  let c1_i32_267 : BitVec 32 := 1#32
  ⟨c0_i32_265, v401, c1_i32_267⟩
def k0_mult4 (k0_t4 : Fin k0_t4_loop.trips) : BitVec 32 :=
  let c0_i32_265 : BitVec 32 := 0#32
  let c1_i32_267 : BitVec 32 := 1#32
  let arg16 : BitVec 32 := Scf.iv c0_i32_265 c1_i32_267 k0_t4
  let c128_i32_269 : BitVec 32 := 128#32
  let v402 : BitVec 32 := Scalar.muli arg16 c128_i32_269
  v402
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_270 : BitVec 32 := 0#32
  let c0_i32_271 : BitVec 32 := 0#32
  ![v0.toNat, 0, 0]
def k0_off12 (k0_t1 : Fin k0_t1_loop.trips) (k0_t4 : Fin k0_t4_loop.trips) : Fin 2 → Nat :=
  let c0_i32 : BitVec 32 := 0#32
  let c1_i32_1 : BitVec 32 := 1#32
  let arg15 : BitVec 32 := Scf.iv c0_i32 c1_i32_1 k0_t1
  let c32_i32 : BitVec 32 := 32#32
  let v277 : BitVec 32 := Scalar.muli arg15 c32_i32
  let v278 : BitVec 32 := v277
  let v406 : Index := Scalar.indexCast v278
  let c0_i32_265 : BitVec 32 := 0#32
  let c1_i32_267 : BitVec 32 := 1#32
  let arg16 : BitVec 32 := Scf.iv c0_i32_265 c1_i32_267 k0_t4
  let c128_i32_269 : BitVec 32 := 128#32
  let v402 : BitVec 32 := Scalar.muli arg16 c128_i32_269
  let v403 : BitVec 32 := v402
  let v407 : Index := Scalar.indexCast v403
  ![v406.toNat, v407.toNat]
def k0_mult5 (k0_t4 : Fin k0_t4_loop.trips) : BitVec 32 :=
  let c0_i32_265 : BitVec 32 := 0#32
  let c1_i32_267 : BitVec 32 := 1#32
  let arg16 : BitVec 32 := Scf.iv c0_i32_265 c1_i32_267 k0_t4
  let c128_i32_274 : BitVec 32 := 128#32
  let v415 : BitVec 32 := Scalar.muli arg16 c128_i32_274
  v415
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v5 : Index := Scalar.indexCast v1
  let c0 : Index := 0#32
  let c0_3 : Index := 0#32
  ![v5.toNat, 0, 0]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_6 : BitVec 32 := 0#32
  let c0_i32_7 : BitVec 32 := 0#32
  ![v1.toNat, 0, 0]
@[reducible] def k0_t5_loop : Scf.Loop 32 :=
  let c0_i32_219 : BitVec 32 := 0#32
  let c8_i32_220 : BitVec 32 := 8#32
  let v276 : BitVec 32 := Scalar.addi c0_i32_219 c8_i32_220
  let c1_i32_221 : BitVec 32 := 1#32
  ⟨c0_i32_219, v276, c1_i32_221⟩
def k0_mult6 (k0_t5 : Fin k0_t5_loop.trips) : BitVec 32 :=
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  v277
def k0_off15 (k0_t5 : Fin k0_t5_loop.trips) : Fin 2 → Nat :=
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  let v278 : BitVec 32 := v277
  let v279 : Index := Scalar.indexCast v278
  let c0_223 : Index := 0#32
  ![v279.toNat, 0]
@[reducible] def k0_t6_loop : Scf.Loop 32 :=
  let c1_i32_224 : BitVec 32 := 1#32
  let c8_i32_225 : BitVec 32 := 8#32
  let v283 : BitVec 32 := Scalar.addi c1_i32_224 c8_i32_225
  let c1_i32_226 : BitVec 32 := 1#32
  ⟨c1_i32_224, v283, c1_i32_226⟩
def k0_mult7 (k0_t6 : Fin k0_t6_loop.trips) : BitVec 32 :=
  let c1_i32_224 : BitVec 32 := 1#32
  let c1_i32_226 : BitVec 32 := 1#32
  let arg16 : BitVec 32 := Scf.iv c1_i32_224 c1_i32_226 k0_t6
  let c128_i32_254 : BitVec 32 := 128#32
  let v375 : BitVec 32 := Scalar.muli arg16 c128_i32_254
  v375
def k0_off16 (k0_t5 : Fin k0_t5_loop.trips) (k0_t6 : Fin k0_t6_loop.trips) : Fin 2 → Nat :=
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  let v278 : BitVec 32 := v277
  let v377 : Index := Scalar.indexCast v278
  let c1_i32_224 : BitVec 32 := 1#32
  let c1_i32_226 : BitVec 32 := 1#32
  let arg16 : BitVec 32 := Scf.iv c1_i32_224 c1_i32_226 k0_t6
  let c128_i32_254 : BitVec 32 := 128#32
  let v375 : BitVec 32 := Scalar.muli arg16 c128_i32_254
  let v376 : BitVec 32 := v375
  let v378 : Index := Scalar.indexCast v376
  ![v377.toNat, v378.toNat]
def k0_off17 (k0_t5 : Fin k0_t5_loop.trips) : Fin 2 → Nat :=
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  let v278 : BitVec 32 := v277
  let v363 : Index := Scalar.indexCast v278
  let c0_247 : Index := 0#32
  ![v363.toNat, 0]
def k0_off18 (i : grid0.Coords) : Fin 3 → Nat :=
  let arg0 : BitVec 32 := BitVec.ofNat 32 (i 0).val
  let c3_i32_218 : BitVec 32 := 3#32
  let v275 : BitVec 32 := Scalar.remsi arg0 c3_i32_218
  let c0_i32_248 : BitVec 32 := 0#32
  let c0_i32_249 : BitVec 32 := 0#32
  ![v275.toNat, 0, 0]
@[reducible] def k0_t7_loop : Scf.Loop 32 :=
  let c0_i32_251 : BitVec 32 := 0#32
  let c9_i32 : BitVec 32 := 9#32
  let v374 : BitVec 32 := Scalar.addi c0_i32_251 c9_i32
  let c1_i32_252 : BitVec 32 := 1#32
  ⟨c0_i32_251, v374, c1_i32_252⟩
def k0_mult8 (k0_t7 : Fin k0_t7_loop.trips) : BitVec 32 :=
  let c0_i32_251 : BitVec 32 := 0#32
  let c1_i32_252 : BitVec 32 := 1#32
  let arg16 : BitVec 32 := Scf.iv c0_i32_251 c1_i32_252 k0_t7
  let c128_i32_254 : BitVec 32 := 128#32
  let v375 : BitVec 32 := Scalar.muli arg16 c128_i32_254
  v375
def k0_off19 (k0_t5 : Fin k0_t5_loop.trips) (k0_t7 : Fin k0_t7_loop.trips) : Fin 2 → Nat :=
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  let v278 : BitVec 32 := v277
  let v377 : Index := Scalar.indexCast v278
  let c0_i32_251 : BitVec 32 := 0#32
  let c1_i32_252 : BitVec 32 := 1#32
  let arg16 : BitVec 32 := Scf.iv c0_i32_251 c1_i32_252 k0_t7
  let c128_i32_254 : BitVec 32 := 128#32
  let v375 : BitVec 32 := Scalar.muli arg16 c128_i32_254
  let v376 : BitVec 32 := v375
  let v378 : Index := Scalar.indexCast v376
  ![v377.toNat, v378.toNat]
def k0_mult9 (k0_t7 : Fin k0_t7_loop.trips) : BitVec 32 :=
  let c0_i32_251 : BitVec 32 := 0#32
  let c1_i32_252 : BitVec 32 := 1#32
  let arg16 : BitVec 32 := Scf.iv c0_i32_251 c1_i32_252 k0_t7
  let c128_i32_257 : BitVec 32 := 128#32
  let v389 : BitVec 32 := Scalar.muli arg16 c128_i32_257
  v389
def k0_mult10 (k0_t7 : Fin k0_t7_loop.trips) : BitVec 32 :=
  let c0_i32_251 : BitVec 32 := 0#32
  let c1_i32_252 : BitVec 32 := 1#32
  let arg16 : BitVec 32 := Scf.iv c0_i32_251 c1_i32_252 k0_t7
  let c128_i32_258 : BitVec 32 := 128#32
  let v394 : BitVec 32 := Scalar.muli arg16 c128_i32_258
  v394
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_259 : BitVec 32 := 0#32
  let c0_i32_260 : BitVec 32 := 0#32
  ![v0.toNat, 0, 0]
def k0_off21 (i : grid0.Coords) (k0_t5 : Fin k0_t5_loop.trips) (k0_t7 : Fin k0_t7_loop.trips) : Fin 3 → Nat :=
  let arg0 : BitVec 32 := BitVec.ofNat 32 (i 0).val
  let c2_i32 : BitVec 32 := 2#32
  let v0 : BitVec 32 := Scalar.remsi arg0 c2_i32
  let c0_i32_219 : BitVec 32 := 0#32
  let c1_i32_221 : BitVec 32 := 1#32
  let arg15 : BitVec 32 := Scf.iv c0_i32_219 c1_i32_221 k0_t5
  let c32_i32 : BitVec 32 := 32#32
  let v277 : BitVec 32 := Scalar.muli arg15 c32_i32
  let v278 : BitVec 32 := v277
  let v398 : Index := Scalar.indexCast v278
  let c0_i32_251 : BitVec 32 := 0#32
  let c1_i32_252 : BitVec 32 := 1#32
  let arg16 : BitVec 32 := Scf.iv c0_i32_251 c1_i32_252 k0_t7
  let c128_i32_258 : BitVec 32 := 128#32
  let v394 : BitVec 32 := Scalar.muli arg16 c128_i32_258
  let v395 : BitVec 32 := v394
  let v399 : Index := Scalar.indexCast v395
  ![v0.toNat, v398.toNat, v399.toNat]
def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c95_i32 : BitVec 32 := 95#32
  let v1 : BitVec 32 := Scalar.maxsi c0_i32 v0
  let v2 : BitVec 32 := Scalar.minsi c95_i32 v1
  let c0_i32_0 : BitVec 32 := 0#32
  let c0_i32_1 : BitVec 32 := 0#32
  ![v2.toNat, c0_i32_0.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6784 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1152x6784 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6784 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6784 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x6784 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x3072x1152 : Shape := ⟨3, ![8, 3072, 1152]⟩
abbrev S8x3072x6784 : Shape := ⟨3, ![8, 3072, 6784]⟩
abbrev S1152x6784 : Shape := ⟨2, ![1152, 6784]⟩
abbrev S6784 : Shape := ⟨1, ![6784]⟩
abbrev S24576x1152 : Shape := ⟨2, ![24576, 1152]⟩
abbrev S24576x6784 : Shape := ⟨2, ![24576, 6784]⟩
abbrev S1x6784 : Shape := ⟨2, ![1, 6784]⟩
abbrev S24576x1 : Shape := ⟨2, ![24576, 1]⟩
abbrev S24576 : Shape := ⟨1, ![24576]⟩

abbrev nBuf : Space → Nat
  | .hbm => 16
  | .vmem => 11
  | .smem => 0
  | _ => 0

abbrev bufTy : (tb : Table) → Fin (tcTables nBuf tb) → BufTy
  | .hbm, ⟨0, _⟩ => ⟨S8x3072x1152, .bf16⟩
  | .hbm, ⟨1, _⟩ => ⟨S8x3072x6784, .bf16⟩
  | .hbm, ⟨2, _⟩ => ⟨S1152x6784, .fp8e4m3⟩
  | .hbm, ⟨3, _⟩ => ⟨S6784, .f32⟩
  | .hbm, ⟨4, _⟩ => ⟨S6784, .f32⟩
  | .hbm, ⟨5, _⟩ => ⟨S6784, .f32⟩
  | .hbm, ⟨6, _⟩ => ⟨S24576x1152, .bf16⟩
  | .hbm, ⟨7, _⟩ => ⟨S24576x6784, .bf16⟩
  | .hbm, ⟨8, _⟩ => ⟨S1x6784, .f32⟩
  | .hbm, ⟨9, _⟩ => ⟨S1x6784, .f32⟩
  | .hbm, ⟨10, _⟩ => ⟨S1x6784, .f32⟩
  | .hbm, ⟨11, _⟩ => ⟨S24576x6784, .bf16⟩
  | .hbm, ⟨12, _⟩ => ⟨S24576x1152, .fp8e4m3⟩
  | .hbm, ⟨13, _⟩ => ⟨S24576x1, .f32⟩
  | .hbm, ⟨14, _⟩ => ⟨S24576x6784, .fp8e4m3⟩
  | .hbm, ⟨15, _⟩ => ⟨S24576x1, .f32⟩
  | .local _ .vmem, ⟨0, _⟩ => ⟨S24576x1152, .bf16⟩
  | .local _ .vmem, ⟨1, _⟩ => ⟨S24576x6784, .bf16⟩
  | .local _ .vmem, ⟨2, _⟩ => ⟨S1152x6784, .fp8e4m3⟩
  | .local _ .vmem, ⟨3, _⟩ => ⟨S1x6784, .f32⟩
  | .local _ .vmem, ⟨4, _⟩ => ⟨S1x6784, .f32⟩
  | .local _ .vmem, ⟨5, _⟩ => ⟨S1x6784, .f32⟩
  | .local _ .vmem, ⟨6, _⟩ => ⟨S24576x6784, .bf16⟩
  | .local _ .vmem, ⟨7, _⟩ => ⟨S24576x1152, .fp8e4m3⟩
  | .local _ .vmem, ⟨8, _⟩ => ⟨S24576x1, .f32⟩
  | .local _ .vmem, ⟨9, _⟩ => ⟨S24576x6784, .fp8e4m3⟩
  | .local _ .vmem, ⟨10, _⟩ => ⟨S24576x1, .f32⟩
  | _, _ => ⟨S8x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24576x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x6784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x6784 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6784 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6784 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x6784 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x6784 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Blocks.lean ====
/- Blocks of matrices and slots of stacks of matrices: what a load through a rectangle reads and what a store leaves, by
   the rectangle's offsets as plain numbers. -/
module

public import Idealize.ShloMosaic.Lib.Memref
public import Idealize.ShloMosaic.Lib.ValueLayout
public import Idealize.ShloMosaic.Lib.ValueIdxCoords

@[expose] public section

noncomputable section

namespace Cert.Blocks

open Idealize.ShloMosaic Idealize.ShloMosaic.ValueIdx

variable {α : Type} {P R N a b : ℕ} [NeZero P] [NeZero R] [NeZero N]

/-- A number as an index, taken modulo the extent. -/
def fi (n k : ℕ) [NeZero n] : Fin n := Fin.ofNat n k

theorem fi_val {n k : ℕ} [NeZero n] (h : k < n) : (fi n k).val = k := Nat.mod_eq_of_lt h

theorem fi_eq {n k : ℕ} [NeZero n] (x : Fin n) (h : x.val = k) : fi n k = x := Fin.ext (by rw [fi_val (h ▸ x.isLt), h])

/-- The block of a matrix at a row and a column offset. -/
def sub2 (o0 o1 : ℕ) (X : (⟨2, ![R, N]⟩ : Shape).Idx → α) : (⟨2, ![a, b]⟩ : Shape).Idx → α :=
  fun j => X (ix2 (fi R (o0 + (j 0).val)) (fi N (o1 + (j 1).val)))

/-- A matrix with a block replaced. -/
def put2 (o0 o1 : ℕ) (X : (⟨2, ![R, N]⟩ : Shape).Idx → α) (w : (⟨2, ![a, b]⟩ : Shape).Idx → α) : (⟨2, ![R, N]⟩ : Shape).Idx → α :=
  fun y => if h : (o0 ≤ (y 0).val ∧ (y 0).val < o0 + a) ∧ (o1 ≤ (y 1).val ∧ (y 1).val < o1 + b)
    then w (ix2 ⟨(y 0).val - o0, by omega⟩ ⟨(y 1).val - o1, by omega⟩) else X y

theorem sub2_put2 {o0 o1 : ℕ} (h0 : o0 + a ≤ R) (h1 : o1 + b ≤ N) (X : (⟨2, ![R, N]⟩ : Shape).Idx → α)
    (w : (⟨2, ![a, b]⟩ : Shape).Idx → α) : sub2 o0 o1 (put2 o0 o1 X w) = w := by
  funext j
  have hj0 := idx2_lt0 j
  have hj1 := idx2_lt1 j
  unfold sub2 put2
  have e0 : (fi R (o0 + (j 0).val)).val = o0 + (j 0).val := fi_val (by omega)
  have e1 : (fi N (o1 + (j 1).val)).val = o1 + (j 1).val := fi_val (by omega)
  rw [dif_pos ⟨⟨by rw [ix2_0, e0]; omega, by rw [ix2_0, e0]; omega⟩, ⟨by rw [ix2_1, e1]; omega, by rw [ix2_1, e1]; omega⟩⟩]
  conv_rhs => rw [eq_ix2 j]
  congr 1
  congr 1
  · exact Fin.ext (by simp only [ix2_0, e0]; omega)
  · exact Fin.ext (by simp only [ix2_1, e1]; omega)

theorem sub2_put2_ne {a' b' o0 o1 o0' o1' : ℕ} (h0 : o0' + a' ≤ R) (h1 : o1' + b' ≤ N)
    (hd : (o0' + a' ≤ o0 ∨ o0 + a ≤ o0') ∨ (o1' + b' ≤ o1 ∨ o1 + b ≤ o1')) (X : (⟨2, ![R, N]⟩ : Shape).Idx → α)
    (w : (⟨2, ![a, b]⟩ : Shape).Idx → α) :
    (sub2 o0' o1' (put2 o0 o1 X w) : (⟨2, ![a', b']⟩ : Shape).Idx → α) = sub2 o0' o1' X := by
  funext j
  have hj0 := idx2_lt0 j
  have hj1 := idx2_lt1 j
  unfold sub2 put2
  have e0 : (fi R (o0' + (j 0).val)).val = o0' + (j 0).val := fi_val (by omega)
  have e1 : (fi N (o1' + (j 1).val)).val = o1' + (j 1).val := fi_val (by omega)
  rw [dif_neg]
  simp only [ix2_0, ix2_1, e0, e1]
  omega

theorem sub2_put2_rows {a' b' o0 o1 o0' o1' : ℕ} (h0 : o0' + a' ≤ R)
    (hd : o0' + a' ≤ o0 ∨ o0 + a ≤ o0') (X : (⟨2, ![R, N]⟩ : Shape).Idx → α)
    (w : (⟨2, ![a, b]⟩ : Shape).Idx → α) :
    (sub2 o0' o1' (put2 o0 o1 X w) : (⟨2, ![a', b']⟩ : Shape).Idx → α) = sub2 o0' o1' X := by
  funext j
  have hj0 := idx2_lt0 j
  unfold sub2 put2
  have e0 : (fi R (o0' + (j 0).val)).val = o0' + (j 0).val := fi_val (by omega)
  rw [dif_neg]
  simp only [ix2_0, ix2_1, e0]
  omega

/-- The matrix at one place of a stack. -/
def slot (p : ℕ) (X : (⟨3, ![P, R, N]⟩ : Shape).Idx → α) : (⟨2, ![R, N]⟩ : Shape).Idx → α := fun y => X (ix3 (fi P p) (y 0) (y 1))

/-- A stack with one place replaced. -/
def setSlot (p : ℕ) (X : (⟨3, ![P, R, N]⟩ : Shape).Idx → α) (Y : (⟨2, ![R, N]⟩ : Shape).Idx → α) : (⟨3, ![P, R, N]⟩ : Shape).Idx → α :=
  fun z => if (z 0).val = p then Y (ix2 (z 1) (z 2)) else X z

theorem slot_setSlot {p : ℕ} (hp : p < P) (X : (⟨3, ![P, R, N]⟩ : Shape).Idx → α) (Y : (⟨2, ![R, N]⟩ : Shape).Idx → α) :
    slot p (setSlot p X Y) = Y := by
  funext y
  unfold slot setSlot
  exact (if_pos (show (fi P p).val = p from fi_val hp)).trans (congrArg Y (eq_ix2 y).symm)

theorem slot_setSlot_ne {p p' : ℕ} (hp' : p' < P) (h : p' ≠ p) (X : (⟨3, ![P, R, N]⟩ : Shape).Idx → α) (Y : (⟨2, ![R, N]⟩ : Shape).Idx → α) :
    slot p' (setSlot p X Y) = slot p' X := by
  funext y
  unfold slot setSlot
  exact if_neg (show ¬ (fi P p').val = p by rw [fi_val hp']; exact h)

omit [NeZero R] [NeZero N] in
theorem rect2_emb {o0 o1 : ℕ} {off : Fin 2 → ℕ} {h} (ho : off = ![o0, o1]) (j : (⟨2, ![a, b]⟩ : Shape).Idx) :
    (((Rect.unit (s := ⟨2, ![R, N]⟩) off ![a, b] h).emb j) 0).val = o0 + (j 0).val
      ∧ (((Rect.unit (s := ⟨2, ![R, N]⟩) off ![a, b] h).emb j) 1).val = o1 + (j 1).val := by
  subst ho
  constructor
  · rw [Rect.emb_apply]; show o0 + 1 * (j 0).val = _; omega
  · rw [Rect.emb_apply]; show o1 + 1 * (j 1).val = _; omega

theorem load2 {o0 o1 : ℕ} {off : Fin 2 → ℕ} {h} (ho : off = ![o0, o1]) (X : (⟨2, ![R, N]⟩ : Shape).Idx → α) :
    (fun j : (⟨2, ![a, b]⟩ : Shape).Idx => X ((Rect.unit (s := ⟨2, ![R, N]⟩) off ![a, b] h).emb j)) = sub2 o0 o1 X := by
  funext j
  unfold sub2
  obtain ⟨e0, e1⟩ := rect2_emb (h := h) ho j
  rw [fi_eq (n := R) _ e0, fi_eq (n := N) _ e1]
  exact congrArg X (eq_ix2 ((Rect.unit (s := ⟨2, ![R, N]⟩) off ![a, b] h).emb j))

omit [NeZero R] [NeZero N] in
theorem store2 {o0 o1 : ℕ} {off : Fin 2 → ℕ} {h} (ho : off = ![o0, o1]) (X : (⟨2, ![R, N]⟩ : Shape).Idx → α)
    (w : (⟨2, ![a, b]⟩ : Shape).Idx → α) : (Rect.unit (s := ⟨2, ![R, N]⟩) off ![a, b] h).overlay X w = put2 o0 o1 X w := by
  funext y
  unfold put2
  split
  · rename_i hc
    have : y = (Rect.unit (s := ⟨2, ![R, N]⟩) off ![a, b] h).emb (ix2 ⟨(y 0).val - o0, by omega⟩ ⟨(y 1).val - o1, by omega⟩) := by
      obtain ⟨e0, e1⟩ := rect2_emb (R := R) (N := N) (h := h) ho (ix2 ⟨(y 0).val - o0, by omega⟩ ⟨(y 1).val - o1, by omega⟩ : (⟨2, ![a, b]⟩ : Shape).Idx)
      funext d
      match d with
      | ⟨0, _⟩ => refine Fin.ext (Eq.trans ?_ e0.symm); show (y 0).val = o0 + ((y 0).val - o0); omega
      | ⟨1, _⟩ => refine Fin.ext (Eq.trans ?_ e1.symm); show (y 1).val = o1 + ((y 1).val - o1); omega
    conv_lhs => rw [this]
    exact Rect.overlay_emb _ _ _ _
  · rename_i hc
    refine Rect.overlay_of_not_mem _ _ _ fun hm => hc ?_
    rw [← Rect.map_emb_univ, Finset.mem_map] at hm
    obtain ⟨j, -, rfl⟩ := hm
    obtain ⟨e0, e1⟩ := rect2_emb (R := R) (N := N) (h := h) ho j
    have hj0 := idx2_lt0 j
    have hj1 := idx2_lt1 j
    rw [e0, e1]
    omega

theorem slot_emb {p : ℕ} {off : Fin 3 → ℕ} {h} (ho : off = ![p, 0, 0]) (hn) (y : (⟨2, ![R, N]⟩ : Shape).Idx) :
    (Rect.unit (s := ⟨3, ![P, R, N]⟩) off ![1, R, N] h).emb (Shape.reshapeEquiv (s' := ⟨2, ![R, N]⟩) hn y) = ix3 (fi P p) (y 0) (y 1) := by
  subst ho
  have e : (Shape.reshapeEquiv (s := ⟨3, ![1, R, N]⟩) (s' := ⟨2, ![R, N]⟩) hn y) = ix3 (⟨0, Nat.one_pos⟩ : Fin 1) (y 0) (y 1) := by
    conv_lhs => rw [eq_ix2 y]
    exact reshapeEquiv_ix2_1ab _ _ _
  have hp : p + 1 ≤ P := h 0
  funext d
  refine Fin.ext ?_
  rw [Rect.emb_apply]
  have e' : ∀ d, ((Shape.reshapeEquiv (s := ⟨3, ![1, R, N]⟩) (s' := ⟨2, ![R, N]⟩) hn y) d).val = (ix3 (⟨0, Nat.one_pos⟩ : Fin 1) (y 0) (y 1) d).val := fun d => by rw [e]
  match d with
  | ⟨0, _⟩ =>
    show p + 1 * ((Shape.reshapeEquiv (s := ⟨3, ![1, R, N]⟩) (s' := ⟨2, ![R, N]⟩) hn y) 0).val = (fi P p).val
    rw [e' 0, fi_val (by omega)]; simp only [ix3_0]; omega
  | ⟨1, _⟩ =>
    show 0 + 1 * ((Shape.reshapeEquiv (s := ⟨3, ![1, R, N]⟩) (s' := ⟨2, ![R, N]⟩) hn y) 1).val = (y 0).val
    rw [e' 1]; simp only [ix3_1]; omega
  | ⟨2, _⟩ =>
    show 0 + 1 * ((Shape.reshapeEquiv (s := ⟨3, ![1, R, N]⟩) (s' := ⟨2, ![R, N]⟩) hn y) 2).val = (y 1).val
    rw [e' 2]; simp only [ix3_2]; omega

/-- What a store through a rectangle of a slot leaves in the stack. -/
def slotOverlay {sh s' : Shape} {β : Type} (r0 : Rect sh) (hn : s'.numel = r0.shape.numel) (r : Rect s') (X : sh.Idx → β) (w : r.shape.Idx → β) : sh.Idx → β :=
  r0.overlay X (fun i => r.overlay (fun y => X (r0.emb (Shape.reshapeEquiv hn y))) w ((Shape.reshapeEquiv hn).symm i))

theorem loadSlot {p o0 o1 : ℕ} {off : Fin 3 → ℕ} {h} (ho : off = ![p, 0, 0]) (hn) {off' : Fin 2 → ℕ} {h'} (ho' : off' = ![o0, o1])
    (X : (⟨3, ![P, R, N]⟩ : Shape).Idx → α) :
    (fun j : (⟨2, ![a, b]⟩ : Shape).Idx => X ((Rect.unit (s := ⟨3, ![P, R, N]⟩) off ![1, R, N] h).emb (Shape.reshapeEquiv (s' := ⟨2, ![R, N]⟩) hn
      ((Rect.unit (s := ⟨2, ![R, N]⟩) off' ![a, b] h').emb j)))) = sub2 o0 o1 (slot p X) := by
  rw [← load2 (h := h') ho' (slot p X)]
  funext j
  rw [slot_emb ho hn]
  rfl

theorem storeSlot {p o0 o1 : ℕ} {off : Fin 3 → ℕ} {h} (ho : off = ![p, 0, 0]) (hn) {off' : Fin 2 → ℕ} {h'} (ho' : off' = ![o0, o1])
    (X : (⟨3, ![P, R, N]⟩ : Shape).Idx → α) (w : (⟨2, ![a, b]⟩ : Shape).Idx → α) :
    slotOverlay (Rect.unit (s := ⟨3, ![P, R, N]⟩) off ![1, R, N] h) hn (Rect.unit (s := ⟨2, ![R, N]⟩) off' ![a, b] h') X w
      = setSlot p X (put2 o0 o1 (slot p X) w) := by
  have hp : p < P := by subst ho; exact h 0
  funext z
  unfold slotOverlay setSlot
  have hsl : (fun y : (⟨2, ![R, N]⟩ : Shape).Idx => X ((Rect.unit (s := ⟨3, ![P, R, N]⟩) off ![1, R, N] h).emb (Shape.reshapeEquiv (s' := ⟨2, ![R, N]⟩) hn y)))
      = slot p X := by funext y; rw [slot_emb ho hn]; rfl
  rw [hsl, store2 ho']
  split
  · rename_i hz
    have : z = (Rect.unit (s := ⟨3, ![P, R, N]⟩) off ![1, R, N] h).emb (Shape.reshapeEquiv (s' := ⟨2, ![R, N]⟩) hn (ix2 (z 1) (z 2))) := by
      rw [slot_emb ho hn, fi_eq (n := P) (z 0) hz]; exact eq_ix3 z
    conv_lhs => rw [this]
    rw [Rect.overlay_emb, Equiv.symm_apply_apply]
  · rename_i hz
    refine Rect.overlay_of_not_mem _ _ _ fun hm => hz ?_
    rw [← Rect.map_emb_univ, Finset.mem_map] at hm
    obtain ⟨j, -, rfl⟩ := hm
    obtain ⟨y, rfl⟩ := (Shape.reshapeEquiv (s' := ⟨2, ![R, N]⟩) hn).surjective j
    rw [slot_emb ho hn, ix3_0, fi_val hp]

theorem load3 {p : ℕ} {off : Fin 3 → ℕ} {h} (ho : off = ![p, 0, 0]) (X : (⟨3, ![P, R, N]⟩ : Shape).Idx → α) :
    (fun j : (⟨3, ![1, R, N]⟩ : Shape).Idx => X ((Rect.unit (s := ⟨3, ![P, R, N]⟩) off ![1, R, N] h).emb j)) = fun j => slot p X (ix2 (j 1) (j 2)) := by
  funext j
  subst ho
  have hp : p + 1 ≤ P := h 0
  unfold slot
  congr 1
  funext d
  refine Fin.ext ?_
  rw [Rect.emb_apply]
  match d with
  | ⟨0, _⟩ =>
    show p + 1 * (j 0).val = (fi P p).val
    have : (j 0).val < 1 := (j 0).isLt
    rw [fi_val (by omega)]; omega
  | ⟨1, _⟩ => show 0 + 1 * (j 1).val = (j 1).val; omega
  | ⟨2, _⟩ => show 0 + 1 * (j 2).val = (j 2).val; omega

theorem store3 {p o0 o1 : ℕ} {off : Fin 3 → ℕ} {h} (ho : off = ![p, o0, o1]) (X : (⟨3, ![P, R, N]⟩ : Shape).Idx → α)
    (w : (⟨3, ![1, a, b]⟩ : Shape).Idx → α) :
    (Rect.unit (s := ⟨3, ![P, R, N]⟩) off ![1, a, b] h).overlay X w
      = setSlot p X (put2 o0 o1 (slot p X) (fun j : (⟨2, ![a, b]⟩ : Shape).Idx => w (ix3 (⟨0, Nat.one_pos⟩ : Fin 1) (j 0) (j 1)))) := by
  subst ho
  have hp : p + 1 ≤ P := h 0
  have em : ∀ j : (⟨3, ![1, a, b]⟩ : Shape).Idx, ∀ d, (((Rect.unit (s := ⟨3, ![P, R, N]⟩) ![p, o0, o1] ![1, a, b] h).emb j) d).val
      = ![p, o0, o1] d + (j d).val := fun j d => by
    rw [Rect.emb_apply]; show ![p, o0, o1] d + 1 * (j d).val = _; rw [one_mul]
  funext z
  unfold setSlot put2
  by_cases hz : (z 0).val = p
  · rw [if_pos hz]
    split
    · rename_i hc
      replace hc : (o0 ≤ (z 1).val ∧ (z 1).val < o0 + a) ∧ (o1 ≤ (z 2).val ∧ (z 2).val < o1 + b) := hc
      have : z = (Rect.unit (s := ⟨3, ![P, R, N]⟩) ![p, o0, o1] ![1, a, b] h).emb
          (ix3 (⟨0, Nat.one_pos⟩ : Fin 1) ⟨(z 1).val - o0, by omega⟩ ⟨(z 2).val - o1, by omega⟩) := by
        funext d
        refine Fin.ext ?_
        rw [em]
        match d with
        | ⟨0, _⟩ => show (z 0).val = p + 0; omega
        | ⟨1, _⟩ => show (z 1).val = o0 + ((z 1).val - o0); omega
        | ⟨2, _⟩ => show (z 2).val = o1 + ((z 2).val - o1); omega
      conv_lhs => rw [this]
      rw [Rect.overlay_emb]
      rfl
    · rename_i hc
      have hX : slot p X (ix2 (z 1) (z 2)) = X z := by
        unfold slot; rw [fi_eq (n := P) (z 0) hz]; exact congrArg X (eq_ix3 z).symm
      rw [hX]
      refine Rect.overlay_of_not_mem _ _ _ fun hm => hc ?_
      rw [← Rect.map_emb_univ, Finset.mem_map] at hm
      obtain ⟨j, -, rfl⟩ := hm
      have h1 : (j 1).val < a := (j 1).isLt
      have h2 : (j 2).val < b := (j 2).isLt
      show (o0 ≤ (((Rect.unit (s := ⟨3, ![P, R, N]⟩) ![p, o0, o1] ![1, a, b] h).emb j) 1).val ∧
        (((Rect.unit (s := ⟨3, ![P, R, N]⟩) ![p, o0, o1] ![1, a, b] h).emb j) 1).val < o0 + a) ∧
        o1 ≤ (((Rect.unit (s := ⟨3, ![P, R, N]⟩) ![p, o0, o1] ![1, a, b] h).emb j) 2).val ∧
        (((Rect.unit (s := ⟨3, ![P, R, N]⟩) ![p, o0, o1] ![1, a, b] h).emb j) 2).val < o1 + b
      rw [em, em]
      show (o0 ≤ o0 + _ ∧ o0 + _ < _) ∧ o1 ≤ o1 + _ ∧ o1 + _ < _
      omega
  · rw [if_neg hz]
    refine Rect.overlay_of_not_mem _ _ _ fun hm => hz ?_
    rw [← Rect.map_emb_univ, Finset.mem_map] at hm
    obtain ⟨j, -, rfl⟩ := hm
    rw [em]
    have : (j 0).val < 1 := (j 0).isLt
    show p + (j 0).val = p
    omega

end Cert.Blocks

end
-- ==== Proof.K.Rules.lean ====
/- Rules for the body's loads and stores on the contents of its fourteen buffers: a program logic whose assertions are
   plain propositions about those contents. -/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import proofs.«01_k».proof.Proof.Blocks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Blocks Idealize.ShloMosaic.ValueIdx

variable {F : FTy → Type} [FloatOps F]

local notation "𝕄" => MT nD τ sig Unit (Elt F) ℕ (UR sig nD τ) ℕ

/-- The body's programs. -/
abbrev Pg (F : FTy → Type) [FloatOps F] (α : Type) := Prog (TpuEff nD τ sig (Elt F) Λ₀ .tc) α

/-- Running a body program on core `c` to a postcondition. -/
abbrev run (c : Dev nD) {α : Type} (p : Pg F α) (Q : α → sProp 𝕄) : sProp 𝕄 :=
  wp frame (wpE (defs₀ (F := F)) Variants.none c none) Set.univ p Q

/-- The fourteen buffers the body is handed. -/
structure Args where
  a1 : Memref sig .tc .vmem S256x1152 .bf16
  w1 : a1.IsWhole
  a2 : Memref sig .tc .vmem S256x6784 .bf16
  w2 : a2.IsWhole
  a3 : Memref sig .tc .vmem S1152x6784 .fp8e4m3
  w3 : a3.IsWhole
  a4 : Memref sig .tc .vmem S1x6784 .f32
  w4 : a4.IsWhole
  a5 : Memref sig .tc .vmem S1x6784 .f32
  w5 : a5.IsWhole
  a6 : Memref sig .tc .vmem S1x6784 .f32
  w6 : a6.IsWhole
  a7 : Memref sig .tc .vmem S256x6784 .bf16
  w7 : a7.IsWhole
  a8 : Memref sig .tc .vmem S256x1152 .fp8e4m3
  w8 : a8.IsWhole
  a9 : Memref sig .tc .vmem S256x1 .f32
  w9 : a9.IsWhole
  a10 : Memref sig .tc .vmem S256x6784 .fp8e4m3
  w10 : a10.IsWhole
  a11 : Memref sig .tc .vmem S256x1 .f32
  w11 : a11.IsWhole
  a12 : Memref sig .tc .vmem S2x256x1152 .fp8e4m3
  w12 : a12.IsWhole
  a13 : Memref sig .tc .vmem S3x256x1 .f32
  w13 : a13.IsWhole
  a14 : Memref sig .tc .vmem S2x256x6784 .f32
  w14 : a14.IsWhole

/-- Their contents. -/
structure St (F : FTy → Type) where
  x1 : Vec F S256x1152 .bf16
  x2 : Vec F S256x6784 .bf16
  x3 : Vec F S1152x6784 .fp8e4m3
  x4 : Vec F S1x6784 .f32
  x5 : Vec F S1x6784 .f32
  x6 : Vec F S1x6784 .f32
  x7 : Vec F S256x6784 .bf16
  x8 : Vec F S256x1152 .fp8e4m3
  x9 : Vec F S256x1 .f32
  x10 : Vec F S256x6784 .fp8e4m3
  x11 : Vec F S256x1 .f32
  x12 : Vec F S2x256x1152 .fp8e4m3
  x13 : Vec F S3x256x1 .f32
  x14 : Vec F S2x256x6784 .f32

/-- The buffers hold the contents. -/
def holds (c : Dev nD) (A : Args) (s : St F) : sProp 𝕄 :=
  iprop(owns (c : Thread nD τ) A.a1 fullShare s.x1 ∗ owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13 ∗ owns (c : Thread nD τ) A.a14 fullShare s.x14)

/-- The program, from the contents `s`, ends at a result and contents that satisfy `Q`. -/
def Ev (c : Dev nD) (A : Args) {α : Type} (p : Pg F α) (s : St F) (Q : α → St F → Prop) : Prop :=
  holds c A s ⊢ run c p (fun a => iprop(∃ s', ⌜Q a s'⌝ ∗ holds c A s'))

section Rules

variable {c : Dev nD} {A : Args} {α β : Type}

theorem Ev.ret {a : α} {s : St F} {Q : α → St F → Prop} (h : Q a s) : Ev c A (.ret a) s Q := by
  unfold Ev run
  rw [wp_ret]
  iintro H
  imodintro
  iexists s
  isplitr
  · ipureintro; exact h
  iexact H

theorem Ev.pure {a : α} {s : St F} {Q : α → St F → Prop} (h : Q a s) : Ev c A (Pure.pure a) s Q := Ev.ret h

theorem Ev.mono {p : Pg F α} {s : St F} {Q Q' : α → St F → Prop} (h : Ev c A p s Q) (hQ : ∀ a s', Q a s' → Q' a s') : Ev c A p s Q' := by
  unfold Ev run at h ⊢
  refine h.trans (wp_mono _ _ _ fun a => ?_)
  iintro ⟨%s', %h', H⟩
  iexists s'
  isplitr
  · ipureintro; exact hQ a s' h'
  iexact H

/-- Lifting an entailment out of the existential. -/
theorem Ev.elim {p : Pg F α} {P : St F → Prop} {Q : α → St F → Prop} (h : ∀ s, P s → Ev c A p s Q) :
    iprop(∃ s', ⌜P s'⌝ ∗ holds c A s') ⊢ run c p (fun a => iprop(∃ s', ⌜Q a s'⌝ ∗ holds c A s')) := by
  iintro ⟨%s', %h', H⟩
  have hE := h s' h'
  unfold Ev at hE
  iapply hE
  iexact H

theorem Ev.bind {p : Pg F α} {k : α → Pg F β} {s : St F} {Q : α → St F → Prop} {R : β → St F → Prop}
    (hp : Ev c A p s Q) (hk : ∀ a s', Q a s' → Ev c A (k a) s' R) : Ev c A (p >>= k) s R := by
  unfold Ev run at hp ⊢
  rw [wp_bind]
  exact hp.trans (wp_mono _ _ _ fun a => Ev.elim (P := Q a) (hk a))

/-- A counted loop by an invariant on the contents and the carried value. -/
theorem Ev.for {σ : Type} {w : ℕ} (l : Scf.Loop w) (hok : l.OK) (init : σ) (body : Fin l.trips → σ → Pg F σ)
    (I : ℕ → σ → St F → Prop) {s : St F} (h0 : I 0 init s)
    (hb : ∀ (k : Fin l.trips) (acc : σ) (s' : St F), I k acc s' → Ev c A (body k acc) s' (I (k.val + 1))) :
    Ev c A (Scf.Loop.for l hok init body) s (I l.trips) := by
  unfold Ev run
  refine BIBase.Entails.trans ?_ (Scf.wp_for _ _ _ l.lb l.ub l.st hok init body (fun k acc => iprop(∃ s', ⌜I k acc s'⌝ ∗ holds c A s'))
    (fun k acc => Ev.elim (P := I k acc) (hb k acc)))
  iintro H
  isplitl [H]
  · iexists s
    isplitr
    · ipureintro; exact h0
    iexact H
  iintro %acc H
  iexact H

/-- What a load through a rectangle of a buffer's slot reads. -/
theorem read_slot {sp : Space} {sh : Shape} {e : EltTy} (m : Memref sig .tc sp sh e) (r0 : Rect sh) (hr : ∀ a, r0.stride a = 1) (s' : Shape)
    (hq : r0.shape.Squeezes s') (r : Rect s') (f : m.view.ty.Contents (Elt F)) :
    ((m.slice r0 hr).squeeze s' hq).view.readAt (Elt F) r.toLoadRect f
      = fun j => m.view.read (Elt F) f (r0.emb (Shape.reshapeEquiv hq.numel_eq (r.emb j))) := rfl

theorem read_overlay {sp : Space} {sh : Shape} {e : EltTy} (m : Memref sig .tc sp sh e) (r : Rect sh)
    (f : m.view.ty.Contents (Elt F)) (w : r.shape.Idx → Elt F e) :
    m.view.read (Elt F) ((m.access r).write (Elt F) f w Finset.univ) = r.overlay (m.view.read (Elt F) f) w := by
  funext y
  by_cases hy : y ∈ r.set
  · rw [← Rect.map_emb_univ, Finset.mem_map] at hy
    obtain ⟨x, -, rfl⟩ := hy
    rw [Rect.overlay_emb]
    exact View.read_slice_write_emb r f w (Finset.mem_univ x)
  · rw [Rect.overlay_of_not_mem _ _ _ hy]
    exact View.read_slice_write_of_not_mem r f w Finset.univ (by rw [Rect.map_emb_univ]; exact hy)

theorem read_slotOverlay {sp : Space} {sh : Shape} {e : EltTy} (m : Memref sig .tc sp sh e) (r0 : Rect sh) (hr : ∀ a, r0.stride a = 1) (s' : Shape)
    (hq : r0.shape.Squeezes s') (r : Rect s') (f : m.view.ty.Contents (Elt F)) (w : r.shape.Idx → Elt F e) :
    m.view.read (Elt F) ((((m.slice r0 hr).squeeze s' hq).access r).write (Elt F) f w Finset.univ)
      = slotOverlay r0 hq.numel_eq r (m.view.read (Elt F) f) w := by
  have key : ∀ z, (m.slice r0 hr).view.read (Elt F) ((((m.slice r0 hr).squeeze s' hq).access r).write (Elt F) f w Finset.univ) (Shape.reshapeEquiv hq.numel_eq z)
      = r.overlay (fun y => m.view.read (Elt F) f (r0.emb (Shape.reshapeEquiv hq.numel_eq y))) w z := fun z =>
    congrFun (read_overlay ((m.slice r0 hr).squeeze s' hq) r f w) z
  funext y
  unfold slotOverlay
  by_cases hy : y ∈ r0.set
  · rw [← Rect.map_emb_univ, Finset.mem_map] at hy
    obtain ⟨x, -, rfl⟩ := hy
    rw [Rect.overlay_emb]
    obtain ⟨z, rfl⟩ := (Shape.reshapeEquiv hq.numel_eq).surjective x
    rw [Equiv.symm_apply_apply]
    exact key z
  · rw [Rect.overlay_of_not_mem _ _ _ hy]
    rw [View.read_apply, View.read_apply, View.write_of_not_mem]
    intro hm
    have h1 : m.view.emb y ∈ (m.view.slice r0).set := by
      have := (View.setOn_subset_set _ _ hm : _)
      have h2 := View.set_slice_subset _ _ this
      exact (View.set_reshape (v := m.view.slice r0) hq.numel_eq) ▸ h2
    rw [View.set_slice] at h1
    exact hy ((Finset.mem_map' m.view.emb).mp h1)

/-- A buffer taken out of the fourteen, to be put back at any contents. -/
def Foc (c : Dev nD) (A : Args) (s : St F) {sh : Shape} {e : EltTy} (m : Memref sig .tc .vmem sh e) (X : sh.Idx → Elt F e)
    (upd : (sh.Idx → Elt F e) → St F) : Prop :=
  holds c A s ⊢ iprop(owns (c : Thread nD τ) m fullShare X ∗ (∀ Y, owns (c : Thread nD τ) m fullShare Y -∗ holds c A (upd Y)))

section Mem
variable {sh : Shape} {e : EltTy} {m : Memref sig .tc .vmem sh e} {X : sh.Idx → Elt F e} {upd : (sh.Idx → Elt F e) → St F} {s : St F}
  {Q : α → St F → Prop}

theorem Ev.load (hf : Foc c A s m X upd) (hu : upd X = s) {r : Rect sh} {hl : m.view.LoadsAt r.toLoadRect}
    {k : (r.shape.Idx → Elt F e) → Pg F α} (h : Ev c A (k fun j => X (r.emb j)) s Q) :
    Ev c A (.op (.load m r.toLoadRect hl) k) s Q := by
  replace h : Ev c A (k fun j => X (r.emb j)) (upd X) Q := by rw [hu]; exact h
  unfold Ev at h ⊢
  unfold Foc at hf
  refine hf.trans ?_
  unfold owns
  iintro ⟨⟨%f, %hX, H⟩, HK⟩
  subst hX
  iapply (wp_load Variants.none (c : Thread nD τ) none Set.univ (m := m) (View.setOn_subset_set _ _)) $$ H
  iintro H
  iapply h
  iapply HK
  iexists f
  isplitr
  · ipureintro; rfl
  iexact H

theorem Ev.store (hf : Foc c A s m X upd) {r : Rect sh} {w : r.shape.Idx → Elt F e} {hx : (m.access r).Stores Finset.univ}
    {hm : (Finset.univ : Finset r.shape.Idx) = Finset.univ ∨ ∀ a, r.stride a = 1}
    {k : PUnit → Pg F α} (h : Ev c A (k ⟨⟩) (upd (r.overlay X w)) Q) :
    Ev c A (.op (.store m r w Finset.univ hx hm) k) s Q := by
  unfold Ev at h ⊢
  unfold Foc at hf
  refine hf.trans ?_
  unfold owns
  iintro ⟨⟨%f, %hX, H⟩, HK⟩
  subst hX
  iapply (wp_store Variants.none (c : Thread nD τ) none Set.univ (m := m) (r := r) (Mk := Finset.univ) (S := m.view.set)
    ((View.setOn_subset_set _ _).trans (View.set_slice_subset _ _))) $$ H
  iintro H
  iapply h
  iapply HK
  iexists _
  isplitr [H]
  swap
  · iexact H
  ipureintro
  exact read_overlay m r f w

theorem Ev.load_slot (hf : Foc c A s m X upd) (hu : upd X = s) {r0 : Rect sh} {hr : ∀ a, r0.stride a = 1} {s' : Shape}
    {hq : r0.shape.Squeezes s'} {r : Rect s'} {hl : ((m.slice r0 hr).squeeze s' hq).view.LoadsAt r.toLoadRect}
    {k : (r.shape.Idx → Elt F e) → Pg F α} (h : Ev c A (k fun j => X (r0.emb (Shape.reshapeEquiv hq.numel_eq (r.emb j)))) s Q) :
    Ev c A (.op (.load ((m.slice r0 hr).squeeze s' hq) r.toLoadRect hl) k) s Q := by
  replace h : Ev c A (k fun j => X (r0.emb (Shape.reshapeEquiv hq.numel_eq (r.emb j)))) (upd X) Q := by rw [hu]; exact h
  unfold Ev at h ⊢
  unfold Foc at hf
  refine hf.trans ?_
  unfold owns
  iintro ⟨⟨%f, %hX, H⟩, HK⟩
  subst hX
  iapply (wp_load Variants.none (c : Thread nD τ) none Set.univ (m := (m.slice r0 hr).squeeze s' hq) (S := m.view.set)
    ((View.setOn_subset_set _ _).trans (View.set_reshape_subset _ _ (View.set_slice_subset _ _)))) $$ H
  iintro H
  iapply h
  iapply HK
  iexists f
  isplitr
  · ipureintro; rfl
  iexact H

theorem Ev.store_slot (hf : Foc c A s m X upd) {r0 : Rect sh} {hr : ∀ a, r0.stride a = 1} {s' : Shape}
    {hq : r0.shape.Squeezes s'} {r : Rect s'} {w : r.shape.Idx → Elt F e}
    {hx : (((m.slice r0 hr).squeeze s' hq).access r).Stores Finset.univ}
    {hm : (Finset.univ : Finset r.shape.Idx) = Finset.univ ∨ ∀ a, r.stride a = 1}
    {k : PUnit → Pg F α} (h : Ev c A (k ⟨⟩) (upd (slotOverlay r0 hq.numel_eq r X w)) Q) :
    Ev c A (.op (.store ((m.slice r0 hr).squeeze s' hq) r w Finset.univ hx hm) k) s Q := by
  unfold Ev at h ⊢
  unfold Foc at hf
  refine hf.trans ?_
  unfold owns
  iintro ⟨⟨%f, %hX, H⟩, HK⟩
  subst hX
  iapply (wp_store Variants.none (c : Thread nD τ) none Set.univ (m := (m.slice r0 hr).squeeze s' hq) (r := r) (Mk := Finset.univ) (S := m.view.set)
    ((View.setOn_subset_set _ _).trans ((View.set_slice_subset _ _).trans
      (View.set_reshape_subset _ _ (View.set_slice_subset _ _))))) $$ H
  iintro H
  iapply h
  iapply HK
  iexists _
  isplitr [H]
  swap
  · iexact H
  ipureintro
  exact read_slotOverlay m r0 hr s' hq r f w

end Mem

section Blk
variable {P R N a b : ℕ} [NeZero P] [NeZero R] [NeZero N] {e : EltTy} {s : St F} {Q : α → St F → Prop}

theorem Ev.load2 {m : Memref sig .tc .vmem ⟨2, ![R, N]⟩ e} {X : (⟨2, ![R, N]⟩ : Shape).Idx → Elt F e} {upd : ((⟨2, ![R, N]⟩ : Shape).Idx → Elt F e) → St F}
    (hf : Foc c A s m X upd) (hu : upd X = s) {off : Fin 2 → ℕ} {o0 o1 : ℕ} (ho : off = ![o0, o1]) {inb} {hl}
    {k : ((⟨2, ![a, b]⟩ : Shape).Idx → Elt F e) → Pg F α} (h : Ev c A (k (sub2 o0 o1 X)) s Q) :
    Ev c A (Prog.lift (.load m (Rect.unit (s := ⟨2, ![R, N]⟩) off ![a, b] inb).toLoadRect hl) >>= k) s Q :=
  Ev.load hf hu (r := Rect.unit (s := ⟨2, ![R, N]⟩) off ![a, b] inb) (k := k) (by
    have e := Cert.Blocks.load2 (h := inb) ho X
    rw [← e] at h
    exact h)

theorem Ev.store2 {m : Memref sig .tc .vmem ⟨2, ![R, N]⟩ e} {X : (⟨2, ![R, N]⟩ : Shape).Idx → Elt F e} {upd : ((⟨2, ![R, N]⟩ : Shape).Idx → Elt F e) → St F}
    (hf : Foc c A s m X upd) {off : Fin 2 → ℕ} {o0 o1 : ℕ} (ho : off = ![o0, o1]) {inb} {hx} {hm} {w : (⟨2, ![a, b]⟩ : Shape).Idx → Elt F e}
    {k : PUnit → Pg F α} (h : Ev c A (k ⟨⟩) (upd (put2 o0 o1 X w)) Q) :
    Ev c A (Prog.lift (.store m (Rect.unit (s := ⟨2, ![R, N]⟩) off ![a, b] inb) w Finset.univ hx hm) >>= k) s Q :=
  Ev.store hf (r := Rect.unit (s := ⟨2, ![R, N]⟩) off ![a, b] inb) (k := k) (by
    have e := Cert.Blocks.store2 (h := inb) ho X w
    rw [← e] at h
    exact h)

theorem Ev.loadSlot {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) (hu : upd X = s) {off0 : Fin 3 → ℕ} {p : ℕ} (hp : off0 = ![p, 0, 0]) {off : Fin 2 → ℕ} {o0 o1 : ℕ} (ho : off = ![o0, o1])
    {inb0} {hr} {hq} {inb} {hl}
    {k : ((⟨2, ![a, b]⟩ : Shape).Idx → Elt F e) → Pg F α} (h : Ev c A (k (sub2 o0 o1 (slot p X))) s Q) :
    Ev c A (Prog.lift (.load ((m.slice (Rect.unit (s := ⟨3, ![P, R, N]⟩) off0 ![1, R, N] inb0) hr).squeeze ⟨2, ![R, N]⟩ hq)
      (Rect.unit (s := ⟨2, ![R, N]⟩) off ![a, b] inb).toLoadRect hl) >>= k) s Q :=
  Ev.load_slot hf hu (r0 := Rect.unit (s := ⟨3, ![P, R, N]⟩) off0 ![1, R, N] inb0) (hr := hr) (hq := hq) (r := Rect.unit (s := ⟨2, ![R, N]⟩) off ![a, b] inb) (k := k) (by
    have e := Cert.Blocks.loadSlot (h := inb0) hp hq.numel_eq (h' := inb) ho X
    rw [← e] at h
    exact h)

theorem Ev.storeSlot {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) {off0 : Fin 3 → ℕ} {p : ℕ} (hp : off0 = ![p, 0, 0]) {off : Fin 2 → ℕ} {o0 o1 : ℕ} (ho : off = ![o0, o1])
    {inb0} {hr} {hq} {inb} {hx} {hm} {w : (⟨2, ![a, b]⟩ : Shape).Idx → Elt F e}
    {k : PUnit → Pg F α} (h : Ev c A (k ⟨⟩) (upd (setSlot p X (put2 o0 o1 (slot p X) w))) Q) :
    Ev c A (Prog.lift (.store ((m.slice (Rect.unit (s := ⟨3, ![P, R, N]⟩) off0 ![1, R, N] inb0) hr).squeeze ⟨2, ![R, N]⟩ hq)
      (Rect.unit (s := ⟨2, ![R, N]⟩) off ![a, b] inb) w Finset.univ hx hm) >>= k) s Q :=
  Ev.store_slot hf (r0 := Rect.unit (s := ⟨3, ![P, R, N]⟩) off0 ![1, R, N] inb0) (hr := hr) (hq := hq) (r := Rect.unit (s := ⟨2, ![R, N]⟩) off ![a, b] inb) (k := k) (by
    have e := Cert.Blocks.storeSlot (h := inb0) hp hq.numel_eq (h' := inb) ho X w
    rw [← e] at h
    exact h)

theorem Ev.load3 {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) (hu : upd X = s) {off : Fin 3 → ℕ} {p : ℕ} (ho : off = ![p, 0, 0]) {inb} {hl}
    {k : ((⟨3, ![1, R, N]⟩ : Shape).Idx → Elt F e) → Pg F α} (h : Ev c A (k (fun j => slot p X (ix2 (j 1) (j 2)))) s Q) :
    Ev c A (Prog.lift (.load m (Rect.unit (s := ⟨3, ![P, R, N]⟩) off ![1, R, N] inb).toLoadRect hl) >>= k) s Q :=
  Ev.load hf hu (r := Rect.unit (s := ⟨3, ![P, R, N]⟩) off ![1, R, N] inb) (k := k) (by
    have e := Cert.Blocks.load3 (h := inb) ho X
    rw [← e] at h
    exact h)

theorem Ev.store3 {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) {off : Fin 3 → ℕ} {p o0 o1 : ℕ} (ho : off = ![p, o0, o1]) {inb} {hx} {hm} {w : (⟨3, ![1, a, b]⟩ : Shape).Idx → Elt F e}
    {k : PUnit → Pg F α}
    (h : Ev c A (k ⟨⟩) (upd (setSlot p X (put2 o0 o1 (slot p X) (fun j : (⟨2, ![a, b]⟩ : Shape).Idx => w (ix3 (⟨0, Nat.one_pos⟩ : Fin 1) (j 0) (j 1)))))) Q) :
    Ev c A (Prog.lift (.store m (Rect.unit (s := ⟨3, ![P, R, N]⟩) off ![1, a, b] inb) w Finset.univ hx hm) >>= k) s Q :=
  Ev.store hf (r := Rect.unit (s := ⟨3, ![P, R, N]⟩) off ![1, a, b] inb) (k := k) (by
    have e := Cert.Blocks.store3 (h := inb) ho X w
    rw [← e] at h
    exact h)

end Blk

theorem foc1 (s : St F) : Foc c A s A.a1 s.x1 (fun Y => { s with x1 := Y }) := by
  unfold Foc holds
  iintro ⟨H1, H2, H3, H4, H5, H6, H7, H8, H9, H10, H11, H12, H13, H14⟩
  isplitl [H1]; · iexact H1
  iintro %Y H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc2 (s : St F) : Foc c A s A.a2 s.x2 (fun Y => { s with x2 := Y }) := by
  unfold Foc holds
  iintro ⟨H1, H2, H3, H4, H5, H6, H7, H8, H9, H10, H11, H12, H13, H14⟩
  isplitl [H2]; · iexact H2
  iintro %Y H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc3 (s : St F) : Foc c A s A.a3 s.x3 (fun Y => { s with x3 := Y }) := by
  unfold Foc holds
  iintro ⟨H1, H2, H3, H4, H5, H6, H7, H8, H9, H10, H11, H12, H13, H14⟩
  isplitl [H3]; · iexact H3
  iintro %Y H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc4 (s : St F) : Foc c A s A.a4 s.x4 (fun Y => { s with x4 := Y }) := by
  unfold Foc holds
  iintro ⟨H1, H2, H3, H4, H5, H6, H7, H8, H9, H10, H11, H12, H13, H14⟩
  isplitl [H4]; · iexact H4
  iintro %Y H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc5 (s : St F) : Foc c A s A.a5 s.x5 (fun Y => { s with x5 := Y }) := by
  unfold Foc holds
  iintro ⟨H1, H2, H3, H4, H5, H6, H7, H8, H9, H10, H11, H12, H13, H14⟩
  isplitl [H5]; · iexact H5
  iintro %Y H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc6 (s : St F) : Foc c A s A.a6 s.x6 (fun Y => { s with x6 := Y }) := by
  unfold Foc holds
  iintro ⟨H1, H2, H3, H4, H5, H6, H7, H8, H9, H10, H11, H12, H13, H14⟩
  isplitl [H6]; · iexact H6
  iintro %Y H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc7 (s : St F) : Foc c A s A.a7 s.x7 (fun Y => { s with x7 := Y }) := by
  unfold Foc holds
  iintro ⟨H1, H2, H3, H4, H5, H6, H7, H8, H9, H10, H11, H12, H13, H14⟩
  isplitl [H7]; · iexact H7
  iintro %Y H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc8 (s : St F) : Foc c A s A.a8 s.x8 (fun Y => { s with x8 := Y }) := by
  unfold Foc holds
  iintro ⟨H1, H2, H3, H4, H5, H6, H7, H8, H9, H10, H11, H12, H13, H14⟩
  isplitl [H8]; · iexact H8
  iintro %Y H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc9 (s : St F) : Foc c A s A.a9 s.x9 (fun Y => { s with x9 := Y }) := by
  unfold Foc holds
  iintro ⟨H1, H2, H3, H4, H5, H6, H7, H8, H9, H10, H11, H12, H13, H14⟩
  isplitl [H9]; · iexact H9
  iintro %Y H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc10 (s : St F) : Foc c A s A.a10 s.x10 (fun Y => { s with x10 := Y }) := by
  unfold Foc holds
  iintro ⟨H1, H2, H3, H4, H5, H6, H7, H8, H9, H10, H11, H12, H13, H14⟩
  isplitl [H10]; · iexact H10
  iintro %Y H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc11 (s : St F) : Foc c A s A.a11 s.x11 (fun Y => { s with x11 := Y }) := by
  unfold Foc holds
  iintro ⟨H1, H2, H3, H4, H5, H6, H7, H8, H9, H10, H11, H12, H13, H14⟩
  isplitl [H11]; · iexact H11
  iintro %Y H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc12 (s : St F) : Foc c A s A.a12 s.x12 (fun Y => { s with x12 := Y }) := by
  unfold Foc holds
  iintro ⟨H1, H2, H3, H4, H5, H6, H7, H8, H9, H10, H11, H12, H13, H14⟩
  isplitl [H12]; · iexact H12
  iintro %Y H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc13 (s : St F) : Foc c A s A.a13 s.x13 (fun Y => { s with x13 := Y }) := by
  unfold Foc holds
  iintro ⟨H1, H2, H3, H4, H5, H6, H7, H8, H9, H10, H11, H12, H13, H14⟩
  isplitl [H13]; · iexact H13
  iintro %Y H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc14 (s : St F) : Foc c A s A.a14 s.x14 (fun Y => { s with x14 := Y }) := by
  unfold Foc holds
  iintro ⟨H1, H2, H3, H4, H5, H6, H7, H8, H9, H10, H11, H12, H13, H14⟩
  isplitl [H14]; · iexact H14
  iintro %Y H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Rules

end Cert.Kernel.Hand

end
-- ==== Proof.K.Quant.lean ====
/- The body's quantising loops (the last part of the body), run on the contents of its buffers. -/
module

public import proofs.«01_k».proof.Proof.K.Rules
public import Idealize.ShloMosaic.Lib.ValueLayout
public import Idealize.ShloMosaic.Lib.ValueLayoutCasts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- The block of 32 rows and 128 columns at block row `g`, block column `k`. -/
abbrev B {N : ℕ} [NeZero N] {β : Type} (g k : ℕ) (X : (⟨2, ![256, N]⟩ : Shape).Idx → β) : S32x128.Idx → β := sub2 (32 * g) (128 * k) X
/-- The 32 rows at block row `g` of one column. -/
abbrev R1 {β : Type} (g : ℕ) (X : S256x1.Idx → β) : S32x1.Idx → β := sub2 (32 * g) 0 X
/-- The 128 columns at block column `k` of one row. -/
abbrev C1 {β : Type} (k : ℕ) (X : S1x6784.Idx → β) : S1x128.Idx → β := sub2 0 (128 * k) X

/-- The stack place a step writes. -/
abbrev cur (i : grid0.Coords) : ℕ := (i 0).val % 2
/-- The stack place the step before wrote. -/
abbrev prv (i : grid0.Coords) : ℕ := 1 - (i 0).val % 2

theorem pay4_eq (v362 : FVec F S32x1 .f32) (v379 : Vec F S32x128 .bf16) :
    (fun j : S32x128.Idx => k0_pay4 v362 v379 (ix3 (⟨0, Nat.one_pos⟩ : Fin 1) (j 0) (j 1))) = k0_pay3 v362 v379 := by
  funext j
  unfold k0_pay4
  refine (shapeCast_ab_1ab_apply (a := 32) (b := 128) _ _ (⟨0, Nat.one_pos⟩ : Fin 1) (j 0) (j 1)).trans ?_
  rw [shapeCast_self]
  exact congrArg (k0_pay3 v362 v379) (eq_ix2 j).symm

/-- What the running maximum over the first columns of a row block is. -/
def amax6 (X1 : Vec F S256x1152 .bf16) (g : ℕ) : ℕ → FVec F S32x128 .bf16
  | 0 => k0_pay25 (B g 0 X1)
  | k + 1 => k0_pay26 (amax6 X1 g k) (B g (k + 1) X1)

/-- The scales of a row block, and the factors its codes are taken with. -/
def xUp (X1 : Vec F S256x1152 .bf16) (g : ℕ) : FVec F S32x1 .f32 := k0_pay30 (k0_pay27 (amax6 X1 g 8)) (k0_pay28 (amax6 X1 g 8))
def xDown (X1 : Vec F S256x1152 .bf16) (g : ℕ) : FVec F S32x1 .f32 := k0_pay31 (k0_pay27 (amax6 X1 g 8)) (k0_pay28 (amax6 X1 g 8))

variable {c : Dev nD} {A : Args} {i : grid0.Coords}

theorem ev_t7 (g : Fin k0_t5_loop.trips) (v362 : FVec F S32x1 .f32) (s : St F) :
    Ev c A (Scf.Loop.for k0_t7_loop k0_t7_ok ⟨⟩ (k0_t7_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g v362)) s (fun _ s' =>
      ∃ X8 X12, s' = { s with x8 := X8, x12 := X12 }
        ∧ (∀ k < 9, B g k X8 = k0_pay3 v362 (B g k s.x1)) ∧ (∀ k < 9, B g k (slot (cur i) X12) = k0_pay3 v362 (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12) := by
  have hg : g.val < 8 := g.isLt
  have hc : cur i < 2 := Nat.mod_lt _ (by decide)
  have hp : prv i < 2 := by show 1 - (i 0).val % 2 < 2; omega
  have hcp : prv i ≠ cur i := by show 1 - (i 0).val % 2 ≠ (i 0).val % 2; omega
  refine Ev.mono (Ev.for _ _ _ _ (fun n _ s' =>
      ∃ X8 X12, s' = { s with x8 := X8, x12 := X12 }
        ∧ (∀ k < n, B g k X8 = k0_pay3 v362 (B g k s.x1)) ∧ (∀ k < n, B g k (slot (cur i) X12) = k0_pay3 v362 (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12) ?_ ?_) ?_
  · exact ⟨s.x8, s.x12, rfl, by omega, by omega, fun _ _ _ _ _ => rfl, fun _ _ _ _ _ => rfl, rfl⟩
  · rintro n _ s' ⟨X8, X12, rfl, h1, h2, h3, h4, h5⟩
    have hn : n.val < 9 := n.isLt
    unfold k0_t7_body
    refine Ev.load2 (foc1 _) rfl (k0_off19_eq g n) ?_
    refine Ev.load2 (foc8 _) rfl (k0_off19_eq g n) ?_
    refine Ev.store2 (foc8 _) (k0_off19_eq g n) ?_
    refine Ev.loadSlot (foc12 _) rfl (k0_off20_eq i) (k0_off19_eq g n) ?_
    refine Ev.store3 (foc12 _) (k0_off21_eq i g n) ?_
    rw [pay4_eq]
    refine Ev.pure ⟨_, _, rfl, ?_, ?_, ?_, ?_, ?_⟩
    · intro k hk
      by_cases e : k = n.val
      · subst e; exact sub2_put2 (by omega) (by omega) _ _
      · exact (sub2_put2_ne (by omega) (by omega) (by omega) _ _).trans (h1 k (by omega))
    · intro k hk
      dsimp only
      rw [slot_setSlot hc]
      by_cases e : k = n.val
      · subst e; exact sub2_put2 (by omega) (by omega) _ _
      · exact (sub2_put2_ne (by omega) (by omega) (by omega) _ _).trans (h2 k (by omega))
    · intro g' hg' hne k hk
      exact (sub2_put2_ne (by omega) (by omega) (by omega) _ _).trans (h3 g' hg' hne k hk)
    · intro g' hg' hne k hk
      dsimp only
      rw [slot_setSlot hc]
      exact (sub2_put2_ne (by omega) (by omega) (by omega) _ _).trans (h4 g' hg' hne k hk)
    · exact (slot_setSlot_ne hp hcp _ _).trans h5
  · rintro _ s' h
    exact h

theorem ev_t6 (g : Fin k0_t5_loop.trips) (c0 c1 : BitVec 32) (s : St F) :
    Ev c A (Scf.Loop.for k0_t6_loop k0_t6_ok (k0_pay25 (B g 0 s.x1)) (k0_t6_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g)) s (fun a s' => a = amax6 s.x1 g 8 ∧ s' = s) := by
  refine Ev.for _ _ _ _ (fun n a s' => a = amax6 s.x1 g n ∧ s' = s) ⟨rfl, rfl⟩ ?_
  rintro n _ s' ⟨rfl, rfl⟩
  unfold k0_t6_body
  refine Ev.load2 (foc1 _) rfl (k0_off16_eq g n) ?_
  exact Ev.pure ⟨rfl, rfl⟩

theorem ev_part4 (g : Fin k0_t5_loop.trips) (c0 c1 : BitVec 32) (s : St F) :
    Ev c A (k0_part4 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g) s (fun a s' => a.2.1 = k0_pay27 (amax6 s.x1 g 8) ∧ a.2.2 = k0_pay28 (amax6 s.x1 g 8) ∧ s' = s) := by
  rw [k0_part4_eq_skeleton]
  unfold k0_part4_skel
  refine Ev.load2 (foc1 _) rfl (k0_off15_eq g) ?_
  refine Ev.bind (ev_t6 g c0 c1 s) ?_
  rintro a s' ⟨rfl, rfl⟩
  exact Ev.pure ⟨rfl, rfl, rfl⟩

/-- One trip of the quantiser's row loop. -/
theorem ev_t5_body (g : Fin k0_t5_loop.trips) (s : St F) :
    Ev c A (k0_t5_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g ⟨⟩) s (fun _ s' =>
      ∃ X8 X9 X12 X13, s' = { s with x8 := X8, x9 := X9, x12 := X12, x13 := X13 }
        ∧ (∀ k < 9, B g k X8 = k0_pay3 (xDown s.x1 g) (B g k s.x1)) ∧ (∀ k < 9, B g k (slot (cur i) X12) = k0_pay3 (xDown s.x1 g) (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12
        ∧ R1 g X9 = xUp s.x1 g ∧ R1 g (slot ((i 0).val % 3) X13) = xUp s.x1 g
        ∧ (∀ g' < 8, g' ≠ g.val → R1 g' X9 = R1 g' s.x9)
        ∧ (∀ g' < 8, g' ≠ g.val → R1 g' (slot ((i 0).val % 3) X13) = R1 g' (slot ((i 0).val % 3) s.x13))
        ∧ (∀ p < 3, p ≠ (i 0).val % 3 → slot p X13 = slot p s.x13)) := by
  have hg : g.val < 8 := g.isLt
  have h3 : (i 0).val % 3 < 3 := Nat.mod_lt _ (by decide)
  unfold k0_t5_body
  refine Ev.bind (ev_part4 g _ _ s) ?_
  rintro ⟨b0, b1, b2⟩ s' ⟨rfl, rfl, rfl⟩
  dsimp only
  rw [k0_part5_eq_skeleton]
  unfold k0_part5_skel
  refine Ev.bind (Ev.pure (Q := fun a s'' => a = ⟨xUp s'.x1 g, xDown s'.x1 g⟩ ∧ s'' = s') ⟨rfl, rfl⟩) ?_
  rintro _ s'' ⟨rfl, rfl⟩
  dsimp only
  refine Ev.load2 (foc9 _) rfl (k0_off17_eq g) ?_
  refine Ev.store2 (foc9 _) (k0_off17_eq g) ?_
  refine Ev.loadSlot (foc13 _) rfl (k0_off18_eq i) (k0_off17_eq g) ?_
  refine Ev.storeSlot (foc13 _) (k0_off18_eq i) (k0_off17_eq g) ?_
  refine Ev.bind (ev_t7 g _ _) ?_
  rintro _ _ ⟨X8, X12, rfl, h1, h2, h3', h4, h5⟩
  refine Ev.pure ⟨X8, _, X12, _, rfl, h1, h2, h3', h4, h5, ?_, ?_, ?_, ?_, ?_⟩
  · exact sub2_put2 (by omega) (by omega) _ _
  · dsimp only
    rw [slot_setSlot h3]
    refine (sub2_put2 (by omega) (by omega) _ _).trans ?_
    unfold k0_pay2
    exact shapeCast_self _ _
  · intro g' hg' hne
    exact sub2_put2_ne (by omega) (by omega) (by omega) _ _
  · intro g' hg' hne
    dsimp only
    rw [slot_setSlot h3]
    exact sub2_put2_ne (by omega) (by omega) (by omega) _ _
  · intro p hp hne
    exact slot_setSlot_ne hp hne _ _

/-- The quantiser's row loop. -/
theorem ev_t5 (s : St F) :
    Ev c A (Scf.Loop.for k0_t5_loop k0_t5_ok ⟨⟩ (k0_t5_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14)) s (fun _ s' =>
      ∃ X8 X9 X12 X13, s' = { s with x8 := X8, x9 := X9, x12 := X12, x13 := X13 }
        ∧ (∀ g < 8, ∀ k < 9, B g k X8 = k0_pay3 (xDown s.x1 g) (B g k s.x1))
        ∧ (∀ g < 8, ∀ k < 9, B g k (slot (cur i) X12) = k0_pay3 (xDown s.x1 g) (B g k s.x1))
        ∧ slot (prv i) X12 = slot (prv i) s.x12
        ∧ (∀ g < 8, R1 g X9 = xUp s.x1 g) ∧ (∀ g < 8, R1 g (slot ((i 0).val % 3) X13) = xUp s.x1 g)
        ∧ (∀ p < 3, p ≠ (i 0).val % 3 → slot p X13 = slot p s.x13)) := by
  refine Ev.mono (Ev.for _ _ _ _ (fun n _ s' =>
      ∃ X8 X9 X12 X13, s' = { s with x8 := X8, x9 := X9, x12 := X12, x13 := X13 }
        ∧ (∀ g < 8, g < n → ∀ k < 9, B g k X8 = k0_pay3 (xDown s.x1 g) (B g k s.x1))
        ∧ (∀ g < 8, g < n → ∀ k < 9, B g k (slot (cur i) X12) = k0_pay3 (xDown s.x1 g) (B g k s.x1))
        ∧ slot (prv i) X12 = slot (prv i) s.x12
        ∧ (∀ g < 8, g < n → R1 g X9 = xUp s.x1 g) ∧ (∀ g < 8, g < n → R1 g (slot ((i 0).val % 3) X13) = xUp s.x1 g)
        ∧ (∀ p < 3, p ≠ (i 0).val % 3 → slot p X13 = slot p s.x13)) ?_ ?_) ?_
  · exact ⟨s.x8, s.x9, s.x12, s.x13, rfl, fun _ _ h => absurd h (by omega), fun _ _ h => absurd h (by omega), rfl,
      fun _ _ h => absurd h (by omega), fun _ _ h => absurd h (by omega), fun _ _ _ => rfl⟩
  · rintro n _ _ ⟨X8, X9, X12, X13, rfl, h1, h2, h3, h4, h5, h6⟩
    refine Ev.mono (ev_t5_body n _) ?_
    rintro _ _ ⟨Y8, Y9, Y12, Y13, rfl, k1, k2, k3, k4, k5, k6, k7, k8, k9, k10⟩
    refine ⟨Y8, Y9, Y12, Y13, rfl, ?_, ?_, k5.trans h3, ?_, ?_, fun p hp hne => (k10 p hp hne).trans (h6 p hp hne)⟩
    · intro g hg hgn k hk
      by_cases e : g = n.val
      · subst e; exact k1 k hk
      · exact (k3 g hg e k hk).trans (h1 g hg (by omega) k hk)
    · intro g hg hgn k hk
      by_cases e : g = n.val
      · subst e; exact k2 k hk
      · exact (k4 g hg e k hk).trans (h2 g hg (by omega) k hk)
    · intro g hg hgn
      by_cases e : g = n.val
      · subst e; exact k6
      · exact (k8 g hg e).trans (h4 g hg (by omega))
    · intro g hg hgn
      by_cases e : g = n.val
      · subst e; exact k7
      · exact (k9 g hg e).trans (h5 g hg (by omega))
  · rintro _ _ ⟨X8, X9, X12, X13, rfl, h1, h2, h3, h4, h5, h6⟩
    exact ⟨X8, X9, X12, X13, rfl, fun g hg => h1 g hg hg, fun g hg => h2 g hg hg, h3, fun g hg => h4 g hg hg, fun g hg => h5 g hg hg, h6⟩

end Cert.Kernel.Hand

end
-- ==== Proof.K.Norm.lean ====
/- The body's normalising loops (the first part of the body), run on the contents of its buffers. -/
module

public import proofs.«01_k».proof.Proof.K.Quant
public import Idealize.ShloMosaic.Lib.ValueLayout
public import Idealize.ShloMosaic.Lib.ValueLayoutCasts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- What the normalising of a group of 32 rows reads: the group's scales, its products, its residual rows, and the three rows of weights, by block column. -/
structure Epi (F : FTy → Type) where
  xs : Vec F S32x1 .f32
  y : ℕ → Vec F S32x128 .f32
  rs : ℕ → Vec F S32x128 .bf16
  ws : ℕ → Vec F S1x128 .f32
  cpost : ℕ → Vec F S1x128 .f32
  cpre : ℕ → Vec F S1x128 .f32

/-- The running sum of squares of the first normalisation. -/
def Epi.raw (e : Epi F) : ℕ → FVec F S32x128 .f32
  | 0 => k0_pay5 (e.y 0) (e.ws 0)
  | k + 1 => k0_pay6 (Epi.raw e k) (e.y (k + 1)) (e.ws (k + 1))

/-- The running sums of squares of the second normalisation (two halves of the group), and the running maximum. -/
def Epi.acc (e : Epi F) : ℕ → FVec F S16x128 .f32 × FVec F S16x128 .f32 × FVec F S32x128 .f32
  | 0 => (k0_pay7 (F := F), k0_pay7 (F := F), k0_pay8 (F := F))
  | k + 1 => (k0_pay11 e.xs (e.raw 52) (Epi.acc e k).1 (e.y k) (e.cpost k) (e.rs k),
      k0_pay12 e.xs (e.raw 52) (Epi.acc e k).2.1 (e.y k) (e.cpost k) (e.rs k),
      k0_pay15 e.xs (e.raw 52) (Epi.acc e k).2.2 (e.y k) (e.cpost k) (e.rs k) (e.cpre k))

/-- A block of the first result. -/
def Epi.h (e : Epi F) (k : ℕ) : FVec F S32x128 .bf16 := k0_pay9 e.xs (e.raw 52) (e.y k) (e.cpost k) (e.rs k)
/-- A block of what is left for the last loop. -/
def Epi.u (e : Epi F) (k : ℕ) : FVec F S32x128 .f32 := k0_pay14 e.xs (e.raw 52) (e.y k) (e.cpost k) (e.rs k) (e.cpre k)
/-- The sum of squares of the second normalisation. -/
def Epi.ss (e : Epi F) : FVec F S32x1 .f32 := k0_pay16 (e.acc 53).1 (e.acc 53).2.1
/-- The second normalisation's scales. -/
def Epi.zs (e : Epi F) : FVec F S32x1 .f32 :=
  k0_pay23 (k0_pay18 (e.acc 53).2.2 e.ss) (k0_pay19 (e.acc 53).2.2 e.ss) (k0_pay20 (e.acc 53).2.2 e.ss) (k0_pay21 (e.acc 53).2.2 e.ss)
/-- The factor its codes are taken with. -/
def Epi.fac (e : Epi F) : FVec F S32x128 .f32 :=
  k0_pay24 (k0_pay17 e.ss) (k0_pay18 (e.acc 53).2.2 e.ss) (k0_pay19 (e.acc 53).2.2 e.ss) (k0_pay20 (e.acc 53).2.2 e.ss) (k0_pay21 (e.acc 53).2.2 e.ss)
/-- A block of the second normalisation's codes. -/
def Epi.z (e : Epi F) (k : ℕ) : FVec F S32x128 .fp8e4m3 := k0_pay32 e.fac (e.u k)

/-- What a group reads, off the buffers' contents. -/
def epi (i : grid0.Coords) (s : St F) (g : ℕ) : Epi F where
  xs := R1 g (slot (((i 0).val + 1) % 3) s.x13)
  y := fun k => B g k (slot (cur i) s.x14)
  rs := fun k => B g k s.x2
  ws := fun k => C1 k s.x4
  cpost := fun k => C1 k s.x5
  cpre := fun k => C1 k s.x6

variable {c : Dev nD} {A : Args} {i : grid0.Coords}

theorem ev_t2 (g : Fin k0_t1_loop.trips) (c0 c1 : BitVec 32) (s : St F) :
    Ev c A (Scf.Loop.for k0_t2_loop k0_t2_ok (k0_pay5 (B g 0 (slot (cur i) s.x14)) (C1 0 s.x4)) (k0_t2_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g)) s
      (fun a s' => a = (epi i s g).raw 52 ∧ s' = s) := by
  refine Ev.for _ _ _ _ (fun n a s' => a = (epi i s g).raw n ∧ s' = s) ⟨rfl, rfl⟩ ?_
  rintro n _ s' ⟨rfl, rfl⟩
  unfold k0_t2_body
  refine Ev.loadSlot (foc14 _) rfl (k0_off5_eq i) (k0_off6_eq g n) ?_
  refine Ev.load2 (foc4 _) rfl (k0_off7_eq n) ?_
  exact Ev.pure ⟨rfl, rfl⟩

theorem ev_t3 (g : Fin k0_t1_loop.trips) (c0 c1 : BitVec 32) (s : St F) :
    Ev c A (Scf.Loop.for k0_t3_loop k0_t3_ok (k0_pay7 (F := F), k0_pay7 (F := F), k0_pay8 (F := F))
        (k0_t3_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g (epi i s g).xs ((epi i s g).raw 52))) s
      (fun a s' => a = (epi i s g).acc 53 ∧ ∃ X7 X14, s' = { s with x7 := X7, x14 := X14 }
        ∧ (∀ k < 53, B g k X7 = (epi i s g).h k) ∧ (∀ k < 53, B g k (slot (cur i) X14) = (epi i s g).u k)
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) := by
  have hg : g.val < 8 := g.isLt
  have hc : cur i < 2 := Nat.mod_lt _ (by decide)
  have hp : prv i < 2 := by show 1 - (i 0).val % 2 < 2; omega
  have hcp : prv i ≠ cur i := by show 1 - (i 0).val % 2 ≠ (i 0).val % 2; omega
  refine Ev.mono (Ev.for _ _ _ _ (fun n a s' => a = (epi i s g).acc n ∧ ∃ X7 X14, s' = { s with x7 := X7, x14 := X14 }
        ∧ (∀ k < n, B g k X7 = (epi i s g).h k) ∧ (∀ k < n, B g k (slot (cur i) X14) = (epi i s g).u k)
        ∧ (∀ k < 53, n ≤ k → B g k (slot (cur i) X14) = B g k (slot (cur i) s.x14))
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) ?_ ?_) ?_
  · exact ⟨rfl, s.x7, s.x14, rfl, by omega, by omega, fun _ _ _ => rfl, fun _ _ _ _ => rfl, fun _ _ _ _ => rfl, rfl⟩
  · rintro n _ s' ⟨rfl, X7, X14, rfl, h1, h2, h3, h4, h5, h6⟩
    have hn : n.val < 53 := n.isLt
    have hy : B g n (slot (cur i) X14) = (epi i s g).y n := h3 n hn le_rfl
    unfold k0_t3_body
    refine Ev.loadSlot (foc14 _) rfl (k0_off8_eq i) (k0_off9_eq g n) ?_
    refine Ev.load2 (foc5 _) rfl (k0_off10_eq n) ?_
    refine Ev.load2 (foc2 _) rfl (k0_off9_eq g n) ?_
    refine Ev.load2 (foc7 _) rfl (k0_off9_eq g n) ?_
    refine Ev.store2 (foc7 _) (k0_off9_eq g n) ?_
    refine Ev.load2 (foc6 _) rfl (k0_off10_eq n) ?_
    refine Ev.loadSlot (foc14 _) rfl (k0_off8_eq i) (k0_off9_eq g n) ?_
    refine Ev.storeSlot (foc14 _) (k0_off8_eq i) (k0_off9_eq g n) ?_
    dsimp only
    rw [show (sub2 (32 * g.val) (128 * n.val) (slot ((i 0).val % 2) X14) : S32x128.Idx → _) = (epi i s g).y n from hy]
    refine Ev.pure ⟨rfl, _, _, rfl, ?_, ?_, ?_, ?_, ?_, ?_⟩
    · intro k hk
      by_cases e : k = n.val
      · subst e; exact sub2_put2 (by omega) (by omega) _ _
      · exact (sub2_put2_ne (by omega) (by omega) (by omega) _ _).trans (h1 k (by omega))
    · intro k hk
      rw [slot_setSlot hc]
      by_cases e : k = n.val
      · subst e; exact sub2_put2 (by omega) (by omega) _ _
      · exact (sub2_put2_ne (by omega) (by omega) (by omega) _ _).trans (h2 k (by omega))
    · intro k hk hkn
      rw [slot_setSlot hc]
      exact (sub2_put2_ne (by omega) (by omega) (by omega) _ _).trans (h3 k hk (by omega))
    · intro g' hg' hne k
      exact (sub2_put2_rows (by omega) (by omega) _ _).trans (h4 g' hg' hne k)
    · intro g' hg' hne k
      rw [slot_setSlot hc]
      exact (sub2_put2_rows (by omega) (by omega) _ _).trans (h5 g' hg' hne k)
    · exact (slot_setSlot_ne hp hcp _ _).trans h6
  · rintro _ s' ⟨rfl, X7, X14, rfl, h1, h2, h3, h4, h5, h6⟩
    exact ⟨rfl, X7, X14, rfl, h1, h2, h4, h5, h6⟩

theorem ev_t4 (g : Fin k0_t1_loop.trips) (v400 : FVec F S32x128 .f32) (s : St F) :
    Ev c A (Scf.Loop.for k0_t4_loop k0_t4_ok ⟨⟩ (k0_t4_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g v400)) s (fun _ s' =>
      ∃ X10, s' = { s with x10 := X10 }
        ∧ (∀ k < 53, B g k X10 = k0_pay32 v400 (B g k (slot (cur i) s.x14)))
        ∧ (∀ g' < 8, g' ≠ g.val → ∀ k, B g' k X10 = B g' k s.x10)) := by
  have hg : g.val < 8 := g.isLt
  refine Ev.mono (Ev.for _ _ _ _ (fun n _ s' =>
      ∃ X10, s' = { s with x10 := X10 }
        ∧ (∀ k < n, B g k X10 = k0_pay32 v400 (B g k (slot (cur i) s.x14)))
        ∧ (∀ g' < 8, g' ≠ g.val → ∀ k, B g' k X10 = B g' k s.x10)) ?_ ?_) ?_
  · exact ⟨s.x10, rfl, by omega, fun _ _ _ _ => rfl⟩
  · rintro n _ s' ⟨X10, rfl, h1, h2⟩
    have hn : n.val < 53 := n.isLt
    unfold k0_t4_body
    refine Ev.loadSlot (foc14 _) rfl (k0_off11_eq i) (k0_off12_eq g n) ?_
    refine Ev.load2 (foc10 _) rfl (k0_off12_eq g n) ?_
    refine Ev.store2 (foc10 _) (k0_off12_eq g n) ?_
    refine Ev.pure ⟨_, rfl, ?_, ?_⟩
    · intro k hk
      by_cases e : k = n.val
      · subst e; exact sub2_put2 (by omega) (by omega) _ _
      · exact (sub2_put2_ne (by omega) (by omega) (by omega) _ _).trans (h1 k (by omega))
    · intro g' hg' hne k
      exact (sub2_put2_rows (by omega) (by omega) _ _).trans (h2 g' hg' hne k)
  · rintro _ s' h
    exact h

theorem ev_part1 (g : Fin k0_t1_loop.trips) (c0 c1 : BitVec 32) (s : St F) :
    Ev c A (k0_part1 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g) s (fun a s' => a.2.1 = ((epi i s g).acc 53).2.2 ∧ a.2.2 = (epi i s g).ss ∧ ∃ X7 X14, s' = { s with x7 := X7, x14 := X14 }
        ∧ (∀ k < 53, B g k X7 = (epi i s g).h k) ∧ (∀ k < 53, B g k (slot (cur i) X14) = (epi i s g).u k)
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) := by
  rw [k0_part1_eq_skeleton]
  unfold k0_part1_skel
  refine Ev.loadSlot (foc13 _) rfl (k0_off1_eq i) (k0_off2_eq g) ?_
  refine Ev.loadSlot (foc14 _) rfl (k0_off3_eq i) (k0_off4_eq g) ?_
  refine Ev.load2 (foc4 _) rfl (o0 := 0) (o1 := 0) rfl ?_
  refine Ev.bind (ev_t2 g c0 c1 s) ?_
  rintro _ s' ⟨rfl, rfl⟩
  refine Ev.bind (ev_t3 g c0 c1 s') ?_
  rintro _ s'' ⟨rfl, h⟩
  exact Ev.pure ⟨rfl, rfl, h⟩

/-- One trip of the normalising row loop. -/
theorem ev_t1_body (g : Fin k0_t1_loop.trips) (s : St F) :
    Ev c A (k0_t1_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g ⟨⟩) s (fun _ s' =>
      ∃ X7 X10 X11 X14, s' = { s with x7 := X7, x10 := X10, x11 := X11, x14 := X14 }
        ∧ (∀ k < 53, B g k X7 = (epi i s g).h k) ∧ (∀ k < 53, B g k X10 = (epi i s g).z k) ∧ R1 g X11 = (epi i s g).zs
        ∧ (∀ g' < 8, g' ≠ g.val → ∀ k, B g' k X7 = B g' k s.x7)
        ∧ (∀ g' < 8, g' ≠ g.val → ∀ k, B g' k X10 = B g' k s.x10)
        ∧ (∀ g' < 8, g' ≠ g.val → R1 g' X11 = R1 g' s.x11)
        ∧ (∀ g' < 8, g' ≠ g.val → ∀ k, B g' k (slot (cur i) X14) = B g' k (slot (cur i) s.x14))
        ∧ slot (prv i) X14 = slot (prv i) s.x14) := by
  have hg : g.val < 8 := g.isLt
  unfold k0_t1_body
  refine Ev.bind (ev_part1 g _ _ s) ?_
  rintro ⟨b0, b1, b2⟩ _ ⟨rfl, rfl, X7, X14, rfl, h1, h2, h3, h4, h5⟩
  dsimp only
  rw [k0_part2_eq_skeleton]
  unfold k0_part2_skel
  refine Ev.bind (Ev.pure (Q := fun a s'' => a = ⟨k0_pay17 (epi i s g).ss, k0_pay18 ((epi i s g).acc 53).2.2 (epi i s g).ss,
    k0_pay19 ((epi i s g).acc 53).2.2 (epi i s g).ss, k0_pay20 ((epi i s g).acc 53).2.2 (epi i s g).ss, k0_pay21 ((epi i s g).acc 53).2.2 (epi i s g).ss⟩
      ∧ s'' = { s with x7 := X7, x14 := X14 }) ⟨rfl, rfl⟩) ?_
  rintro _ _ ⟨rfl, rfl⟩
  dsimp only
  refine Ev.bind (Q := fun a s'' => a.1 = (epi i s g).fac ∧ ∃ X11, s'' = { s with x7 := X7, x14 := X14, x11 := X11 }
      ∧ R1 g X11 = (epi i s g).zs ∧ (∀ g' < 8, g' ≠ g.val → R1 g' X11 = R1 g' s.x11)) ?_ ?_
  · rw [k0_part3_eq_skeleton]
    unfold k0_part3_skel
    refine Ev.load2 (foc11 _) rfl (k0_off2_eq g) ?_
    refine Ev.store2 (foc11 _) (k0_off2_eq g) ?_
    refine Ev.pure ⟨rfl, _, rfl, sub2_put2 (by omega) (by omega) _ _, fun g' hg' hne => sub2_put2_rows (by omega) (by omega) _ _⟩
  · rintro ⟨a0, a1, a2⟩ _ ⟨rfl, X11, rfl, h6, h7⟩
    dsimp only
    refine Ev.bind (ev_t4 g _ _) ?_
    rintro _ _ ⟨X10, rfl, h8, h9⟩
    refine Ev.pure ⟨X7, X10, X11, X14, rfl, h1, ?_, h6, h3, h9, h7, h4, h5⟩
    intro k hk
    refine (h8 k hk).trans ?_
    show k0_pay32 _ (B g k (slot (cur i) X14)) = _
    rw [h2 k hk]
    rfl

/-- The normalising row loop. -/
theorem ev_t1 (s : St F) :
    Ev c A (Scf.Loop.for k0_t1_loop k0_t1_ok ⟨⟩ (k0_t1_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14)) s (fun _ s' =>
      ∃ X7 X10 X11 X14, s' = { s with x7 := X7, x10 := X10, x11 := X11, x14 := X14 }
        ∧ (∀ g < 8, ∀ k < 53, B g k X7 = (epi i s g).h k) ∧ (∀ g < 8, ∀ k < 53, B g k X10 = (epi i s g).z k) ∧ (∀ g < 8, R1 g X11 = (epi i s g).zs)
        ∧ slot (prv i) X14 = slot (prv i) s.x14) := by
  refine Ev.mono (Ev.for _ _ _ _ (fun n _ s' =>
      ∃ X7 X10 X11 X14, s' = { s with x7 := X7, x10 := X10, x11 := X11, x14 := X14 }
        ∧ (∀ g < 8, g < n → ∀ k < 53, B g k X7 = (epi i s g).h k) ∧ (∀ g < 8, g < n → ∀ k < 53, B g k X10 = (epi i s g).z k)
        ∧ (∀ g < 8, g < n → R1 g X11 = (epi i s g).zs)
        ∧ (∀ g < 8, n ≤ g → ∀ k, B g k (slot (cur i) X14) = B g k (slot (cur i) s.x14))
        ∧ slot (prv i) X14 = slot (prv i) s.x14) ?_ ?_) ?_
  · exact ⟨s.x7, s.x10, s.x11, s.x14, rfl, fun _ _ h => absurd h (by omega), fun _ _ h => absurd h (by omega),
      fun _ _ h => absurd h (by omega), fun _ _ _ _ => rfl, rfl⟩
  · rintro n _ _ ⟨X7, X10, X11, X14, rfl, h1, h2, h3, h4, h5⟩
    have hn : n.val < 8 := n.isLt
    have he : epi i { s with x7 := X7, x10 := X10, x11 := X11, x14 := X14 } n = epi i s n := by
      unfold epi
      congr 1
      funext k
      exact h4 n hn le_rfl k
    refine Ev.mono (ev_t1_body n _) ?_
    rw [he]
    rintro _ _ ⟨Y7, Y10, Y11, Y14, rfl, k1, k2, k3, k4, k5, k6, k7, k8⟩
    refine ⟨Y7, Y10, Y11, Y14, rfl, ?_, ?_, ?_, ?_, k8.trans h5⟩
    · intro g hg hgn k hk
      by_cases e : g = n.val
      · subst e; exact k1 k hk
      · exact (k4 g hg e k).trans (h1 g hg (by omega) k hk)
    · intro g hg hgn k hk
      by_cases e : g = n.val
      · subst e; exact k2 k hk
      · exact (k5 g hg e k).trans (h2 g hg (by omega) k hk)
    · intro g hg hgn
      by_cases e : g = n.val
      · subst e; exact k3
      · exact (k6 g hg e).trans (h3 g hg (by omega))
    · intro g hg hgn k
      exact (k7 g hg (by omega) k).trans (h4 g hg (by omega) k)
  · rintro _ _ ⟨X7, X10, X11, X14, rfl, h1, h2, h3, h4, h5⟩
    exact ⟨X7, X10, X11, X14, rfl, fun g hg => h1 g hg hg, fun g hg => h2 g hg hg, fun g hg => h3 g hg hg, h5⟩

end Cert.Kernel.Hand

end
-- ==== Proof.K.Body.lean ====
/- The whole body, run on the contents of its buffers. -/
module

public import proofs.«01_k».proof.Proof.K.Norm
public import Idealize.ShloMosaic.Lib.ValueLayout
public import Idealize.ShloMosaic.Lib.ValueLayoutCasts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- The codes the step before left, as a stack of one. -/
def xq3 (i : grid0.Coords) (s : St F) : Vec F S1x256x1152 .fp8e4m3 := fun j => slot (prv i) s.x12 (ix2 (j 1) (j 2))

/-- The first `n` column blocks of the projection are in place. -/
def Proj (i : grid0.Coords) (s : St F) (n : ℕ) (X : Vec F S2x256x6784 .f32) : Prop :=
  (∀ b < n, (sub2 0 (256 * b) (slot (prv i) X) : S256x256.Idx → _) = k0_pay33 (xq3 i s) (sub2 0 (256 * b) s.x3)) ∧ slot (cur i) X = slot (cur i) s.x14

theorem Proj.step {i : grid0.Coords} {s : St F} {n : ℕ} {X : Vec F S2x256x6784 .f32} (h : Proj i s n X) (hn : n < 26) {w : S256x256.Idx → Elt F .f32}
    (hw : w = k0_pay33 (xq3 i s) (sub2 0 (256 * n) s.x3)) :
    Proj i s (n + 1) (setSlot (prv i) X (put2 0 (256 * n) (slot (prv i) X) w)) := by
  have hc : cur i < 2 := Nat.mod_lt _ (by decide)
  have hp : prv i < 2 := by show 1 - (i 0).val % 2 < 2; omega
  have hcp : cur i ≠ prv i := by show (i 0).val % 2 ≠ 1 - (i 0).val % 2; omega
  refine ⟨fun b hb => ?_, (slot_setSlot_ne hc hcp _ _).trans h.2⟩
  rw [slot_setSlot hp]
  by_cases e : b = n
  · subst e; exact (sub2_put2 (by omega) (by omega) _ _).trans hw
  · exact (sub2_put2_ne (by omega) (by omega) (by omega) _ _).trans (h.1 b (by omega))

variable {c : Dev nD} {A : Args} {i : grid0.Coords}

theorem ev_part7 (v1 : BitVec 32) (s : St F) (X : Vec F S2x256x6784 .f32) (h0 : Proj i s 2 X) :
    Ev c A (k0_part7 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 5 X') := by
  rw [k0_part7_eq_skeleton]
  unfold k0_part7_skel
  refine Ev.load2 (foc3 _) rfl (o0 := 0) (o1 := 512) rfl ?_
  refine Ev.loadSlot (foc14 _) rfl (k0_off14_eq i) (o0 := 0) (o1 := 512) rfl ?_
  refine Ev.storeSlot (foc14 _) (k0_off14_eq i) (o0 := 0) (o1 := 512) rfl ?_
  have h1 := h0.step (by omega) (w := k0_pay36 (k0_pay35 (xq3 i s)) (sub2 0 512 s.x3)) rfl
  refine Ev.load3 (foc12 _) rfl (k0_off13_eq i) ?_
  refine Ev.load2 (foc3 _) rfl (o0 := 0) (o1 := 768) rfl ?_
  refine Ev.loadSlot (foc14 _) rfl (k0_off14_eq i) (o0 := 0) (o1 := 768) rfl ?_
  refine Ev.storeSlot (foc14 _) (k0_off14_eq i) (o0 := 0) (o1 := 768) rfl ?_
  have h2 := h1.step (by omega) (w := k0_pay37 (xq3 i s) (sub2 0 768 s.x3)) rfl
  refine Ev.load3 (foc12 _) rfl (k0_off13_eq i) ?_
  refine Ev.load2 (foc3 _) rfl (o0 := 0) (o1 := 1024) rfl ?_
  refine Ev.loadSlot (foc14 _) rfl (k0_off14_eq i) (o0 := 0) (o1 := 1024) rfl ?_
  refine Ev.storeSlot (foc14 _) (k0_off14_eq i) (o0 := 0) (o1 := 1024) rfl ?_
  have h3 := h2.step (by omega) (w := k0_pay38 (xq3 i s) (sub2 0 1024 s.x3)) rfl
  refine Ev.load3 (foc12 _) rfl (k0_off13_eq i) ?_
  exact Ev.pure ⟨rfl, _, rfl, h3⟩

theorem ev_part8 (v1 : BitVec 32) (s : St F) (X : Vec F S2x256x6784 .f32) (h0 : Proj i s 5 X) :
    Ev c A (k0_part8 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 8 X') := by
  rw [k0_part8_eq_skeleton]
  unfold k0_part8_skel
  refine Ev.load2 (foc3 _) rfl (o0 := 0) (o1 := 1280) rfl ?_
  refine Ev.loadSlot (foc14 _) rfl (k0_off14_eq i) (o0 := 0) (o1 := 1280) rfl ?_
  refine Ev.storeSlot (foc14 _) (k0_off14_eq i) (o0 := 0) (o1 := 1280) rfl ?_
  have h1 := h0.step (by omega) (w := k0_pay40 (k0_pay35 (xq3 i s)) (sub2 0 1280 s.x3)) rfl
  refine Ev.load3 (foc12 _) rfl (k0_off13_eq i) ?_
  refine Ev.load2 (foc3 _) rfl (o0 := 0) (o1 := 1536) rfl ?_
  refine Ev.loadSlot (foc14 _) rfl (k0_off14_eq i) (o0 := 0) (o1 := 1536) rfl ?_
  refine Ev.storeSlot (foc14 _) (k0_off14_eq i) (o0 := 0) (o1 := 1536) rfl ?_
  have h2 := h1.step (by omega) (w := k0_pay41 (xq3 i s) (sub2 0 1536 s.x3)) rfl
  refine Ev.load3 (foc12 _) rfl (k0_off13_eq i) ?_
  refine Ev.load2 (foc3 _) rfl (o0 := 0) (o1 := 1792) rfl ?_
  refine Ev.loadSlot (foc14 _) rfl (k0_off14_eq i) (o0 := 0) (o1 := 1792) rfl ?_
  refine Ev.storeSlot (foc14 _) (k0_off14_eq i) (o0 := 0) (o1 := 1792) rfl ?_
  have h3 := h2.step (by omega) (w := k0_pay42 (xq3 i s) (sub2 0 1792 s.x3)) rfl
  refine Ev.load3 (foc12 _) rfl (k0_off13_eq i) ?_
  exact Ev.pure ⟨rfl, _, rfl, h3⟩

theorem ev_part9 (v1 : BitVec 32) (s : St F) (X : Vec F S2x256x6784 .f32) (h0 : Proj i s 8 X) :
    Ev c A (k0_part9 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 11 X') := by
  rw [k0_part9_eq_skeleton]
  unfold k0_part9_skel
  refine Ev.load2 (foc3 _) rfl (o0 := 0) (o1 := 2048) rfl ?_
  refine Ev.loadSlot (foc14 _) rfl (k0_off14_eq i) (o0 := 0) (o1 := 2048) rfl ?_
  refine Ev.storeSlot (foc14 _) (k0_off14_eq i) (o0 := 0) (o1 := 2048) rfl ?_
  have h1 := h0.step (by omega) (w := k0_pay44 (k0_pay35 (xq3 i s)) (sub2 0 2048 s.x3)) rfl
  refine Ev.load3 (foc12 _) rfl (k0_off13_eq i) ?_
  refine Ev.load2 (foc3 _) rfl (o0 := 0) (o1 := 2304) rfl ?_
  refine Ev.loadSlot (foc14 _) rfl (k0_off14_eq i) (o0 := 0) (o1 := 2304) rfl ?_
  refine Ev.storeSlot (foc14 _) (k0_off14_eq i) (o0 := 0) (o1 := 2304) rfl ?_
  have h2 := h1.step (by omega) (w := k0_pay45 (xq3 i s) (sub2 0 2304 s.x3)) rfl
  refine Ev.load3 (foc12 _) rfl (k0_off13_eq i) ?_
  refine Ev.load2 (foc3 _) rfl (o0 := 0) (o1 := 2560) rfl ?_
  refine Ev.loadSlot (foc14 _) rfl (k0_off14_eq i) (o0 := 0) (o1 := 2560) rfl ?_
  refine Ev.storeSlot (foc14 _) (k0_off14_eq i) (o0 := 0) (o1 := 2560) rfl ?_
  have h3 := h2.step (by omega) (w := k0_pay46 (xq3 i s) (sub2 0 2560 s.x3)) rfl
  refine Ev.load3 (foc12 _) rfl (k0_off13_eq i) ?_
  exact Ev.pure ⟨rfl, _, rfl, h3⟩

theorem ev_part10 (v1 : BitVec 32) (s : St F) (X : Vec F S2x256x6784 .f32) (h0 : Proj i s 11 X) :
    Ev c A (k0_part10 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 14 X') := by
  rw [k0_part10_eq_skeleton]
  unfold k0_part10_skel
  refine Ev.load2 (foc3 _) rfl (o0 := 0) (o1 := 2816) rfl ?_
  refine Ev.loadSlot (foc14 _) rfl (k0_off14_eq i) (o0 := 0) (o1 := 2816) rfl ?_
  refine Ev.storeSlot (foc14 _) (k0_off14_eq i) (o0 := 0) (o1 := 2816) rfl ?_
  have h1 := h0.step (by omega) (w := k0_pay48 (k0_pay35 (xq3 i s)) (sub2 0 2816 s.x3)) rfl
  refine Ev.load3 (foc12 _) rfl (k0_off13_eq i) ?_
  refine Ev.load2 (foc3 _) rfl (o0 := 0) (o1 := 3072) rfl ?_
  refine Ev.loadSlot (foc14 _) rfl (k0_off14_eq i) (o0 := 0) (o1 := 3072) rfl ?_
  refine Ev.storeSlot (foc14 _) (k0_off14_eq i) (o0 := 0) (o1 := 3072) rfl ?_
  have h2 := h1.step (by omega) (w := k0_pay49 (xq3 i s) (sub2 0 3072 s.x3)) rfl
  refine Ev.load3 (foc12 _) rfl (k0_off13_eq i) ?_
  refine Ev.load2 (foc3 _) rfl (o0 := 0) (o1 := 3328) rfl ?_
  refine Ev.loadSlot (foc14 _) rfl (k0_off14_eq i) (o0 := 0) (o1 := 3328) rfl ?_
  refine Ev.storeSlot (foc14 _) (k0_off14_eq i) (o0 := 0) (o1 := 3328) rfl ?_
  have h3 := h2.step (by omega) (w := k0_pay50 (xq3 i s) (sub2 0 3328 s.x3)) rfl
  refine Ev.load3 (foc12 _) rfl (k0_off13_eq i) ?_
  exact Ev.pure ⟨rfl, _, rfl, h3⟩

theorem ev_part11 (v1 : BitVec 32) (s : St F) (X : Vec F S2x256x6784 .f32) (h0 : Proj i s 14 X) :
    Ev c A (k0_part11 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 17 X') := by
  rw [k0_part11_eq_skeleton]
  unfold k0_part11_skel
  refine Ev.load2 (foc3 _) rfl (o0 := 0) (o1 := 3584) rfl ?_
  refine Ev.loadSlot (foc14 _) rfl (k0_off14_eq i) (o0 := 0) (o1 := 3584) rfl ?_
  refine Ev.storeSlot (foc14 _) (k0_off14_eq i) (o0 := 0) (o1 := 3584) rfl ?_
  have h1 := h0.step (by omega) (w := k0_pay52 (k0_pay35 (xq3 i s)) (sub2 0 3584 s.x3)) rfl
  refine Ev.load3 (foc12 _) rfl (k0_off13_eq i) ?_
  refine Ev.load2 (foc3 _) rfl (o0 := 0) (o1 := 3840) rfl ?_
  refine Ev.loadSlot (foc14 _) rfl (k0_off14_eq i) (o0 := 0) (o1 := 3840) rfl ?_
  refine Ev.storeSlot (foc14 _) (k0_off14_eq i) (o0 := 0) (o1 := 3840) rfl ?_
  have h2 := h1.step (by omega) (w := k0_pay53 (xq3 i s) (sub2 0 3840 s.x3)) rfl
  refine Ev.load3 (foc12 _) rfl (k0_off13_eq i) ?_
  refine Ev.load2 (foc3 _) rfl (o0 := 0) (o1 := 4096) rfl ?_
  refine Ev.loadSlot (foc14 _) rfl (k0_off14_eq i) (o0 := 0) (o1 := 4096) rfl ?_
  refine Ev.storeSlot (foc14 _) (k0_off14_eq i) (o0 := 0) (o1 := 4096) rfl ?_
  have h3 := h2.step (by omega) (w := k0_pay54 (xq3 i s) (sub2 0 4096 s.x3)) rfl
  refine Ev.load3 (foc12 _) rfl (k0_off13_eq i) ?_
  exact Ev.pure ⟨rfl, _, rfl, h3⟩

theorem ev_part12 (v1 : BitVec 32) (s : St F) (X : Vec F S2x256x6784 .f32) (h0 : Proj i s 17 X) :
    Ev c A (k0_part12 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 20 X') := by
  rw [k0_part12_eq_skeleton]
  unfold k0_part12_skel
  refine Ev.load2 (foc3 _) rfl (o0 := 0) (o1 := 4352) rfl ?_
  refine Ev.loadSlot (foc14 _) rfl (k0_off14_eq i) (o0 := 0) (o1 := 4352) rfl ?_
  refine Ev.storeSlot (foc14 _) (k0_off14_eq i) (o0 := 0) (o1 := 4352) rfl ?_
  have h1 := h0.step (by omega) (w := k0_pay56 (k0_pay35 (xq3 i s)) (sub2 0 4352 s.x3)) rfl
  refine Ev.load3 (foc12 _) rfl (k0_off13_eq i) ?_
  refine Ev.load2 (foc3 _) rfl (o0 := 0) (o1 := 4608) rfl ?_
  refine Ev.loadSlot (foc14 _) rfl (k0_off14_eq i) (o0 := 0) (o1 := 4608) rfl ?_
  refine Ev.storeSlot (foc14 _) (k0_off14_eq i) (o0 := 0) (o1 := 4608) rfl ?_
  have h2 := h1.step (by omega) (w := k0_pay57 (xq3 i s) (sub2 0 4608 s.x3)) rfl
  refine Ev.load3 (foc12 _) rfl (k0_off13_eq i) ?_
  refine Ev.load2 (foc3 _) rfl (o0 := 0) (o1 := 4864) rfl ?_
  refine Ev.loadSlot (foc14 _) rfl (k0_off14_eq i) (o0 := 0) (o1 := 4864) rfl ?_
  refine Ev.storeSlot (foc14 _) (k0_off14_eq i) (o0 := 0) (o1 := 4864) rfl ?_
  have h3 := h2.step (by omega) (w := k0_pay58 (xq3 i s) (sub2 0 4864 s.x3)) rfl
  refine Ev.load3 (foc12 _) rfl (k0_off13_eq i) ?_
  exact Ev.pure ⟨rfl, _, rfl, h3⟩

theorem ev_part13 (v1 : BitVec 32) (s : St F) (X : Vec F S2x256x6784 .f32) (h0 : Proj i s 20 X) :
    Ev c A (k0_part13 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 23 X') := by
  rw [k0_part13_eq_skeleton]
  unfold k0_part13_skel
  refine Ev.load2 (foc3 _) rfl (o0 := 0) (o1 := 5120) rfl ?_
  refine Ev.loadSlot (foc14 _) rfl (k0_off14_eq i) (o0 := 0) (o1 := 5120) rfl ?_
  refine Ev.storeSlot (foc14 _) (k0_off14_eq i) (o0 := 0) (o1 := 5120) rfl ?_
  have h1 := h0.step (by omega) (w := k0_pay60 (k0_pay35 (xq3 i s)) (sub2 0 5120 s.x3)) rfl
  refine Ev.load3 (foc12 _) rfl (k0_off13_eq i) ?_
  refine Ev.load2 (foc3 _) rfl (o0 := 0) (o1 := 5376) rfl ?_
  refine Ev.loadSlot (foc14 _) rfl (k0_off14_eq i) (o0 := 0) (o1 := 5376) rfl ?_
  refine Ev.storeSlot (foc14 _) (k0_off14_eq i) (o0 := 0) (o1 := 5376) rfl ?_
  have h2 := h1.step (by omega) (w := k0_pay61 (xq3 i s) (sub2 0 5376 s.x3)) rfl
  refine Ev.load3 (foc12 _) rfl (k0_off13_eq i) ?_
  refine Ev.load2 (foc3 _) rfl (o0 := 0) (o1 := 5632) rfl ?_
  refine Ev.loadSlot (foc14 _) rfl (k0_off14_eq i) (o0 := 0) (o1 := 5632) rfl ?_
  refine Ev.storeSlot (foc14 _) (k0_off14_eq i) (o0 := 0) (o1 := 5632) rfl ?_
  have h3 := h2.step (by omega) (w := k0_pay62 (xq3 i s) (sub2 0 5632 s.x3)) rfl
  refine Ev.load3 (foc12 _) rfl (k0_off13_eq i) ?_
  exact Ev.pure ⟨rfl, _, rfl, h3⟩

theorem ev_part14 (v1 : BitVec 32) (s : St F) (X : Vec F S2x256x6784 .f32) (h0 : Proj i s 23 X) :
    Ev c A (k0_part14 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 26 X') := by
  rw [k0_part14_eq_skeleton]
  unfold k0_part14_skel
  refine Ev.load2 (foc3 _) rfl (o0 := 0) (o1 := 5888) rfl ?_
  refine Ev.loadSlot (foc14 _) rfl (k0_off14_eq i) (o0 := 0) (o1 := 5888) rfl ?_
  refine Ev.storeSlot (foc14 _) (k0_off14_eq i) (o0 := 0) (o1 := 5888) rfl ?_
  have h1 := h0.step (by omega) (w := k0_pay64 (k0_pay35 (xq3 i s)) (sub2 0 5888 s.x3)) rfl
  refine Ev.load3 (foc12 _) rfl (k0_off13_eq i) ?_
  refine Ev.load2 (foc3 _) rfl (o0 := 0) (o1 := 6144) rfl ?_
  refine Ev.loadSlot (foc14 _) rfl (k0_off14_eq i) (o0 := 0) (o1 := 6144) rfl ?_
  refine Ev.storeSlot (foc14 _) (k0_off14_eq i) (o0 := 0) (o1 := 6144) rfl ?_
  have h2 := h1.step (by omega) (w := k0_pay65 (xq3 i s) (sub2 0 6144 s.x3)) rfl
  refine Ev.load3 (foc12 _) rfl (k0_off13_eq i) ?_
  refine Ev.load2 (foc3 _) rfl (o0 := 0) (o1 := 6400) rfl ?_
  refine Ev.loadSlot (foc14 _) rfl (k0_off14_eq i) (o0 := 0) (o1 := 6400) rfl ?_
  refine Ev.storeSlot (foc14 _) (k0_off14_eq i) (o0 := 0) (o1 := 6400) rfl ?_
  have h3 := h2.step (by omega) (w := k0_pay66 (xq3 i s) (sub2 0 6400 s.x3)) rfl
  refine Ev.load3 (foc12 _) rfl (k0_off13_eq i) ?_
  exact Ev.pure ⟨rfl, _, rfl, h3⟩

theorem ev_part6 (s : St F) :
    Ev c A (k0_part6 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14) s (fun a s' => a.2.2 = k0_pay35 (xq3 i s) ∧
      ∃ X7 X10 X11 X14, s' = { s with x7 := X7, x10 := X10, x11 := X11, x14 := X14 }
        ∧ (∀ g < 8, ∀ k < 53, B g k X7 = (epi i s g).h k) ∧ (∀ g < 8, ∀ k < 53, B g k X10 = (epi i s g).z k) ∧ (∀ g < 8, R1 g X11 = (epi i s g).zs)
        ∧ ∃ X, Proj i { s with x7 := X7, x10 := X10, x11 := X11, x14 := X } 2 X14) := by
  rw [k0_part6_eq_skeleton]
  unfold k0_part6_skel
  refine Ev.bind (ev_t1 s) ?_
  rintro _ _ ⟨X7, X10, X11, X14, rfl, h1, h2, h3, h4⟩
  have p0 : Proj i { s with x7 := X7, x10 := X10, x11 := X11, x14 := X14 } 0 X14 := ⟨fun b hb => absurd hb (by omega), rfl⟩
  refine Ev.load3 (foc12 _) rfl (k0_off13_eq i) ?_
  refine Ev.load2 (foc3 _) rfl (o0 := 0) (o1 := 0) rfl ?_
  refine Ev.loadSlot (foc14 _) rfl (k0_off14_eq i) (o0 := 0) (o1 := 0) rfl ?_
  refine Ev.storeSlot (foc14 _) (k0_off14_eq i) (o0 := 0) (o1 := 0) rfl ?_
  have p1 := p0.step (by omega) (w := k0_pay33 (xq3 i s) (sub2 0 0 s.x3)) rfl
  refine Ev.load3 (foc12 _) rfl (k0_off13_eq i) ?_
  refine Ev.load2 (foc3 _) rfl (o0 := 0) (o1 := 256) rfl ?_
  refine Ev.loadSlot (foc14 _) rfl (k0_off14_eq i) (o0 := 0) (o1 := 256) rfl ?_
  refine Ev.storeSlot (foc14 _) (k0_off14_eq i) (o0 := 0) (o1 := 256) rfl ?_
  have p2 := p1.step (by omega) (w := k0_pay34 (xq3 i s) (sub2 0 256 s.x3)) rfl
  refine Ev.load3 (foc12 _) rfl (k0_off13_eq i) ?_
  exact Ev.pure ⟨rfl, X7, X10, X11, _, rfl, h1, h2, h3, X14, p2⟩

/-- What the body leaves, off what it finds. -/
structure Post (i : grid0.Coords) (s s' : St F) : Prop where
  x1 : s'.x1 = s.x1
  x2 : s'.x2 = s.x2
  x3 : s'.x3 = s.x3
  x4 : s'.x4 = s.x4
  x5 : s'.x5 = s.x5
  x6 : s'.x6 = s.x6
  h : ∀ g < 8, ∀ k < 53, B g k s'.x7 = (epi i s g).h k
  z : ∀ g < 8, ∀ k < 53, B g k s'.x10 = (epi i s g).z k
  zs : ∀ g < 8, R1 g s'.x11 = (epi i s g).zs
  codes : ∀ g < 8, ∀ k < 9, B g k s'.x8 = k0_pay3 (xDown s.x1 g) (B g k s.x1)
  xq : ∀ g < 8, ∀ k < 9, B g k (slot (cur i) s'.x12) = k0_pay3 (xDown s.x1 g) (B g k s.x1)
  xs_out : ∀ g < 8, R1 g s'.x9 = xUp s.x1 g
  xs : ∀ g < 8, R1 g (slot ((i 0).val % 3) s'.x13) = xUp s.x1 g
  xs_ne : ∀ p < 3, p ≠ (i 0).val % 3 → slot p s'.x13 = slot p s.x13
  proj : ∀ b < 26, (sub2 0 (256 * b) (slot (prv i) s'.x14) : S256x256.Idx → _) = k0_pay33 (xq3 i s) (sub2 0 (256 * b) s.x3)
  proj_last : (sub2 0 6656 (slot (prv i) s'.x14) : S256x128.Idx → _) = k0_pay1 (k0_pay35 (xq3 i s)) (sub2 0 6656 s.x3)

set_option maxHeartbeats 1000000 in
/-- The body's triple. -/
theorem ev_body (s : St F) : Ev c A (cc0_out_proj_norm_quant i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14) s (fun _ s' => Post i s s') := by
  have hp : prv i < 2 := by show 1 - (i 0).val % 2 < 2; omega
  rw [cc0_out_proj_norm_quant_eq_skeleton]
  unfold cc0_out_proj_norm_quant_skel
  refine Ev.bind (ev_part6 s) ?_
  rintro ⟨a0, v1, a2⟩ _ ⟨rfl, X7, X10, X11, Y2, rfl, h1, h2, h3, X, p2⟩
  dsimp only
  refine Ev.bind (ev_part7 v1 { s with x7 := X7, x10 := X10, x11 := X11, x14 := X } Y2 p2) ?_
  rintro _ _ ⟨rfl, Y3, rfl, p3⟩
  refine Ev.bind (ev_part8 v1 { s with x7 := X7, x10 := X10, x11 := X11, x14 := X } Y3 p3) ?_
  rintro _ _ ⟨rfl, Y4, rfl, p4⟩
  refine Ev.bind (ev_part9 v1 { s with x7 := X7, x10 := X10, x11 := X11, x14 := X } Y4 p4) ?_
  rintro _ _ ⟨rfl, Y5, rfl, p5⟩
  refine Ev.bind (ev_part10 v1 { s with x7 := X7, x10 := X10, x11 := X11, x14 := X } Y5 p5) ?_
  rintro _ _ ⟨rfl, Y6, rfl, p6⟩
  refine Ev.bind (ev_part11 v1 { s with x7 := X7, x10 := X10, x11 := X11, x14 := X } Y6 p6) ?_
  rintro _ _ ⟨rfl, Y7, rfl, p7⟩
  refine Ev.bind (ev_part12 v1 { s with x7 := X7, x10 := X10, x11 := X11, x14 := X } Y7 p7) ?_
  rintro _ _ ⟨rfl, Y8, rfl, p8⟩
  refine Ev.bind (ev_part13 v1 { s with x7 := X7, x10 := X10, x11 := X11, x14 := X } Y8 p8) ?_
  rintro _ _ ⟨rfl, Y9, rfl, p9⟩
  refine Ev.bind (ev_part14 v1 { s with x7 := X7, x10 := X10, x11 := X11, x14 := X } Y9 p9) ?_
  rintro _ _ ⟨rfl, Y10, rfl, p10⟩
  refine Ev.load2 (foc3 _) rfl (o0 := 0) (o1 := 6656) rfl ?_
  refine Ev.loadSlot (foc14 _) rfl (k0_off14_eq i) (o0 := 0) (o1 := 6656) rfl ?_
  refine Ev.storeSlot (foc14 _) (k0_off14_eq i) (o0 := 0) (o1 := 6656) rfl ?_
  refine Ev.bind (ev_t5 _) ?_
  rintro _ _ ⟨X8, X9, X12, X13, rfl, k1, k2, k3, k4, k5, k6⟩
  refine Ev.pure { x1 := rfl, x2 := rfl, x3 := rfl, x4 := rfl, x5 := rfl, x6 := rfl, h := h1, z := h2, zs := h3, codes := k1, xq := k2, xs_out := k4, xs := k5, xs_ne := k6, proj := ?_, proj_last := ?_ }
  · intro b hb
    refine (congrArg (sub2 0 (256 * b)) (slot_setSlot hp _ _)).trans ?_
    exact (sub2_put2_ne (by omega) (by omega) (by omega) _ _).trans (p10.1 b hb)
  · refine (congrArg (sub2 0 6656) (slot_setSlot hp _ _)).trans ?_
    exact sub2_put2 (by omega) (by omega) _ _

end Cert.Kernel.Hand

end
-- ==== Proof.K.Launch.lean ====
/- The launch: what the kernel carries in scratch from point to point, and what it leaves in each array. -/
module

public import proofs.«01_k».proof.Proof.K.Body
public import Idealize.ShloMosaic.Lib.ValueLayout
public import Idealize.ShloMosaic.Lib.ValueLayoutCasts

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Blocks Idealize.ShloMosaic.ValueIdx

variable {F : FTy → Type} [FloatOps F]

local notation "𝕄" => MT nD τ sig Unit (Elt F) ℕ (UR sig nD τ) ℕ

/-! ## What the kernel computes, as relations -/

/-- `Q` holds the codes of the rows `X`. -/
def IsCodes (X : Vec F S256x1152 .bf16) (Q : Vec F S256x1152 .fp8e4m3) : Prop := ∀ g < 8, ∀ k < 9, B g k Q = k0_pay3 (xDown X g) (B g k X)
/-- `S` holds the scales of the rows `X`. -/
def IsScale (X : Vec F S256x1152 .bf16) (S : Vec F S256x1 .f32) : Prop := ∀ g < 8, R1 g S = xUp X g
/-- `y` is the product of the codes `Q` with the matrix `w`, block column by block column. -/
def IsProj (Q : Vec F S256x1152 .fp8e4m3) (w : Vec F S1152x6784 .fp8e4m3) (y : Vec F S256x6784 .f32) : Prop :=
  (∀ b < 26, (sub2 0 (256 * b) y : S256x256.Idx → _) = k0_pay33 (fun j => Q (ix2 (j 1) (j 2))) (sub2 0 (256 * b) w))
    ∧ (sub2 0 6656 y : S256x128.Idx → _) = k0_pay1 (k0_pay35 (fun j => Q (ix2 (j 1) (j 2)))) (sub2 0 6656 w)

/-- What the normalising of group `g` reads. -/
def epiOf (y : Vec F S256x6784 .f32) (xs : Vec F S256x1 .f32) (rs : Vec F S256x6784 .bf16) (ws cpost cpre : Vec F S1x6784 .f32) (g : ℕ) : Epi F where
  xs := R1 g xs
  y := fun k => B g k y
  rs := fun k => B g k rs
  ws := fun k => C1 k ws
  cpost := fun k => C1 k cpost
  cpre := fun k => C1 k cpre

variable (m : (ℓ : Loc nD τ sig) → Buf (Elt F) ℓ) (ρ : Dev nD → PrngReg)

/-- The point of a number. -/
def pt (n : ℕ) : Fin cfg0.N := ⟨min n 97, lt_of_le_of_lt (Nat.min_le_right _ _) (by decide)⟩
theorem pt_val (t : Fin cfg0.N) : pt t.val = t := Fin.ext (Nat.min_eq_left (by have := t.isLt; have h : cfg0.N = 98 := N_0; omega))

/-- The blocks of the inputs at a point. -/
def xb (c : Dev nD) (n : ℕ) : Vec F S256x1152 .bf16 := iblk m c 0 (pt n)
def rb (c : Dev nD) (n : ℕ) : Vec F S256x6784 .bf16 := iblk m c 1 (pt n)
def wb (c : Dev nD) (n : ℕ) : Vec F S1152x6784 .fp8e4m3 := iblk m c 2 (pt n)
def wsb (c : Dev nD) (n : ℕ) : Vec F S1x6784 .f32 := iblk m c 3 (pt n)
def cpostb (c : Dev nD) (n : ℕ) : Vec F S1x6784 .f32 := iblk m c 4 (pt n)
def cpreb (c : Dev nD) (n : ℕ) : Vec F S1x6784 .f32 := iblk m c 5 (pt n)

/-- `e g` is what the normalising at point `n` reads for group `g`. -/
def Reads (c : Dev nD) (n : ℕ) (e : ℕ → Epi F) : Prop :=
  ∃ Q S y, IsCodes (xb m c (n - 2)) Q ∧ IsScale (xb m c (n - 2)) S ∧ IsProj Q (wb m c (n - 1)) y
    ∧ e = epiOf y S (rb m c n) (wsb m c n) (cpostb m c n) (cpreb m c n)

/-- What the body leaves in the windows of the first normalisation and of the second one's codes and scales. -/
def HMade (c : Dev nD) (n : ℕ) (X : Vec F S256x6784 .bf16) : Prop := 2 ≤ n → ∃ e, Reads m c n e ∧ ∀ g < 8, ∀ k < 53, B g k X = (e g).h k
def ZMade (c : Dev nD) (n : ℕ) (X : Vec F S256x6784 .fp8e4m3) : Prop := 2 ≤ n → ∃ e, Reads m c n e ∧ ∀ g < 8, ∀ k < 53, B g k X = (e g).z k
def ZsMade (c : Dev nD) (n : ℕ) (X : Vec F S256x1 .f32) : Prop := 2 ≤ n → ∃ e, Reads m c n e ∧ ∀ g < 8, R1 g X = (e g).zs

/-- What the scratch buffers hold before point `n`. -/
def Inv (c : Dev nD) (n : ℕ) (f12 : Vec F S2x256x1152 .fp8e4m3) (f13 : Vec F S3x256x1 .f32) (f14 : Vec F S2x256x6784 .f32) : Prop :=
  (1 ≤ n → IsCodes (xb m c (n - 1)) (slot ((n - 1) % 2) f12) ∧ IsScale (xb m c (n - 1)) (slot ((n - 1) % 3) f13))
    ∧ (2 ≤ n → IsScale (xb m c (n - 2)) (slot ((n - 2) % 3) f13) ∧ ∃ Q, IsCodes (xb m c (n - 2)) Q ∧ IsProj Q (wb m c (n - 1)) (slot (n % 2) f14))

/-- The invariant on scratch before a point. -/
def PhiN (c : Dev nD) (n : ℕ) : sProp 𝕄 :=
  iprop((∃ f12 f13 f14, ⌜Inv m c n f12 f13 f14⌝ ∗ owns (c : Thread nD τ) (Memref.whole cc0_scratch0) fullShare f12
    ∗ owns (c : Thread nD τ) (Memref.whole cc0_scratch1) fullShare f13 ∗ owns (c : Thread nD τ) (Memref.whole cc0_scratch2) fullShare f14) ∗ ∃ r, prngReg c r)

/-- What the body may leave in each window. -/
def aft (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => HMade m c t.val X
  | 7 => fun t _ X => IsCodes (xb m c t.val) X
  | 8 => fun t _ X => IsScale (xb m c t.val) X
  | 9 => fun t _ X => ZMade m c t.val X
  | 10 => fun t _ X => ZsMade m c t.val X
  | ⟨_ + 11, h⟩ => absurd h (Nat.not_lt.2 (Nat.le_add_left _ _))

/-- The proof data. -/
def rdat (c : Dev nD) : RDat τ (Elt F) Unit ℕ (UR sig nD τ) ℕ cfg0 c where
  A w := V m c (Pipeline.arrRef spec0 w)
  after := aft m c
  Φ t := PhiN m c t.val
  q _ := fullShare
  owed _ := 0

theorem coords_eq (t : Fin cfg0.N) : (grid0.coords t 0).val = t.val := by
  have h := Pipeline.Grid.coords_val (G := grid0) t 0 (S := 1) (B := 98) (by decide) rfl
  have ht : t.val < 98 := lt_of_lt_of_eq t.isLt N_0
  omega

/-! ## The body's obligation -/

theorem finds_in (c : Dev nD) (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, aft m c w t Y X → X = Y) (t : Fin cfg0.N) (Y) (h : (rdat m c).Finds w t Y) : ∃ d, Y = (rdat m c).fetched w t d :=
  (rdat m c).finds_in_eq_fetched w hw hclip hkeep t Y h

/-- The buffers of a point. -/
def argsAt (t : Fin cfg0.N) : Args where
  a1 := st0_0 t
  w1 := hstage0_0 ((cfg0.slots t 0).cast nbuf0_0)
  a2 := st0_1 t
  w2 := hstage0_1 ((cfg0.slots t 1).cast nbuf0_1)
  a3 := st0_2 t
  w3 := hstage0_2 ((cfg0.slots t 2).cast nbuf0_2)
  a4 := st0_3 t
  w4 := hstage0_3 ((cfg0.slots t 3).cast nbuf0_3)
  a5 := st0_4 t
  w5 := hstage0_4 ((cfg0.slots t 4).cast nbuf0_4)
  a6 := st0_5 t
  w6 := hstage0_5 ((cfg0.slots t 5).cast nbuf0_5)
  a7 := st0_6 t
  w7 := hstage0_6 ((cfg0.slots t 6).cast nbuf0_6)
  a8 := st0_7 t
  w8 := hstage0_7 ((cfg0.slots t 7).cast nbuf0_7)
  a9 := st0_8 t
  w9 := hstage0_8 ((cfg0.slots t 8).cast nbuf0_8)
  a10 := st0_9 t
  w10 := hstage0_9 ((cfg0.slots t 9).cast nbuf0_9)
  a11 := st0_10 t
  w11 := hstage0_10 ((cfg0.slots t 10).cast nbuf0_10)
  a12 := Memref.whole cc0_scratch0
  w12 := Memref.isWhole_whole _
  a13 := Memref.whole cc0_scratch1
  w13 := Memref.isWhole_whole _
  a14 := Memref.whole cc0_scratch2
  w14 := Memref.isWhole_whole _

/-- The body's postcondition carries the invariant one point on and makes the outputs. -/
theorem post_inv (c : Dev nD) (t : Fin cfg0.N) (s s' : St F) (h : Post (grid0.coords t) s s')
    (h1 : s.x1 = xb m c t.val) (h2 : s.x2 = rb m c t.val) (h3 : s.x3 = wb m c t.val) (h4 : s.x4 = wsb m c t.val)
    (h5 : s.x5 = cpostb m c t.val) (h6 : s.x6 = cpreb m c t.val) (hI : Inv m c t.val s.x12 s.x13 s.x14) :
    Inv m c (t.val + 1) s'.x12 s'.x13 s'.x14 ∧ HMade m c t.val s'.x7 ∧ IsCodes (xb m c t.val) s'.x8 ∧ IsScale (xb m c t.val) s'.x9
      ∧ ZMade m c t.val s'.x10 ∧ ZsMade m c t.val s'.x11 := by
  have e0 : (grid0.coords t 0).val = t.val := coords_eq t
  have hR : 2 ≤ t.val → Reads m c t.val (epi (grid0.coords t) s) := by
    intro h2'
    obtain ⟨-, hI2⟩ := hI
    obtain ⟨hS, Q, hQ, hP⟩ := hI2 h2'
    refine ⟨Q, _, _, hQ, hS, hP, ?_⟩
    funext g
    unfold epi epiOf cur
    rw [e0, h2, h4, h5, h6, show (t.val + 1) % 3 = (t.val - 2) % 3 by omega]
  have hx : ∀ g, xDown s.x1 g = xDown (xb m c t.val) g := fun g => by rw [h1]
  refine ⟨⟨fun _ => ⟨?_, ?_⟩, fun h2' => ⟨?_, ?_⟩⟩, fun h2' => ⟨_, hR h2', h.h⟩, ?_, ?_, fun h2' => ⟨_, hR h2', h.z⟩, fun h2' => ⟨_, hR h2', h.zs⟩⟩
  · rw [Nat.add_sub_cancel, ← h1, ← e0]; exact h.xq
  · rw [Nat.add_sub_cancel, ← h1, ← e0]; exact h.xs
  · have := h.xs_ne ((t.val + 1 - 2) % 3) (by omega) (by rw [e0]; omega)
    rw [this]
    exact (hI.1 (by omega)).2
  · refine ⟨slot (prv (grid0.coords t)) s.x12, ?_, ?_⟩
    · have := (hI.1 (by omega)).1
      unfold prv
      rw [e0, show 1 - t.val % 2 = (t.val - 1) % 2 by omega]
      exact this
    · have p1 := h.proj
      have p2 := h.proj_last
      rw [h3] at p1 p2
      rw [Nat.add_sub_cancel, show (t.val + 1) % 2 = prv (grid0.coords t) by unfold prv; rw [e0]; omega]
      exact ⟨p1, p2⟩
  · rw [← h1]; exact h.codes
  · rw [← h1]; exact h.xs_out

theorem sound_body (c : Dev nD) (t : Fin cfg0.N) (s : St F)
    (h1 : s.x1 = xb m c t.val) (h2 : s.x2 = rb m c t.val) (h3 : s.x3 = wb m c t.val) (h4 : s.x4 = wsb m c t.val)
    (h5 : s.x5 = cpostb m c t.val) (h6 : s.x6 = cpreb m c t.val) (hI : Inv m c t.val s.x12 s.x13 s.x14) :
    holds c (argsAt t) s ⊢ wp frame (wpE (defs₀ (F := F)) Variants.none c none) Set.univ (bodyAt0 t) (fun _ =>
      iprop(∃ s', ⌜(Inv m c (t.val + 1) s'.x12 s'.x13 s'.x14 ∧ HMade m c t.val s'.x7 ∧ IsCodes (xb m c t.val) s'.x8 ∧ IsScale (xb m c t.val) s'.x9
      ∧ ZMade m c t.val s'.x10 ∧ ZsMade m c t.val s'.x11) ∧ s'.x1 = s.x1 ∧ s'.x2 = s.x2 ∧ s'.x3 = s.x3 ∧ s'.x4 = s.x4 ∧ s'.x5 = s.x5 ∧ s'.x6 = s.x6⌝ ∗ holds c (argsAt t) s')) :=
  Ev.mono (ev_body (c := c) (A := argsAt t) (i := grid0.coords t) s) (fun _ s' h => ⟨post_inv m c t s s' h h1 h2 h3 h4 h5 h6 hI, h.x1, h.x2, h.x3, h.x4, h.x5, h.x6⟩)

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ ∗ (∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))

theorem sound_point (c : Dev nD) (t : Fin cfg0.N) (Y : (w : Fin cfg0.W) → (cfg0.win w).block.Idx → Elt F (cfg0.win w).elt)
    (h1 : Y 0 = xb m c t.val) (h2 : Y 1 = rb m c t.val) (h3 : Y 2 = wb m c t.val) (h4 : Y 3 = wsb m c t.val)
    (h5 : Y 4 = cpostb m c t.val) (h6 : Y 5 = cpreb m c t.val) :
    bodyPre m c t Y ⊢ wp frame (wpE (defs₀ (F := F)) Variants.none c none) Set.univ (bodyAt0 t) (fun _ => bodyPost m c t Y) := by
  unfold bodyPre bodyPost
  rw [show (rdat m c).Φ t.succ = PhiN m c (t.val + 1) from rfl, show (rdat m c).Φ t.castSucc = PhiN m c t.val from rfl]
  unfold PhiN
  iintro ⟨⟨⟨%f12, %f13, %f14, %hI, S0, S1, S2⟩, Hg⟩, HO, H0, H1, H2, H3, H4, H5, H6, H7, H8, H9, H10⟩
  have hB := sound_body m c t ⟨Y 0, Y 1, Y 2, Y 3, Y 4, Y 5, Y 6, Y 7, Y 8, Y 9, Y 10, f12, f13, f14⟩ h1 h2 h3 h4 h5 h6 hI
  iapply (wp_wand_r (p := bodyAt0 (F := F) t) frame (wpE (defs₀ (F := F)) Variants.none c none) Set.univ)
  isplitl [S0 S1 S2 H0 H1 H2 H3 H4 H5 H6 H7 H8 H9 H10]
  · iapply hB
    unfold holds argsAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iexact S2
  iintro %a ⟨%s', %hs, H⟩
  unfold holds argsAt
  obtain ⟨⟨hI', hh, hc, hsc, hz, hzs⟩, e1, e2, e3, e4, e5, e6⟩ := hs
  icases H with ⟨H0, H1, H2, H3, H4, H5, H6, H7, H8, H9, H10, S0, S1, S2⟩
  isplitl [S0 S1 S2 Hg]
  · isplitl [S0 S1 S2]
    · iexists s'.x12, s'.x13, s'.x14
      isplitr; · ipureintro; exact hI'
      isplitl [S0]; · iexact S0
      isplitl [S1]; · iexact S1
      iexact S2
    iexact Hg
  isplitl [HO]; · iexact HO
  isplitl [H0]
  · iexists s'.x1
    isplitr; · ipureintro; exact e1
    iexact H0
  isplitl [H1]
  · iexists s'.x2
    isplitr; · ipureintro; exact e2
    iexact H1
  isplitl [H2]
  · iexists s'.x3
    isplitr; · ipureintro; exact e3
    iexact H2
  isplitl [H3]
  · iexists s'.x4
    isplitr; · ipureintro; exact e4
    iexact H3
  isplitl [H4]
  · iexists s'.x5
    isplitr; · ipureintro; exact e5
    iexact H4
  isplitl [H5]
  · iexists s'.x6
    isplitr; · ipureintro; exact e6
    iexact H5
  isplitl [H6]
  · iexists s'.x7
    isplitr; · ipureintro; exact hh
    iexact H6
  isplitl [H7]
  · iexists s'.x8
    isplitr; · ipureintro; exact hc
    iexact H7
  isplitl [H8]
  · iexists s'.x9
    isplitr; · ipureintro; exact hsc
    iexact H8
  isplitl [H9]
  · iexists s'.x10
    isplitr; · ipureintro; exact hz
    iexact H9
  iexists s'.x11
  isplitr; · ipureintro; exact hzs
  iexact H10

theorem find0 (c : Dev nD) (t : Fin cfg0.N) (Y) (h : (rdat m c).Finds 0 t Y) : Y = xb m c t.val := by
  obtain ⟨d, rfl⟩ := finds_in m c 0 rfl (fun _ _ _ => rfl) (fun _ _ _ h => h) t Y h
  unfold xb RDat.fetched RDat.blockOf iblk
  rw [pt_val]
  rfl
theorem find1 (c : Dev nD) (t : Fin cfg0.N) (Y) (h : (rdat m c).Finds 1 t Y) : Y = rb m c t.val := by
  obtain ⟨d, rfl⟩ := finds_in m c 1 rfl (fun _ _ _ => rfl) (fun _ _ _ h => h) t Y h
  unfold rb RDat.fetched RDat.blockOf iblk
  rw [pt_val]
  rfl
theorem find2 (c : Dev nD) (t : Fin cfg0.N) (Y) (h : (rdat m c).Finds 2 t Y) : Y = wb m c t.val := by
  obtain ⟨d, rfl⟩ := finds_in m c 2 rfl (fun _ _ _ => rfl) (fun _ _ _ h => h) t Y h
  unfold wb RDat.fetched RDat.blockOf iblk
  rw [pt_val]
  rfl
theorem find3 (c : Dev nD) (t : Fin cfg0.N) (Y) (h : (rdat m c).Finds 3 t Y) : Y = wsb m c t.val := by
  obtain ⟨d, rfl⟩ := finds_in m c 3 rfl (fun _ _ _ => rfl) (fun _ _ _ h => h) t Y h
  unfold wsb RDat.fetched RDat.blockOf iblk
  rw [pt_val]
  rfl
theorem find4 (c : Dev nD) (t : Fin cfg0.N) (Y) (h : (rdat m c).Finds 4 t Y) : Y = cpostb m c t.val := by
  obtain ⟨d, rfl⟩ := finds_in m c 4 rfl (fun _ _ _ => rfl) (fun _ _ _ h => h) t Y h
  unfold cpostb RDat.fetched RDat.blockOf iblk
  rw [pt_val]
  rfl
theorem find5 (c : Dev nD) (t : Fin cfg0.N) (Y) (h : (rdat m c).Finds 5 t Y) : Y = cpreb m c t.val := by
  obtain ⟨d, rfl⟩ := finds_in m c 5 rfl (fun _ _ _ => rfl) (fun _ _ _ h => h) t Y h
  unfold cpreb RDat.fetched RDat.blockOf iblk
  rw [pt_val]
  rfl

theorem body_obligation (c : Dev nD) : (rdat (F := F) m c).BodyObligation (defs₀ (F := F)) Variants.none () Set.univ := fun t Y hY => by
  rw [bigSep_W0, bigSep_W0, defs₀_row]
  exact triple_restated (sound_point m c t Y (find0 m c t _ (hY 0)) (find1 m c t _ (hY 1)) (find2 m c t _ (hY 2)) (find3 m c t _ (hY 3)) (find4 m c t _ (hY 4)) (find5 m c t _ (hY 5))) rfl .rfl fun _ => .rfl

theorem hin (c : Dev nD) : (Pipeline.ΦA spec0 c : sProp 𝕄) ⊢ (rdat m c).Φ 0 := by
  rw [show (rdat m c).Φ 0 = PhiN m c 0 from rfl]
  unfold Pipeline.ΦA PhiN
  rw [scopedRest0_eq]
  simp only [owns_whole]
  iintro ⟨⟨⟨%f0, S0⟩, ⟨%f1, S1⟩, ⟨%f2, S2⟩⟩, Hg⟩
  isplitr [Hg]
  · iexists f0, f1, f2
    isplitr
    · ipureintro; exact ⟨fun h => absurd h (by decide), fun h => absurd h (by decide)⟩
    isplitl [S0]; · iexact S0
    isplitl [S1]; · iexact S1
    iexact S2
  iexact Hg

theorem hout (c : Dev nD) : (rdat m c).Φ (Fin.last cfg0.N) ⊢ (Pipeline.ΦA spec0 c : sProp 𝕄) := by
  rw [show (rdat m c).Φ (Fin.last cfg0.N) = PhiN m c cfg0.N from rfl]
  unfold Pipeline.ΦA PhiN
  rw [scopedRest0_eq]
  simp only [owns_whole]
  iintro ⟨⟨%f0, %f1, %f2, -, S0, S1, S2⟩, Hg⟩
  isplitr [Hg]
  · isplitl [S0]; · iexists f0; iexact S0
    isplitl [S1]; · iexists f1; iexact S1
    iexists f2; iexact S2
  iexact Hg

set_option backward.isDefEq.respectTransparency.types false in
/-- The run: every array at contents the relations allow, and every counter back at zero. -/
theorem run_main :
    θ_run defs (onTc (τ := τ) (main (F := F))) (s₀ m ρ)
      (fun r => Pipeline.RDat.FramePost cfg0 (rdat m) (V m) r ∧ r.2.sem = fun _ => 0) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := hin m) (hout := hout m) (Q' := fun r => Pipeline.RDat.FramePost cfg0 (rdat m) (V m) r ∧ r.2.sem = fun _ => 0) (hQ' := fun _ h => h)

/-- The frame. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.KI.Rules.lean ====
/- Rules for the body's loads and stores on the contents of its fourteen buffers: a program logic whose assertions are
   plain propositions about those contents. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import proofs.«01_k».proof.Proof.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Blocks Idealize.ShloMosaic.ValueIdx

variable {F : FTy → Type} [FloatOps F]

local notation "𝕄" => MT nD τ sig Unit (Elt F) ℕ (UR sig nD τ) ℕ

/-- The body's programs. -/
abbrev Pg (F : FTy → Type) [FloatOps F] (α : Type) := Prog (TpuEff nD τ sig (Elt F) Λ₀ .tc) α

/-- Running a body program on core `c` to a postcondition. -/
abbrev run (c : Dev nD) {α : Type} (p : Pg F α) (Q : α → sProp 𝕄) : sProp 𝕄 :=
  wp frame (wpE (defs₀ (F := F)) Variants.none c none) Set.univ p Q

/-- The fourteen buffers the body is handed. -/
structure Args where
  a1 : Memref sig .tc .vmem S256x1152 .bf16
  w1 : a1.IsWhole
  a2 : Memref sig .tc .vmem S256x6784 .bf16
  w2 : a2.IsWhole
  a3 : Memref sig .tc .vmem S1152x6784 .fp8e4m3
  w3 : a3.IsWhole
  a4 : Memref sig .tc .vmem S1x6784 .f32
  w4 : a4.IsWhole
  a5 : Memref sig .tc .vmem S1x6784 .f32
  w5 : a5.IsWhole
  a6 : Memref sig .tc .vmem S1x6784 .f32
  w6 : a6.IsWhole
  a7 : Memref sig .tc .vmem S256x6784 .bf16
  w7 : a7.IsWhole
  a8 : Memref sig .tc .vmem S256x1152 .fp8e4m3
  w8 : a8.IsWhole
  a9 : Memref sig .tc .vmem S256x1 .f32
  w9 : a9.IsWhole
  a10 : Memref sig .tc .vmem S256x6784 .fp8e4m3
  w10 : a10.IsWhole
  a11 : Memref sig .tc .vmem S256x1 .f32
  w11 : a11.IsWhole
  a12 : Memref sig .tc .vmem S2x256x1152 .fp8e4m3
  w12 : a12.IsWhole
  a13 : Memref sig .tc .vmem S3x256x1 .f32
  w13 : a13.IsWhole
  a14 : Memref sig .tc .vmem S2x256x6784 .f32
  w14 : a14.IsWhole

/-- Their contents. -/
structure St (F : FTy → Type) where
  x1 : Vec F S256x1152 .bf16
  x2 : Vec F S256x6784 .bf16
  x3 : Vec F S1152x6784 .fp8e4m3
  x4 : Vec F S1x6784 .f32
  x5 : Vec F S1x6784 .f32
  x6 : Vec F S1x6784 .f32
  x7 : Vec F S256x6784 .bf16
  x8 : Vec F S256x1152 .fp8e4m3
  x9 : Vec F S256x1 .f32
  x10 : Vec F S256x6784 .fp8e4m3
  x11 : Vec F S256x1 .f32
  x12 : Vec F S2x256x1152 .fp8e4m3
  x13 : Vec F S3x256x1 .f32
  x14 : Vec F S2x256x6784 .f32

/-- The buffers hold the contents. -/
def holds (c : Dev nD) (A : Args) (s : St F) : sProp 𝕄 :=
  iprop(owns (c : Thread nD τ) A.a1 fullShare s.x1 ∗ owns (c : Thread nD τ) A.a2 fullShare s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13 ∗ owns (c : Thread nD τ) A.a14 fullShare s.x14)

/-- The program, from the contents `s`, ends at a result and contents that satisfy `Q`. -/
def Ev (c : Dev nD) (A : Args) {α : Type} (p : Pg F α) (s : St F) (Q : α → St F → Prop) : Prop :=
  holds c A s ⊢ run c p (fun a => iprop(∃ s', ⌜Q a s'⌝ ∗ holds c A s'))

section Rules

variable {c : Dev nD} {A : Args} {α β : Type}

theorem Ev.ret {a : α} {s : St F} {Q : α → St F → Prop} (h : Q a s) : Ev c A (.ret a) s Q := by
  unfold Ev run
  rw [wp_ret]
  iintro H
  imodintro
  iexists s
  isplitr
  · ipureintro; exact h
  iexact H

theorem Ev.pure {a : α} {s : St F} {Q : α → St F → Prop} (h : Q a s) : Ev c A (Pure.pure a) s Q := Ev.ret h

theorem Ev.mono {p : Pg F α} {s : St F} {Q Q' : α → St F → Prop} (h : Ev c A p s Q) (hQ : ∀ a s', Q a s' → Q' a s') : Ev c A p s Q' := by
  unfold Ev run at h ⊢
  refine h.trans (wp_mono _ _ _ fun a => ?_)
  iintro ⟨%s', %h', H⟩
  iexists s'
  isplitr
  · ipureintro; exact hQ a s' h'
  iexact H

/-- Lifting an entailment out of the existential. -/
theorem Ev.elim {p : Pg F α} {P : St F → Prop} {Q : α → St F → Prop} (h : ∀ s, P s → Ev c A p s Q) :
    iprop(∃ s', ⌜P s'⌝ ∗ holds c A s') ⊢ run c p (fun a => iprop(∃ s', ⌜Q a s'⌝ ∗ holds c A s')) := by
  iintro ⟨%s', %h', H⟩
  have hE := h s' h'
  unfold Ev at hE
  iapply hE
  iexact H

theorem Ev.bind {p : Pg F α} {k : α → Pg F β} {s : St F} {Q : α → St F → Prop} {R : β → St F → Prop}
    (hp : Ev c A p s Q) (hk : ∀ a s', Q a s' → Ev c A (k a) s' R) : Ev c A (p >>= k) s R := by
  unfold Ev run at hp ⊢
  rw [wp_bind]
  exact hp.trans (wp_mono _ _ _ fun a => Ev.elim (P := Q a) (hk a))

/-- A counted loop by an invariant on the contents and the carried value. -/
theorem Ev.for {σ : Type} {w : ℕ} (l : Scf.Loop w) (hok : l.OK) (init : σ) (body : Fin l.trips → σ → Pg F σ)
    (I : ℕ → σ → St F → Prop) {s : St F} (h0 : I 0 init s)
    (hb : ∀ (k : Fin l.trips) (acc : σ) (s' : St F), I k acc s' → Ev c A (body k acc) s' (I (k.val + 1))) :
    Ev c A (Scf.Loop.for l hok init body) s (I l.trips) := by
  unfold Ev run
  refine BIBase.Entails.trans ?_ (Scf.wp_for _ _ _ l.lb l.ub l.st hok init body (fun k acc => iprop(∃ s', ⌜I k acc s'⌝ ∗ holds c A s'))
    (fun k acc => Ev.elim (P := I k acc) (hb k acc)))
  iintro H
  isplitl [H]
  · iexists s
    isplitr
    · ipureintro; exact h0
    iexact H
  iintro %acc H
  iexact H

/-- What a load through a rectangle of a buffer's slot reads. -/
theorem read_slot {sp : Space} {sh : Shape} {e : EltTy} (m : Memref sig .tc sp sh e) (r0 : Rect sh) (hr : ∀ a, r0.stride a = 1) (s' : Shape)
    (hq : r0.shape.Squeezes s') (r : Rect s') (f : m.view.ty.Contents (Elt F)) :
    ((m.slice r0 hr).squeeze s' hq).view.readAt (Elt F) r.toLoadRect f
      = fun j => m.view.read (Elt F) f (r0.emb (Shape.reshapeEquiv hq.numel_eq (r.emb j))) := rfl

theorem read_overlay {sp : Space} {sh : Shape} {e : EltTy} (m : Memref sig .tc sp sh e) (r : Rect sh)
    (f : m.view.ty.Contents (Elt F)) (w : r.shape.Idx → Elt F e) :
    m.view.read (Elt F) ((m.access r).write (Elt F) f w Finset.univ) = r.overlay (m.view.read (Elt F) f) w := by
  funext y
  by_cases hy : y ∈ r.set
  · rw [← Rect.map_emb_univ, Finset.mem_map] at hy
    obtain ⟨x, -, rfl⟩ := hy
    rw [Rect.overlay_emb]
    exact View.read_slice_write_emb r f w (Finset.mem_univ x)
  · rw [Rect.overlay_of_not_mem _ _ _ hy]
    exact View.read_slice_write_of_not_mem r f w Finset.univ (by rw [Rect.map_emb_univ]; exact hy)

theorem read_slotOverlay {sp : Space} {sh : Shape} {e : EltTy} (m : Memref sig .tc sp sh e) (r0 : Rect sh) (hr : ∀ a, r0.stride a = 1) (s' : Shape)
    (hq : r0.shape.Squeezes s') (r : Rect s') (f : m.view.ty.Contents (Elt F)) (w : r.shape.Idx → Elt F e) :
    m.view.read (Elt F) ((((m.slice r0 hr).squeeze s' hq).access r).write (Elt F) f w Finset.univ)
      = slotOverlay r0 hq.numel_eq r (m.view.read (Elt F) f) w := by
  have key : ∀ z, (m.slice r0 hr).view.read (Elt F) ((((m.slice r0 hr).squeeze s' hq).access r).write (Elt F) f w Finset.univ) (Shape.reshapeEquiv hq.numel_eq z)
      = r.overlay (fun y => m.view.read (Elt F) f (r0.emb (Shape.reshapeEquiv hq.numel_eq y))) w z := fun z =>
    congrFun (read_overlay ((m.slice r0 hr).squeeze s' hq) r f w) z
  funext y
  unfold slotOverlay
  by_cases hy : y ∈ r0.set
  · rw [← Rect.map_emb_univ, Finset.mem_map] at hy
    obtain ⟨x, -, rfl⟩ := hy
    rw [Rect.overlay_emb]
    obtain ⟨z, rfl⟩ := (Shape.reshapeEquiv hq.numel_eq).surjective x
    rw [Equiv.symm_apply_apply]
    exact key z
  · rw [Rect.overlay_of_not_mem _ _ _ hy]
    rw [View.read_apply, View.read_apply, View.write_of_not_mem]
    intro hm
    have h1 : m.view.emb y ∈ (m.view.slice r0).set := by
      have := (View.setOn_subset_set _ _ hm : _)
      have h2 := View.set_slice_subset _ _ this
      exact (View.set_reshape (v := m.view.slice r0) hq.numel_eq) ▸ h2
    rw [View.set_slice] at h1
    exact hy ((Finset.mem_map' m.view.emb).mp h1)

/-- A buffer taken out of the fourteen, to be put back at any contents. -/
def Foc (c : Dev nD) (A : Args) (s : St F) {sh : Shape} {e : EltTy} (m : Memref sig .tc .vmem sh e) (X : sh.Idx → Elt F e)
    (upd : (sh.Idx → Elt F e) → St F) : Prop :=
  holds c A s ⊢ iprop(owns (c : Thread nD τ) m fullShare X ∗ (∀ Y, owns (c : Thread nD τ) m fullShare Y -∗ holds c A (upd Y)))

section Mem
variable {sh : Shape} {e : EltTy} {m : Memref sig .tc .vmem sh e} {X : sh.Idx → Elt F e} {upd : (sh.Idx → Elt F e) → St F} {s : St F}
  {Q : α → St F → Prop}

theorem Ev.load (hf : Foc c A s m X upd) (hu : upd X = s) {r : Rect sh} {hl : m.view.LoadsAt r.toLoadRect}
    {k : (r.shape.Idx → Elt F e) → Pg F α} (h : Ev c A (k fun j => X (r.emb j)) s Q) :
    Ev c A (.op (.load m r.toLoadRect hl) k) s Q := by
  replace h : Ev c A (k fun j => X (r.emb j)) (upd X) Q := by rw [hu]; exact h
  unfold Ev at h ⊢
  unfold Foc at hf
  refine hf.trans ?_
  unfold owns
  iintro ⟨⟨%f, %hX, H⟩, HK⟩
  subst hX
  iapply (wp_load Variants.none (c : Thread nD τ) none Set.univ (m := m) (View.setOn_subset_set _ _)) $$ H
  iintro H
  iapply h
  iapply HK
  iexists f
  isplitr
  · ipureintro; rfl
  iexact H

theorem Ev.store (hf : Foc c A s m X upd) {r : Rect sh} {w : r.shape.Idx → Elt F e} {hx : (m.access r).Stores Finset.univ}
    {hm : (Finset.univ : Finset r.shape.Idx) = Finset.univ ∨ ∀ a, r.stride a = 1}
    {k : PUnit → Pg F α} (h : Ev c A (k ⟨⟩) (upd (r.overlay X w)) Q) :
    Ev c A (.op (.store m r w Finset.univ hx hm) k) s Q := by
  unfold Ev at h ⊢
  unfold Foc at hf
  refine hf.trans ?_
  unfold owns
  iintro ⟨⟨%f, %hX, H⟩, HK⟩
  subst hX
  iapply (wp_store Variants.none (c : Thread nD τ) none Set.univ (m := m) (r := r) (Mk := Finset.univ) (S := m.view.set)
    ((View.setOn_subset_set _ _).trans (View.set_slice_subset _ _))) $$ H
  iintro H
  iapply h
  iapply HK
  iexists _
  isplitr [H]
  swap
  · iexact H
  ipureintro
  exact read_overlay m r f w

theorem Ev.load_slot (hf : Foc c A s m X upd) (hu : upd X = s) {r0 : Rect sh} {hr : ∀ a, r0.stride a = 1} {s' : Shape}
    {hq : r0.shape.Squeezes s'} {r : Rect s'} {hl : ((m.slice r0 hr).squeeze s' hq).view.LoadsAt r.toLoadRect}
    {k : (r.shape.Idx → Elt F e) → Pg F α} (h : Ev c A (k fun j => X (r0.emb (Shape.reshapeEquiv hq.numel_eq (r.emb j)))) s Q) :
    Ev c A (.op (.load ((m.slice r0 hr).squeeze s' hq) r.toLoadRect hl) k) s Q := by
  replace h : Ev c A (k fun j => X (r0.emb (Shape.reshapeEquiv hq.numel_eq (r.emb j)))) (upd X) Q := by rw [hu]; exact h
  unfold Ev at h ⊢
  unfold Foc at hf
  refine hf.trans ?_
  unfold owns
  iintro ⟨⟨%f, %hX, H⟩, HK⟩
  subst hX
  iapply (wp_load Variants.none (c : Thread nD τ) none Set.univ (m := (m.slice r0 hr).squeeze s' hq) (S := m.view.set)
    ((View.setOn_subset_set _ _).trans (View.set_reshape_subset _ _ (View.set_slice_subset _ _)))) $$ H
  iintro H
  iapply h
  iapply HK
  iexists f
  isplitr
  · ipureintro; rfl
  iexact H

theorem Ev.store_slot (hf : Foc c A s m X upd) {r0 : Rect sh} {hr : ∀ a, r0.stride a = 1} {s' : Shape}
    {hq : r0.shape.Squeezes s'} {r : Rect s'} {w : r.shape.Idx → Elt F e}
    {hx : (((m.slice r0 hr).squeeze s' hq).access r).Stores Finset.univ}
    {hm : (Finset.univ : Finset r.shape.Idx) = Finset.univ ∨ ∀ a, r.stride a = 1}
    {k : PUnit → Pg F α} (h : Ev c A (k ⟨⟩) (upd (slotOverlay r0 hq.numel_eq r X w)) Q) :
    Ev c A (.op (.store ((m.slice r0 hr).squeeze s' hq) r w Finset.univ hx hm) k) s Q := by
  unfold Ev at h ⊢
  unfold Foc at hf
  refine hf.trans ?_
  unfold owns
  iintro ⟨⟨%f, %hX, H⟩, HK⟩
  subst hX
  iapply (wp_store Variants.none (c : Thread nD τ) none Set.univ (m := (m.slice r0 hr).squeeze s' hq) (r := r) (Mk := Finset.univ) (S := m.view.set)
    ((View.setOn_subset_set _ _).trans ((View.set_slice_subset _ _).trans
      (View.set_reshape_subset _ _ (View.set_slice_subset _ _))))) $$ H
  iintro H
  iapply h
  iapply HK
  iexists _
  isplitr [H]
  swap
  · iexact H
  ipureintro
  exact read_slotOverlay m r0 hr s' hq r f w

end Mem

section Blk
variable {P R N a b : ℕ} [NeZero P] [NeZero R] [NeZero N] {e : EltTy} {s : St F} {Q : α → St F → Prop}

theorem Ev.load2 {m : Memref sig .tc .vmem ⟨2, ![R, N]⟩ e} {X : (⟨2, ![R, N]⟩ : Shape).Idx → Elt F e} {upd : ((⟨2, ![R, N]⟩ : Shape).Idx → Elt F e) → St F}
    (hf : Foc c A s m X upd) (hu : upd X = s) {off : Fin 2 → ℕ} {o0 o1 : ℕ} (ho : off = ![o0, o1]) {inb} {hl}
    {k : ((⟨2, ![a, b]⟩ : Shape).Idx → Elt F e) → Pg F α} (h : Ev c A (k (sub2 o0 o1 X)) s Q) :
    Ev c A (Prog.lift (.load m (Rect.unit (s := ⟨2, ![R, N]⟩) off ![a, b] inb).toLoadRect hl) >>= k) s Q :=
  Ev.load hf hu (r := Rect.unit (s := ⟨2, ![R, N]⟩) off ![a, b] inb) (k := k) (by
    have e := Cert.Blocks.load2 (h := inb) ho X
    rw [← e] at h
    exact h)

theorem Ev.store2 {m : Memref sig .tc .vmem ⟨2, ![R, N]⟩ e} {X : (⟨2, ![R, N]⟩ : Shape).Idx → Elt F e} {upd : ((⟨2, ![R, N]⟩ : Shape).Idx → Elt F e) → St F}
    (hf : Foc c A s m X upd) {off : Fin 2 → ℕ} {o0 o1 : ℕ} (ho : off = ![o0, o1]) {inb} {hx} {hm} {w : (⟨2, ![a, b]⟩ : Shape).Idx → Elt F e}
    {k : PUnit → Pg F α} (h : Ev c A (k ⟨⟩) (upd (put2 o0 o1 X w)) Q) :
    Ev c A (Prog.lift (.store m (Rect.unit (s := ⟨2, ![R, N]⟩) off ![a, b] inb) w Finset.univ hx hm) >>= k) s Q :=
  Ev.store hf (r := Rect.unit (s := ⟨2, ![R, N]⟩) off ![a, b] inb) (k := k) (by
    have e := Cert.Blocks.store2 (h := inb) ho X w
    rw [← e] at h
    exact h)

theorem Ev.loadSlot {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) (hu : upd X = s) {off0 : Fin 3 → ℕ} {p : ℕ} (hp : off0 = ![p, 0, 0]) {off : Fin 2 → ℕ} {o0 o1 : ℕ} (ho : off = ![o0, o1])
    {inb0} {hr} {hq} {inb} {hl}
    {k : ((⟨2, ![a, b]⟩ : Shape).Idx → Elt F e) → Pg F α} (h : Ev c A (k (sub2 o0 o1 (slot p X))) s Q) :
    Ev c A (Prog.lift (.load ((m.slice (Rect.unit (s := ⟨3, ![P, R, N]⟩) off0 ![1, R, N] inb0) hr).squeeze ⟨2, ![R, N]⟩ hq)
      (Rect.unit (s := ⟨2, ![R, N]⟩) off ![a, b] inb).toLoadRect hl) >>= k) s Q :=
  Ev.load_slot hf hu (r0 := Rect.unit (s := ⟨3, ![P, R, N]⟩) off0 ![1, R, N] inb0) (hr := hr) (hq := hq) (r := Rect.unit (s := ⟨2, ![R, N]⟩) off ![a, b] inb) (k := k) (by
    have e := Cert.Blocks.loadSlot (h := inb0) hp hq.numel_eq (h' := inb) ho X
    rw [← e] at h
    exact h)

theorem Ev.storeSlot {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) {off0 : Fin 3 → ℕ} {p : ℕ} (hp : off0 = ![p, 0, 0]) {off : Fin 2 → ℕ} {o0 o1 : ℕ} (ho : off = ![o0, o1])
    {inb0} {hr} {hq} {inb} {hx} {hm} {w : (⟨2, ![a, b]⟩ : Shape).Idx → Elt F e}
    {k : PUnit → Pg F α} (h : Ev c A (k ⟨⟩) (upd (setSlot p X (put2 o0 o1 (slot p X) w))) Q) :
    Ev c A (Prog.lift (.store ((m.slice (Rect.unit (s := ⟨3, ![P, R, N]⟩) off0 ![1, R, N] inb0) hr).squeeze ⟨2, ![R, N]⟩ hq)
      (Rect.unit (s := ⟨2, ![R, N]⟩) off ![a, b] inb) w Finset.univ hx hm) >>= k) s Q :=
  Ev.store_slot hf (r0 := Rect.unit (s := ⟨3, ![P, R, N]⟩) off0 ![1, R, N] inb0) (hr := hr) (hq := hq) (r := Rect.unit (s := ⟨2, ![R, N]⟩) off ![a, b] inb) (k := k) (by
    have e := Cert.Blocks.storeSlot (h := inb0) hp hq.numel_eq (h' := inb) ho X w
    rw [← e] at h
    exact h)

theorem Ev.load3 {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) (hu : upd X = s) {off : Fin 3 → ℕ} {p : ℕ} (ho : off = ![p, 0, 0]) {inb} {hl}
    {k : ((⟨3, ![1, R, N]⟩ : Shape).Idx → Elt F e) → Pg F α} (h : Ev c A (k (fun j => slot p X (ix2 (j 1) (j 2)))) s Q) :
    Ev c A (Prog.lift (.load m (Rect.unit (s := ⟨3, ![P, R, N]⟩) off ![1, R, N] inb).toLoadRect hl) >>= k) s Q :=
  Ev.load hf hu (r := Rect.unit (s := ⟨3, ![P, R, N]⟩) off ![1, R, N] inb) (k := k) (by
    have e := Cert.Blocks.load3 (h := inb) ho X
    rw [← e] at h
    exact h)

theorem Ev.store3 {m : Memref sig .tc .vmem ⟨3, ![P, R, N]⟩ e} {X : (⟨3, ![P, R, N]⟩ : Shape).Idx → Elt F e} {upd : ((⟨3, ![P, R, N]⟩ : Shape).Idx → Elt F e) → St F}
    (hf : Foc c A s m X upd) {off : Fin 3 → ℕ} {p o0 o1 : ℕ} (ho : off = ![p, o0, o1]) {inb} {hx} {hm} {w : (⟨3, ![1, a, b]⟩ : Shape).Idx → Elt F e}
    {k : PUnit → Pg F α}
    (h : Ev c A (k ⟨⟩) (upd (setSlot p X (put2 o0 o1 (slot p X) (fun j : (⟨2, ![a, b]⟩ : Shape).Idx => w (ix3 (⟨0, Nat.one_pos⟩ : Fin 1) (j 0) (j 1)))))) Q) :
    Ev c A (Prog.lift (.store m (Rect.unit (s := ⟨3, ![P, R, N]⟩) off ![1, a, b] inb) w Finset.univ hx hm) >>= k) s Q :=
  Ev.store hf (r := Rect.unit (s := ⟨3, ![P, R, N]⟩) off ![1, a, b] inb) (k := k) (by
    have e := Cert.Blocks.store3 (h := inb) ho X w
    rw [← e] at h
    exact h)

end Blk

theorem foc1 (s : St F) : Foc c A s A.a1 s.x1 (fun Y => { s with x1 := Y }) := by
  unfold Foc holds
  iintro ⟨H1, H2, H3, H4, H5, H6, H7, H8, H9, H10, H11, H12, H13, H14⟩
  isplitl [H1]; · iexact H1
  iintro %Y H1
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc2 (s : St F) : Foc c A s A.a2 s.x2 (fun Y => { s with x2 := Y }) := by
  unfold Foc holds
  iintro ⟨H1, H2, H3, H4, H5, H6, H7, H8, H9, H10, H11, H12, H13, H14⟩
  isplitl [H2]; · iexact H2
  iintro %Y H2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc3 (s : St F) : Foc c A s A.a3 s.x3 (fun Y => { s with x3 := Y }) := by
  unfold Foc holds
  iintro ⟨H1, H2, H3, H4, H5, H6, H7, H8, H9, H10, H11, H12, H13, H14⟩
  isplitl [H3]; · iexact H3
  iintro %Y H3
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc4 (s : St F) : Foc c A s A.a4 s.x4 (fun Y => { s with x4 := Y }) := by
  unfold Foc holds
  iintro ⟨H1, H2, H3, H4, H5, H6, H7, H8, H9, H10, H11, H12, H13, H14⟩
  isplitl [H4]; · iexact H4
  iintro %Y H4
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc5 (s : St F) : Foc c A s A.a5 s.x5 (fun Y => { s with x5 := Y }) := by
  unfold Foc holds
  iintro ⟨H1, H2, H3, H4, H5, H6, H7, H8, H9, H10, H11, H12, H13, H14⟩
  isplitl [H5]; · iexact H5
  iintro %Y H5
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc6 (s : St F) : Foc c A s A.a6 s.x6 (fun Y => { s with x6 := Y }) := by
  unfold Foc holds
  iintro ⟨H1, H2, H3, H4, H5, H6, H7, H8, H9, H10, H11, H12, H13, H14⟩
  isplitl [H6]; · iexact H6
  iintro %Y H6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc7 (s : St F) : Foc c A s A.a7 s.x7 (fun Y => { s with x7 := Y }) := by
  unfold Foc holds
  iintro ⟨H1, H2, H3, H4, H5, H6, H7, H8, H9, H10, H11, H12, H13, H14⟩
  isplitl [H7]; · iexact H7
  iintro %Y H7
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc8 (s : St F) : Foc c A s A.a8 s.x8 (fun Y => { s with x8 := Y }) := by
  unfold Foc holds
  iintro ⟨H1, H2, H3, H4, H5, H6, H7, H8, H9, H10, H11, H12, H13, H14⟩
  isplitl [H8]; · iexact H8
  iintro %Y H8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc9 (s : St F) : Foc c A s A.a9 s.x9 (fun Y => { s with x9 := Y }) := by
  unfold Foc holds
  iintro ⟨H1, H2, H3, H4, H5, H6, H7, H8, H9, H10, H11, H12, H13, H14⟩
  isplitl [H9]; · iexact H9
  iintro %Y H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc10 (s : St F) : Foc c A s A.a10 s.x10 (fun Y => { s with x10 := Y }) := by
  unfold Foc holds
  iintro ⟨H1, H2, H3, H4, H5, H6, H7, H8, H9, H10, H11, H12, H13, H14⟩
  isplitl [H10]; · iexact H10
  iintro %Y H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc11 (s : St F) : Foc c A s A.a11 s.x11 (fun Y => { s with x11 := Y }) := by
  unfold Foc holds
  iintro ⟨H1, H2, H3, H4, H5, H6, H7, H8, H9, H10, H11, H12, H13, H14⟩
  isplitl [H11]; · iexact H11
  iintro %Y H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc12 (s : St F) : Foc c A s A.a12 s.x12 (fun Y => { s with x12 := Y }) := by
  unfold Foc holds
  iintro ⟨H1, H2, H3, H4, H5, H6, H7, H8, H9, H10, H11, H12, H13, H14⟩
  isplitl [H12]; · iexact H12
  iintro %Y H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc13 (s : St F) : Foc c A s A.a13 s.x13 (fun Y => { s with x13 := Y }) := by
  unfold Foc holds
  iintro ⟨H1, H2, H3, H4, H5, H6, H7, H8, H9, H10, H11, H12, H13, H14⟩
  isplitl [H13]; · iexact H13
  iintro %Y H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem foc14 (s : St F) : Foc c A s A.a14 s.x14 (fun Y => { s with x14 := Y }) := by
  unfold Foc holds
  iintro ⟨H1, H2, H3, H4, H5, H6, H7, H8, H9, H10, H11, H12, H13, H14⟩
  isplitl [H14]; · iexact H14
  iintro %Y H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Rules

end Cert.KernelIdeal.Hand

end
-- ==== Proof.KI.Quant.lean ====
/- The body's quantising loops (the last part of the body), run on the contents of its buffers. -/
module

public import proofs.«01_k».proof.Proof.KI.Rules
public import Idealize.ShloMosaic.Lib.ValueLayout
public import Idealize.ShloMosaic.Lib.ValueLayoutCasts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- The block of 32 rows and 128 columns at block row `g`, block column `k`. -/
abbrev B {N : ℕ} [NeZero N] {β : Type} (g k : ℕ) (X : (⟨2, ![256, N]⟩ : Shape).Idx → β) : S32x128.Idx → β := sub2 (32 * g) (128 * k) X
/-- The 32 rows at block row `g` of one column. -/
abbrev R1 {β : Type} (g : ℕ) (X : S256x1.Idx → β) : S32x1.Idx → β := sub2 (32 * g) 0 X
/-- The 128 columns at block column `k` of one row. -/
abbrev C1 {β : Type} (k : ℕ) (X : S1x6784.Idx → β) : S1x128.Idx → β := sub2 0 (128 * k) X

/-- The stack place a step writes. -/
abbrev cur (i : grid0.Coords) : ℕ := (i 0).val % 2
/-- The stack place the step before wrote. -/
abbrev prv (i : grid0.Coords) : ℕ := 1 - (i 0).val % 2

theorem pay4_eq (v362 : FVec F S32x1 .f32) (v379 : Vec F S32x128 .bf16) :
    (fun j : S32x128.Idx => k0_pay4 v362 v379 (ix3 (⟨0, Nat.one_pos⟩ : Fin 1) (j 0) (j 1))) = k0_pay3 v362 v379 := by
  funext j
  unfold k0_pay4
  refine (shapeCast_ab_1ab_apply (a := 32) (b := 128) _ _ (⟨0, Nat.one_pos⟩ : Fin 1) (j 0) (j 1)).trans ?_
  rw [shapeCast_self]
  exact congrArg (k0_pay3 v362 v379) (eq_ix2 j).symm

/-- What the running maximum over the first columns of a row block is. -/
def amax6 (X1 : Vec F S256x1152 .bf16) (g : ℕ) : ℕ → FVec F S32x128 .bf16
  | 0 => k0_pay25 (B g 0 X1)
  | k + 1 => k0_pay26 (amax6 X1 g k) (B g (k + 1) X1)

/-- The scales of a row block, and the factors its codes are taken with. -/
def xUp (X1 : Vec F S256x1152 .bf16) (g : ℕ) : FVec F S32x1 .f32 := k0_pay30 (k0_pay27 (amax6 X1 g 8)) (k0_pay28 (amax6 X1 g 8))
def xDown (X1 : Vec F S256x1152 .bf16) (g : ℕ) : FVec F S32x1 .f32 := k0_pay31 (k0_pay27 (amax6 X1 g 8)) (k0_pay28 (amax6 X1 g 8))

variable {c : Dev nD} {A : Args} {i : grid0.Coords}

theorem ev_t7 (g : Fin k0_t5_loop.trips) (v362 : FVec F S32x1 .f32) (s : St F) :
    Ev c A (Scf.Loop.for k0_t7_loop k0_t7_ok ⟨⟩ (k0_t7_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g v362)) s (fun _ s' =>
      ∃ X8 X12, s' = { s with x8 := X8, x12 := X12 }
        ∧ (∀ k < 9, B g k X8 = k0_pay3 v362 (B g k s.x1)) ∧ (∀ k < 9, B g k (slot (cur i) X12) = k0_pay3 v362 (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12) := by
  have hg : g.val < 8 := g.isLt
  have hc : cur i < 2 := Nat.mod_lt _ (by decide)
  have hp : prv i < 2 := by show 1 - (i 0).val % 2 < 2; omega
  have hcp : prv i ≠ cur i := by show 1 - (i 0).val % 2 ≠ (i 0).val % 2; omega
  refine Ev.mono (Ev.for _ _ _ _ (fun n _ s' =>
      ∃ X8 X12, s' = { s with x8 := X8, x12 := X12 }
        ∧ (∀ k < n, B g k X8 = k0_pay3 v362 (B g k s.x1)) ∧ (∀ k < n, B g k (slot (cur i) X12) = k0_pay3 v362 (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12) ?_ ?_) ?_
  · exact ⟨s.x8, s.x12, rfl, by omega, by omega, fun _ _ _ _ _ => rfl, fun _ _ _ _ _ => rfl, rfl⟩
  · rintro n _ s' ⟨X8, X12, rfl, h1, h2, h3, h4, h5⟩
    have hn : n.val < 9 := n.isLt
    unfold k0_t7_body
    refine Ev.load2 (foc1 _) rfl (k0_off19_eq g n) ?_
    refine Ev.load2 (foc8 _) rfl (k0_off19_eq g n) ?_
    refine Ev.store2 (foc8 _) (k0_off19_eq g n) ?_
    refine Ev.loadSlot (foc12 _) rfl (k0_off20_eq i) (k0_off19_eq g n) ?_
    refine Ev.store3 (foc12 _) (k0_off21_eq i g n) ?_
    rw [pay4_eq]
    refine Ev.pure ⟨_, _, rfl, ?_, ?_, ?_, ?_, ?_⟩
    · intro k hk
      by_cases e : k = n.val
      · subst e; exact sub2_put2 (by omega) (by omega) _ _
      · exact (sub2_put2_ne (by omega) (by omega) (by omega) _ _).trans (h1 k (by omega))
    · intro k hk
      dsimp only
      rw [slot_setSlot hc]
      by_cases e : k = n.val
      · subst e; exact sub2_put2 (by omega) (by omega) _ _
      · exact (sub2_put2_ne (by omega) (by omega) (by omega) _ _).trans (h2 k (by omega))
    · intro g' hg' hne k hk
      exact (sub2_put2_ne (by omega) (by omega) (by omega) _ _).trans (h3 g' hg' hne k hk)
    · intro g' hg' hne k hk
      dsimp only
      rw [slot_setSlot hc]
      exact (sub2_put2_ne (by omega) (by omega) (by omega) _ _).trans (h4 g' hg' hne k hk)
    · exact (slot_setSlot_ne hp hcp _ _).trans h5
  · rintro _ s' h
    exact h

theorem ev_t6 (g : Fin k0_t5_loop.trips) (c0 c1 : BitVec 32) (s : St F) :
    Ev c A (Scf.Loop.for k0_t6_loop k0_t6_ok (k0_pay25 (B g 0 s.x1)) (k0_t6_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g)) s (fun a s' => a = amax6 s.x1 g 8 ∧ s' = s) := by
  refine Ev.for _ _ _ _ (fun n a s' => a = amax6 s.x1 g n ∧ s' = s) ⟨rfl, rfl⟩ ?_
  rintro n _ s' ⟨rfl, rfl⟩
  unfold k0_t6_body
  refine Ev.load2 (foc1 _) rfl (k0_off16_eq g n) ?_
  exact Ev.pure ⟨rfl, rfl⟩

theorem ev_part4 (g : Fin k0_t5_loop.trips) (c0 c1 : BitVec 32) (s : St F) :
    Ev c A (k0_part4 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g) s (fun a s' => a.2.1 = k0_pay27 (amax6 s.x1 g 8) ∧ a.2.2 = k0_pay28 (amax6 s.x1 g 8) ∧ s' = s) := by
  rw [k0_part4_eq_skeleton]
  unfold k0_part4_skel
  refine Ev.load2 (foc1 _) rfl (k0_off15_eq g) ?_
  refine Ev.bind (ev_t6 g c0 c1 s) ?_
  rintro a s' ⟨rfl, rfl⟩
  exact Ev.pure ⟨rfl, rfl, rfl⟩

/-- One trip of the quantiser's row loop. -/
theorem ev_t5_body (g : Fin k0_t5_loop.trips) (s : St F) :
    Ev c A (k0_t5_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g ⟨⟩) s (fun _ s' =>
      ∃ X8 X9 X12 X13, s' = { s with x8 := X8, x9 := X9, x12 := X12, x13 := X13 }
        ∧ (∀ k < 9, B g k X8 = k0_pay3 (xDown s.x1 g) (B g k s.x1)) ∧ (∀ k < 9, B g k (slot (cur i) X12) = k0_pay3 (xDown s.x1 g) (B g k s.x1))
        ∧ (∀ g' < 8, g' ≠ g.val → ∀ k < 9, B g' k X8 = B g' k s.x8)
        ∧ (∀ g' < 8, g' ≠ g.val → ∀ k < 9, B g' k (slot (cur i) X12) = B g' k (slot (cur i) s.x12))
        ∧ slot (prv i) X12 = slot (prv i) s.x12
        ∧ R1 g X9 = xUp s.x1 g ∧ R1 g (slot ((i 0).val % 3) X13) = xUp s.x1 g
        ∧ (∀ g' < 8, g' ≠ g.val → R1 g' X9 = R1 g' s.x9)
        ∧ (∀ g' < 8, g' ≠ g.val → R1 g' (slot ((i 0).val % 3) X13) = R1 g' (slot ((i 0).val % 3) s.x13))
        ∧ (∀ p < 3, p ≠ (i 0).val % 3 → slot p X13 = slot p s.x13)) := by
  have hg : g.val < 8 := g.isLt
  have h3 : (i 0).val % 3 < 3 := Nat.mod_lt _ (by decide)
  unfold k0_t5_body
  refine Ev.bind (ev_part4 g _ _ s) ?_
  rintro ⟨b0, b1, b2⟩ s' ⟨rfl, rfl, rfl⟩
  dsimp only
  rw [k0_part5_eq_skeleton]
  unfold k0_part5_skel
  refine Ev.bind (Ev.pure (Q := fun a s'' => a = ⟨xUp s'.x1 g, xDown s'.x1 g⟩ ∧ s'' = s') ⟨rfl, rfl⟩) ?_
  rintro _ s'' ⟨rfl, rfl⟩
  dsimp only
  refine Ev.load2 (foc9 _) rfl (k0_off17_eq g) ?_
  refine Ev.store2 (foc9 _) (k0_off17_eq g) ?_
  refine Ev.loadSlot (foc13 _) rfl (k0_off18_eq i) (k0_off17_eq g) ?_
  refine Ev.storeSlot (foc13 _) (k0_off18_eq i) (k0_off17_eq g) ?_
  refine Ev.bind (ev_t7 g _ _) ?_
  rintro _ _ ⟨X8, X12, rfl, h1, h2, h3', h4, h5⟩
  refine Ev.pure ⟨X8, _, X12, _, rfl, h1, h2, h3', h4, h5, ?_, ?_, ?_, ?_, ?_⟩
  · exact sub2_put2 (by omega) (by omega) _ _
  · dsimp only
    rw [slot_setSlot h3]
    refine (sub2_put2 (by omega) (by omega) _ _).trans ?_
    unfold k0_pay2
    exact shapeCast_self _ _
  · intro g' hg' hne
    exact sub2_put2_ne (by omega) (by omega) (by omega) _ _
  · intro g' hg' hne
    dsimp only
    rw [slot_setSlot h3]
    exact sub2_put2_ne (by omega) (by omega) (by omega) _ _
  · intro p hp hne
    exact slot_setSlot_ne hp hne _ _

/-- The quantiser's row loop. -/
theorem ev_t5 (s : St F) :
    Ev c A (Scf.Loop.for k0_t5_loop k0_t5_ok ⟨⟩ (k0_t5_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14)) s (fun _ s' =>
      ∃ X8 X9 X12 X13, s' = { s with x8 := X8, x9 := X9, x12 := X12, x13 := X13 }
        ∧ (∀ g < 8, ∀ k < 9, B g k X8 = k0_pay3 (xDown s.x1 g) (B g k s.x1))
        ∧ (∀ g < 8, ∀ k < 9, B g k (slot (cur i) X12) = k0_pay3 (xDown s.x1 g) (B g k s.x1))
        ∧ slot (prv i) X12 = slot (prv i) s.x12
        ∧ (∀ g < 8, R1 g X9 = xUp s.x1 g) ∧ (∀ g < 8, R1 g (slot ((i 0).val % 3) X13) = xUp s.x1 g)
        ∧ (∀ p < 3, p ≠ (i 0).val % 3 → slot p X13 = slot p s.x13)) := by
  refine Ev.mono (Ev.for _ _ _ _ (fun n _ s' =>
      ∃ X8 X9 X12 X13, s' = { s with x8 := X8, x9 := X9, x12 := X12, x13 := X13 }
        ∧ (∀ g < 8, g < n → ∀ k < 9, B g k X8 = k0_pay3 (xDown s.x1 g) (B g k s.x1))
        ∧ (∀ g < 8, g < n → ∀ k < 9, B g k (slot (cur i) X12) = k0_pay3 (xDown s.x1 g) (B g k s.x1))
        ∧ slot (prv i) X12 = slot (prv i) s.x12
        ∧ (∀ g < 8, g < n → R1 g X9 = xUp s.x1 g) ∧ (∀ g < 8, g < n → R1 g (slot ((i 0).val % 3) X13) = xUp s.x1 g)
        ∧ (∀ p < 3, p ≠ (i 0).val % 3 → slot p X13 = slot p s.x13)) ?_ ?_) ?_
  · exact ⟨s.x8, s.x9, s.x12, s.x13, rfl, fun _ _ h => absurd h (by omega), fun _ _ h => absurd h (by omega), rfl,
      fun _ _ h => absurd h (by omega), fun _ _ h => absurd h (by omega), fun _ _ _ => rfl⟩
  · rintro n _ _ ⟨X8, X9, X12, X13, rfl, h1, h2, h3, h4, h5, h6⟩
    refine Ev.mono (ev_t5_body n _) ?_
    rintro _ _ ⟨Y8, Y9, Y12, Y13, rfl, k1, k2, k3, k4, k5, k6, k7, k8, k9, k10⟩
    refine ⟨Y8, Y9, Y12, Y13, rfl, ?_, ?_, k5.trans h3, ?_, ?_, fun p hp hne => (k10 p hp hne).trans (h6 p hp hne)⟩
    · intro g hg hgn k hk
      by_cases e : g = n.val
      · subst e; exact k1 k hk
      · exact (k3 g hg e k hk).trans (h1 g hg (by omega) k hk)
    · intro g hg hgn k hk
      by_cases e : g = n.val
      · subst e; exact k2 k hk
      · exact (k4 g hg e k hk).trans (h2 g hg (by omega) k hk)
    · intro g hg hgn
      by_cases e : g = n.val
      · subst e; exact k6
      · exact (k8 g hg e).trans (h4 g hg (by omega))
    · intro g hg hgn
      by_cases e : g = n.val
      · subst e; exact k7
      · exact (k9 g hg e).trans (h5 g hg (by omega))
  · rintro _ _ ⟨X8, X9, X12, X13, rfl, h1, h2, h3, h4, h5, h6⟩
    exact ⟨X8, X9, X12, X13, rfl, fun g hg => h1 g hg hg, fun g hg => h2 g hg hg, h3, fun g hg => h4 g hg hg, fun g hg => h5 g hg hg, h6⟩

end Cert.KernelIdeal.Hand

end
-- ==== Proof.KI.Norm.lean ====
/- The body's normalising loops (the first part of the body), run on the contents of its buffers. -/
module

public import proofs.«01_k».proof.Proof.KI.Quant
public import Idealize.ShloMosaic.Lib.ValueLayout
public import Idealize.ShloMosaic.Lib.ValueLayoutCasts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- What the normalising of a group of 32 rows reads: the group's scales, its products, its residual rows, and the three rows of weights, by block column. -/
structure Epi (F : FTy → Type) where
  xs : Vec F S32x1 .f32
  y : ℕ → Vec F S32x128 .f32
  rs : ℕ → Vec F S32x128 .bf16
  ws : ℕ → Vec F S1x128 .f32
  cpost : ℕ → Vec F S1x128 .f32
  cpre : ℕ → Vec F S1x128 .f32

/-- The running sum of squares of the first normalisation. -/
def Epi.raw (e : Epi F) : ℕ → FVec F S32x128 .f32
  | 0 => k0_pay5 (e.y 0) (e.ws 0)
  | k + 1 => k0_pay6 (Epi.raw e k) (e.y (k + 1)) (e.ws (k + 1))

/-- The running sums of squares of the second normalisation (two halves of the group), and the running maximum. -/
def Epi.acc (e : Epi F) : ℕ → FVec F S16x128 .f32 × FVec F S16x128 .f32 × FVec F S32x128 .f32
  | 0 => (k0_pay7 (F := F), k0_pay7 (F := F), k0_pay8 (F := F))
  | k + 1 => (k0_pay11 e.xs (e.raw 52) (Epi.acc e k).1 (e.y k) (e.cpost k) (e.rs k),
      k0_pay12 e.xs (e.raw 52) (Epi.acc e k).2.1 (e.y k) (e.cpost k) (e.rs k),
      k0_pay15 e.xs (e.raw 52) (Epi.acc e k).2.2 (e.y k) (e.cpost k) (e.rs k) (e.cpre k))

/-- A block of the first result. -/
def Epi.h (e : Epi F) (k : ℕ) : FVec F S32x128 .bf16 := k0_pay9 e.xs (e.raw 52) (e.y k) (e.cpost k) (e.rs k)
/-- A block of what is left for the last loop. -/
def Epi.u (e : Epi F) (k : ℕ) : FVec F S32x128 .f32 := k0_pay14 e.xs (e.raw 52) (e.y k) (e.cpost k) (e.rs k) (e.cpre k)
/-- The sum of squares of the second normalisation. -/
def Epi.ss (e : Epi F) : FVec F S32x1 .f32 := k0_pay16 (e.acc 53).1 (e.acc 53).2.1
/-- The second normalisation's scales. -/
def Epi.zs (e : Epi F) : FVec F S32x1 .f32 :=
  k0_pay23 (k0_pay18 (e.acc 53).2.2 e.ss) (k0_pay19 (e.acc 53).2.2 e.ss) (k0_pay20 (e.acc 53).2.2 e.ss) (k0_pay21 (e.acc 53).2.2 e.ss)
/-- The factor its codes are taken with. -/
def Epi.fac (e : Epi F) : FVec F S32x128 .f32 :=
  k0_pay24 (k0_pay17 e.ss) (k0_pay18 (e.acc 53).2.2 e.ss) (k0_pay19 (e.acc 53).2.2 e.ss) (k0_pay20 (e.acc 53).2.2 e.ss) (k0_pay21 (e.acc 53).2.2 e.ss)
/-- A block of the second normalisation's codes. -/
def Epi.z (e : Epi F) (k : ℕ) : FVec F S32x128 .fp8e4m3 := k0_pay32 e.fac (e.u k)

/-- What a group reads, off the buffers' contents. -/
def epi (i : grid0.Coords) (s : St F) (g : ℕ) : Epi F where
  xs := R1 g (slot (((i 0).val + 1) % 3) s.x13)
  y := fun k => B g k (slot (cur i) s.x14)
  rs := fun k => B g k s.x2
  ws := fun k => C1 k s.x4
  cpost := fun k => C1 k s.x5
  cpre := fun k => C1 k s.x6

variable {c : Dev nD} {A : Args} {i : grid0.Coords}

theorem ev_t2 (g : Fin k0_t1_loop.trips) (c0 c1 : BitVec 32) (s : St F) :
    Ev c A (Scf.Loop.for k0_t2_loop k0_t2_ok (k0_pay5 (B g 0 (slot (cur i) s.x14)) (C1 0 s.x4)) (k0_t2_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g)) s
      (fun a s' => a = (epi i s g).raw 52 ∧ s' = s) := by
  refine Ev.for _ _ _ _ (fun n a s' => a = (epi i s g).raw n ∧ s' = s) ⟨rfl, rfl⟩ ?_
  rintro n _ s' ⟨rfl, rfl⟩
  unfold k0_t2_body
  refine Ev.loadSlot (foc14 _) rfl (k0_off5_eq i) (k0_off6_eq g n) ?_
  refine Ev.load2 (foc4 _) rfl (k0_off7_eq n) ?_
  exact Ev.pure ⟨rfl, rfl⟩

theorem ev_t3 (g : Fin k0_t1_loop.trips) (c0 c1 : BitVec 32) (s : St F) :
    Ev c A (Scf.Loop.for k0_t3_loop k0_t3_ok (k0_pay7 (F := F), k0_pay7 (F := F), k0_pay8 (F := F))
        (k0_t3_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g (epi i s g).xs ((epi i s g).raw 52))) s
      (fun a s' => a = (epi i s g).acc 53 ∧ ∃ X7 X14, s' = { s with x7 := X7, x14 := X14 }
        ∧ (∀ k < 53, B g k X7 = (epi i s g).h k) ∧ (∀ k < 53, B g k (slot (cur i) X14) = (epi i s g).u k)
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) := by
  have hg : g.val < 8 := g.isLt
  have hc : cur i < 2 := Nat.mod_lt _ (by decide)
  have hp : prv i < 2 := by show 1 - (i 0).val % 2 < 2; omega
  have hcp : prv i ≠ cur i := by show 1 - (i 0).val % 2 ≠ (i 0).val % 2; omega
  refine Ev.mono (Ev.for _ _ _ _ (fun n a s' => a = (epi i s g).acc n ∧ ∃ X7 X14, s' = { s with x7 := X7, x14 := X14 }
        ∧ (∀ k < n, B g k X7 = (epi i s g).h k) ∧ (∀ k < n, B g k (slot (cur i) X14) = (epi i s g).u k)
        ∧ (∀ k < 53, n ≤ k → B g k (slot (cur i) X14) = B g k (slot (cur i) s.x14))
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) ?_ ?_) ?_
  · exact ⟨rfl, s.x7, s.x14, rfl, by omega, by omega, fun _ _ _ => rfl, fun _ _ _ _ => rfl, fun _ _ _ _ => rfl, rfl⟩
  · rintro n _ s' ⟨rfl, X7, X14, rfl, h1, h2, h3, h4, h5, h6⟩
    have hn : n.val < 53 := n.isLt
    have hy : B g n (slot (cur i) X14) = (epi i s g).y n := h3 n hn le_rfl
    unfold k0_t3_body
    refine Ev.loadSlot (foc14 _) rfl (k0_off8_eq i) (k0_off9_eq g n) ?_
    refine Ev.load2 (foc5 _) rfl (k0_off10_eq n) ?_
    refine Ev.load2 (foc2 _) rfl (k0_off9_eq g n) ?_
    refine Ev.load2 (foc7 _) rfl (k0_off9_eq g n) ?_
    refine Ev.store2 (foc7 _) (k0_off9_eq g n) ?_
    refine Ev.load2 (foc6 _) rfl (k0_off10_eq n) ?_
    refine Ev.loadSlot (foc14 _) rfl (k0_off8_eq i) (k0_off9_eq g n) ?_
    refine Ev.storeSlot (foc14 _) (k0_off8_eq i) (k0_off9_eq g n) ?_
    dsimp only
    rw [show (sub2 (32 * g.val) (128 * n.val) (slot ((i 0).val % 2) X14) : S32x128.Idx → _) = (epi i s g).y n from hy]
    refine Ev.pure ⟨rfl, _, _, rfl, ?_, ?_, ?_, ?_, ?_, ?_⟩
    · intro k hk
      by_cases e : k = n.val
      · subst e; exact sub2_put2 (by omega) (by omega) _ _
      · exact (sub2_put2_ne (by omega) (by omega) (by omega) _ _).trans (h1 k (by omega))
    · intro k hk
      rw [slot_setSlot hc]
      by_cases e : k = n.val
      · subst e; exact sub2_put2 (by omega) (by omega) _ _
      · exact (sub2_put2_ne (by omega) (by omega) (by omega) _ _).trans (h2 k (by omega))
    · intro k hk hkn
      rw [slot_setSlot hc]
      exact (sub2_put2_ne (by omega) (by omega) (by omega) _ _).trans (h3 k hk (by omega))
    · intro g' hg' hne k
      exact (sub2_put2_rows (by omega) (by omega) _ _).trans (h4 g' hg' hne k)
    · intro g' hg' hne k
      rw [slot_setSlot hc]
      exact (sub2_put2_rows (by omega) (by omega) _ _).trans (h5 g' hg' hne k)
    · exact (slot_setSlot_ne hp hcp _ _).trans h6
  · rintro _ s' ⟨rfl, X7, X14, rfl, h1, h2, h3, h4, h5, h6⟩
    exact ⟨rfl, X7, X14, rfl, h1, h2, h4, h5, h6⟩

theorem ev_t4 (g : Fin k0_t1_loop.trips) (v400 : FVec F S32x128 .f32) (s : St F) :
    Ev c A (Scf.Loop.for k0_t4_loop k0_t4_ok ⟨⟩ (k0_t4_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g v400)) s (fun _ s' =>
      ∃ X10, s' = { s with x10 := X10 }
        ∧ (∀ k < 53, B g k X10 = k0_pay32 v400 (B g k (slot (cur i) s.x14)))
        ∧ (∀ g' < 8, g' ≠ g.val → ∀ k, B g' k X10 = B g' k s.x10)) := by
  have hg : g.val < 8 := g.isLt
  refine Ev.mono (Ev.for _ _ _ _ (fun n _ s' =>
      ∃ X10, s' = { s with x10 := X10 }
        ∧ (∀ k < n, B g k X10 = k0_pay32 v400 (B g k (slot (cur i) s.x14)))
        ∧ (∀ g' < 8, g' ≠ g.val → ∀ k, B g' k X10 = B g' k s.x10)) ?_ ?_) ?_
  · exact ⟨s.x10, rfl, by omega, fun _ _ _ _ => rfl⟩
  · rintro n _ s' ⟨X10, rfl, h1, h2⟩
    have hn : n.val < 53 := n.isLt
    unfold k0_t4_body
    refine Ev.loadSlot (foc14 _) rfl (k0_off11_eq i) (k0_off12_eq g n) ?_
    refine Ev.load2 (foc10 _) rfl (k0_off12_eq g n) ?_
    refine Ev.store2 (foc10 _) (k0_off12_eq g n) ?_
    refine Ev.pure ⟨_, rfl, ?_, ?_⟩
    · intro k hk
      by_cases e : k = n.val
      · subst e; exact sub2_put2 (by omega) (by omega) _ _
      · exact (sub2_put2_ne (by omega) (by omega) (by omega) _ _).trans (h1 k (by omega))
    · intro g' hg' hne k
      exact (sub2_put2_rows (by omega) (by omega) _ _).trans (h2 g' hg' hne k)
  · rintro _ s' h
    exact h

theorem ev_part1 (g : Fin k0_t1_loop.trips) (c0 c1 : BitVec 32) (s : St F) :
    Ev c A (k0_part1 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 c0 c1 g) s (fun a s' => a.2.1 = ((epi i s g).acc 53).2.2 ∧ a.2.2 = (epi i s g).ss ∧ ∃ X7 X14, s' = { s with x7 := X7, x14 := X14 }
        ∧ (∀ k < 53, B g k X7 = (epi i s g).h k) ∧ (∀ k < 53, B g k (slot (cur i) X14) = (epi i s g).u k)
        ∧ (∀ g' < 8, g' ≠ g.val → ∀ k, B g' k X7 = B g' k s.x7)
        ∧ (∀ g' < 8, g' ≠ g.val → ∀ k, B g' k (slot (cur i) X14) = B g' k (slot (cur i) s.x14))
        ∧ slot (prv i) X14 = slot (prv i) s.x14) := by
  rw [k0_part1_eq_skeleton]
  unfold k0_part1_skel
  refine Ev.loadSlot (foc13 _) rfl (k0_off1_eq i) (k0_off2_eq g) ?_
  refine Ev.loadSlot (foc14 _) rfl (k0_off3_eq i) (k0_off4_eq g) ?_
  refine Ev.load2 (foc4 _) rfl (o0 := 0) (o1 := 0) rfl ?_
  refine Ev.bind (ev_t2 g c0 c1 s) ?_
  rintro _ s' ⟨rfl, rfl⟩
  refine Ev.bind (ev_t3 g c0 c1 s') ?_
  rintro _ s'' ⟨rfl, h⟩
  exact Ev.pure ⟨rfl, rfl, h⟩

/-- One trip of the normalising row loop. -/
theorem ev_t1_body (g : Fin k0_t1_loop.trips) (s : St F) :
    Ev c A (k0_t1_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 g ⟨⟩) s (fun _ s' =>
      ∃ X7 X10 X11 X14, s' = { s with x7 := X7, x10 := X10, x11 := X11, x14 := X14 }
        ∧ (∀ k < 53, B g k X7 = (epi i s g).h k) ∧ (∀ k < 53, B g k X10 = (epi i s g).z k) ∧ R1 g X11 = (epi i s g).zs
        ∧ (∀ g' < 8, g' ≠ g.val → ∀ k, B g' k X7 = B g' k s.x7)
        ∧ (∀ g' < 8, g' ≠ g.val → ∀ k, B g' k X10 = B g' k s.x10)
        ∧ (∀ g' < 8, g' ≠ g.val → R1 g' X11 = R1 g' s.x11)
        ∧ (∀ g' < 8, g' ≠ g.val → ∀ k, B g' k (slot (cur i) X14) = B g' k (slot (cur i) s.x14))
        ∧ slot (prv i) X14 = slot (prv i) s.x14) := by
  have hg : g.val < 8 := g.isLt
  unfold k0_t1_body
  refine Ev.bind (ev_part1 g _ _ s) ?_
  rintro ⟨b0, b1, b2⟩ _ ⟨rfl, rfl, X7, X14, rfl, h1, h2, h3, h4, h5⟩
  dsimp only
  rw [k0_part2_eq_skeleton]
  unfold k0_part2_skel
  refine Ev.bind (Ev.pure (Q := fun a s'' => a = ⟨k0_pay17 (epi i s g).ss, k0_pay18 ((epi i s g).acc 53).2.2 (epi i s g).ss,
    k0_pay19 ((epi i s g).acc 53).2.2 (epi i s g).ss, k0_pay20 ((epi i s g).acc 53).2.2 (epi i s g).ss, k0_pay21 ((epi i s g).acc 53).2.2 (epi i s g).ss⟩
      ∧ s'' = { s with x7 := X7, x14 := X14 }) ⟨rfl, rfl⟩) ?_
  rintro _ _ ⟨rfl, rfl⟩
  dsimp only
  refine Ev.bind (Q := fun a s'' => a.1 = (epi i s g).fac ∧ ∃ X11, s'' = { s with x7 := X7, x14 := X14, x11 := X11 }
      ∧ R1 g X11 = (epi i s g).zs ∧ (∀ g' < 8, g' ≠ g.val → R1 g' X11 = R1 g' s.x11)) ?_ ?_
  · rw [k0_part3_eq_skeleton]
    unfold k0_part3_skel
    refine Ev.load2 (foc11 _) rfl (k0_off2_eq g) ?_
    refine Ev.store2 (foc11 _) (k0_off2_eq g) ?_
    refine Ev.pure ⟨rfl, _, rfl, sub2_put2 (by omega) (by omega) _ _, fun g' hg' hne => sub2_put2_rows (by omega) (by omega) _ _⟩
  · rintro ⟨a0, a1, a2⟩ _ ⟨rfl, X11, rfl, h6, h7⟩
    dsimp only
    refine Ev.bind (ev_t4 g _ _) ?_
    rintro _ _ ⟨X10, rfl, h8, h9⟩
    refine Ev.pure ⟨X7, X10, X11, X14, rfl, h1, ?_, h6, h3, h9, h7, h4, h5⟩
    intro k hk
    refine (h8 k hk).trans ?_
    show k0_pay32 _ (B g k (slot (cur i) X14)) = _
    rw [h2 k hk]
    rfl

/-- The normalising row loop. -/
theorem ev_t1 (s : St F) :
    Ev c A (Scf.Loop.for k0_t1_loop k0_t1_ok ⟨⟩ (k0_t1_body i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14)) s (fun _ s' =>
      ∃ X7 X10 X11 X14, s' = { s with x7 := X7, x10 := X10, x11 := X11, x14 := X14 }
        ∧ (∀ g < 8, ∀ k < 53, B g k X7 = (epi i s g).h k) ∧ (∀ g < 8, ∀ k < 53, B g k X10 = (epi i s g).z k) ∧ (∀ g < 8, R1 g X11 = (epi i s g).zs)
        ∧ slot (prv i) X14 = slot (prv i) s.x14) := by
  refine Ev.mono (Ev.for _ _ _ _ (fun n _ s' =>
      ∃ X7 X10 X11 X14, s' = { s with x7 := X7, x10 := X10, x11 := X11, x14 := X14 }
        ∧ (∀ g < 8, g < n → ∀ k < 53, B g k X7 = (epi i s g).h k) ∧ (∀ g < 8, g < n → ∀ k < 53, B g k X10 = (epi i s g).z k)
        ∧ (∀ g < 8, g < n → R1 g X11 = (epi i s g).zs)
        ∧ (∀ g < 8, n ≤ g → ∀ k, B g k (slot (cur i) X14) = B g k (slot (cur i) s.x14))
        ∧ slot (prv i) X14 = slot (prv i) s.x14) ?_ ?_) ?_
  · exact ⟨s.x7, s.x10, s.x11, s.x14, rfl, fun _ _ h => absurd h (by omega), fun _ _ h => absurd h (by omega),
      fun _ _ h => absurd h (by omega), fun _ _ _ _ => rfl, rfl⟩
  · rintro n _ _ ⟨X7, X10, X11, X14, rfl, h1, h2, h3, h4, h5⟩
    have hn : n.val < 8 := n.isLt
    have he : epi i { s with x7 := X7, x10 := X10, x11 := X11, x14 := X14 } n = epi i s n := by
      unfold epi
      congr 1
      funext k
      exact h4 n hn le_rfl k
    refine Ev.mono (ev_t1_body n _) ?_
    rw [he]
    rintro _ _ ⟨Y7, Y10, Y11, Y14, rfl, k1, k2, k3, k4, k5, k6, k7, k8⟩
    refine ⟨Y7, Y10, Y11, Y14, rfl, ?_, ?_, ?_, ?_, k8.trans h5⟩
    · intro g hg hgn k hk
      by_cases e : g = n.val
      · subst e; exact k1 k hk
      · exact (k4 g hg e k).trans (h1 g hg (by omega) k hk)
    · intro g hg hgn k hk
      by_cases e : g = n.val
      · subst e; exact k2 k hk
      · exact (k5 g hg e k).trans (h2 g hg (by omega) k hk)
    · intro g hg hgn
      by_cases e : g = n.val
      · subst e; exact k3
      · exact (k6 g hg e).trans (h3 g hg (by omega))
    · intro g hg hgn k
      exact (k7 g hg (by omega) k).trans (h4 g hg (by omega) k)
  · rintro _ _ ⟨X7, X10, X11, X14, rfl, h1, h2, h3, h4, h5⟩
    exact ⟨X7, X10, X11, X14, rfl, fun g hg => h1 g hg hg, fun g hg => h2 g hg hg, fun g hg => h3 g hg hg, h5⟩

end Cert.KernelIdeal.Hand

end
-- ==== Proof.KI.Body.lean ====
/- The whole body, run on the contents of its buffers. -/
module

public import proofs.«01_k».proof.Proof.KI.Norm
public import Idealize.ShloMosaic.Lib.ValueLayout
public import Idealize.ShloMosaic.Lib.ValueLayoutCasts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Cert.Blocks Idealize.ShloMosaic.ValueIdx

variable {F : FTy → Type} [FloatOps F]

/-- The codes the step before left, as a stack of one. -/
def xq3 (i : grid0.Coords) (s : St F) : Vec F S1x256x1152 .fp8e4m3 := fun j => slot (prv i) s.x12 (ix2 (j 1) (j 2))

/-- The first `n` column blocks of the projection are in place. -/
def Proj (i : grid0.Coords) (s : St F) (n : ℕ) (X : Vec F S2x256x6784 .f32) : Prop :=
  (∀ b < n, (sub2 0 (256 * b) (slot (prv i) X) : S256x256.Idx → _) = k0_pay33 (xq3 i s) (sub2 0 (256 * b) s.x3)) ∧ slot (cur i) X = slot (cur i) s.x14

theorem Proj.step {i : grid0.Coords} {s : St F} {n : ℕ} {X : Vec F S2x256x6784 .f32} (h : Proj i s n X) (hn : n < 26) {w : S256x256.Idx → Elt F .f32}
    (hw : w = k0_pay33 (xq3 i s) (sub2 0 (256 * n) s.x3)) :
    Proj i s (n + 1) (setSlot (prv i) X (put2 0 (256 * n) (slot (prv i) X) w)) := by
  have hc : cur i < 2 := Nat.mod_lt _ (by decide)
  have hp : prv i < 2 := by show 1 - (i 0).val % 2 < 2; omega
  have hcp : cur i ≠ prv i := by show (i 0).val % 2 ≠ 1 - (i 0).val % 2; omega
  refine ⟨fun b hb => ?_, (slot_setSlot_ne hc hcp _ _).trans h.2⟩
  rw [slot_setSlot hp]
  by_cases e : b = n
  · subst e; exact (sub2_put2 (by omega) (by omega) _ _).trans hw
  · exact (sub2_put2_ne (by omega) (by omega) (by omega) _ _).trans (h.1 b (by omega))

variable {c : Dev nD} {A : Args} {i : grid0.Coords}

theorem ev_part7 (v1 : BitVec 32) (s : St F) (X : Vec F S2x256x6784 .f32) (h0 : Proj i s 2 X) :
    Ev c A (k0_part7 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 5 X') := by
  rw [k0_part7_eq_skeleton]
  unfold k0_part7_skel
  refine Ev.load2 (foc3 _) rfl (o0 := 0) (o1 := 512) rfl ?_
  refine Ev.loadSlot (foc14 _) rfl (k0_off14_eq i) (o0 := 0) (o1 := 512) rfl ?_
  refine Ev.storeSlot (foc14 _) (k0_off14_eq i) (o0 := 0) (o1 := 512) rfl ?_
  have h1 := h0.step (by omega) (w := k0_pay36 (k0_pay35 (xq3 i s)) (sub2 0 512 s.x3)) rfl
  refine Ev.load3 (foc12 _) rfl (k0_off13_eq i) ?_
  refine Ev.load2 (foc3 _) rfl (o0 := 0) (o1 := 768) rfl ?_
  refine Ev.loadSlot (foc14 _) rfl (k0_off14_eq i) (o0 := 0) (o1 := 768) rfl ?_
  refine Ev.storeSlot (foc14 _) (k0_off14_eq i) (o0 := 0) (o1 := 768) rfl ?_
  have h2 := h1.step (by omega) (w := k0_pay37 (xq3 i s) (sub2 0 768 s.x3)) rfl
  refine Ev.load3 (foc12 _) rfl (k0_off13_eq i) ?_
  refine Ev.load2 (foc3 _) rfl (o0 := 0) (o1 := 1024) rfl ?_
  refine Ev.loadSlot (foc14 _) rfl (k0_off14_eq i) (o0 := 0) (o1 := 1024) rfl ?_
  refine Ev.storeSlot (foc14 _) (k0_off14_eq i) (o0 := 0) (o1 := 1024) rfl ?_
  have h3 := h2.step (by omega) (w := k0_pay38 (xq3 i s) (sub2 0 1024 s.x3)) rfl
  refine Ev.load3 (foc12 _) rfl (k0_off13_eq i) ?_
  exact Ev.pure ⟨rfl, _, rfl, h3⟩

theorem ev_part8 (v1 : BitVec 32) (s : St F) (X : Vec F S2x256x6784 .f32) (h0 : Proj i s 5 X) :
    Ev c A (k0_part8 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 8 X') := by
  rw [k0_part8_eq_skeleton]
  unfold k0_part8_skel
  refine Ev.load2 (foc3 _) rfl (o0 := 0) (o1 := 1280) rfl ?_
  refine Ev.loadSlot (foc14 _) rfl (k0_off14_eq i) (o0 := 0) (o1 := 1280) rfl ?_
  refine Ev.storeSlot (foc14 _) (k0_off14_eq i) (o0 := 0) (o1 := 1280) rfl ?_
  have h1 := h0.step (by omega) (w := k0_pay40 (k0_pay35 (xq3 i s)) (sub2 0 1280 s.x3)) rfl
  refine Ev.load3 (foc12 _) rfl (k0_off13_eq i) ?_
  refine Ev.load2 (foc3 _) rfl (o0 := 0) (o1 := 1536) rfl ?_
  refine Ev.loadSlot (foc14 _) rfl (k0_off14_eq i) (o0 := 0) (o1 := 1536) rfl ?_
  refine Ev.storeSlot (foc14 _) (k0_off14_eq i) (o0 := 0) (o1 := 1536) rfl ?_
  have h2 := h1.step (by omega) (w := k0_pay41 (xq3 i s) (sub2 0 1536 s.x3)) rfl
  refine Ev.load3 (foc12 _) rfl (k0_off13_eq i) ?_
  refine Ev.load2 (foc3 _) rfl (o0 := 0) (o1 := 1792) rfl ?_
  refine Ev.loadSlot (foc14 _) rfl (k0_off14_eq i) (o0 := 0) (o1 := 1792) rfl ?_
  refine Ev.storeSlot (foc14 _) (k0_off14_eq i) (o0 := 0) (o1 := 1792) rfl ?_
  have h3 := h2.step (by omega) (w := k0_pay42 (xq3 i s) (sub2 0 1792 s.x3)) rfl
  refine Ev.load3 (foc12 _) rfl (k0_off13_eq i) ?_
  exact Ev.pure ⟨rfl, _, rfl, h3⟩

theorem ev_part9 (v1 : BitVec 32) (s : St F) (X : Vec F S2x256x6784 .f32) (h0 : Proj i s 8 X) :
    Ev c A (k0_part9 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 11 X') := by
  rw [k0_part9_eq_skeleton]
  unfold k0_part9_skel
  refine Ev.load2 (foc3 _) rfl (o0 := 0) (o1 := 2048) rfl ?_
  refine Ev.loadSlot (foc14 _) rfl (k0_off14_eq i) (o0 := 0) (o1 := 2048) rfl ?_
  refine Ev.storeSlot (foc14 _) (k0_off14_eq i) (o0 := 0) (o1 := 2048) rfl ?_
  have h1 := h0.step (by omega) (w := k0_pay44 (k0_pay35 (xq3 i s)) (sub2 0 2048 s.x3)) rfl
  refine Ev.load3 (foc12 _) rfl (k0_off13_eq i) ?_
  refine Ev.load2 (foc3 _) rfl (o0 := 0) (o1 := 2304) rfl ?_
  refine Ev.loadSlot (foc14 _) rfl (k0_off14_eq i) (o0 := 0) (o1 := 2304) rfl ?_
  refine Ev.storeSlot (foc14 _) (k0_off14_eq i) (o0 := 0) (o1 := 2304) rfl ?_
  have h2 := h1.step (by omega) (w := k0_pay45 (xq3 i s) (sub2 0 2304 s.x3)) rfl
  refine Ev.load3 (foc12 _) rfl (k0_off13_eq i) ?_
  refine Ev.load2 (foc3 _) rfl (o0 := 0) (o1 := 2560) rfl ?_
  refine Ev.loadSlot (foc14 _) rfl (k0_off14_eq i) (o0 := 0) (o1 := 2560) rfl ?_
  refine Ev.storeSlot (foc14 _) (k0_off14_eq i) (o0 := 0) (o1 := 2560) rfl ?_
  have h3 := h2.step (by omega) (w := k0_pay46 (xq3 i s) (sub2 0 2560 s.x3)) rfl
  refine Ev.load3 (foc12 _) rfl (k0_off13_eq i) ?_
  exact Ev.pure ⟨rfl, _, rfl, h3⟩

theorem ev_part10 (v1 : BitVec 32) (s : St F) (X : Vec F S2x256x6784 .f32) (h0 : Proj i s 11 X) :
    Ev c A (k0_part10 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 14 X') := by
  rw [k0_part10_eq_skeleton]
  unfold k0_part10_skel
  refine Ev.load2 (foc3 _) rfl (o0 := 0) (o1 := 2816) rfl ?_
  refine Ev.loadSlot (foc14 _) rfl (k0_off14_eq i) (o0 := 0) (o1 := 2816) rfl ?_
  refine Ev.storeSlot (foc14 _) (k0_off14_eq i) (o0 := 0) (o1 := 2816) rfl ?_
  have h1 := h0.step (by omega) (w := k0_pay48 (k0_pay35 (xq3 i s)) (sub2 0 2816 s.x3)) rfl
  refine Ev.load3 (foc12 _) rfl (k0_off13_eq i) ?_
  refine Ev.load2 (foc3 _) rfl (o0 := 0) (o1 := 3072) rfl ?_
  refine Ev.loadSlot (foc14 _) rfl (k0_off14_eq i) (o0 := 0) (o1 := 3072) rfl ?_
  refine Ev.storeSlot (foc14 _) (k0_off14_eq i) (o0 := 0) (o1 := 3072) rfl ?_
  have h2 := h1.step (by omega) (w := k0_pay49 (xq3 i s) (sub2 0 3072 s.x3)) rfl
  refine Ev.load3 (foc12 _) rfl (k0_off13_eq i) ?_
  refine Ev.load2 (foc3 _) rfl (o0 := 0) (o1 := 3328) rfl ?_
  refine Ev.loadSlot (foc14 _) rfl (k0_off14_eq i) (o0 := 0) (o1 := 3328) rfl ?_
  refine Ev.storeSlot (foc14 _) (k0_off14_eq i) (o0 := 0) (o1 := 3328) rfl ?_
  have h3 := h2.step (by omega) (w := k0_pay50 (xq3 i s) (sub2 0 3328 s.x3)) rfl
  refine Ev.load3 (foc12 _) rfl (k0_off13_eq i) ?_
  exact Ev.pure ⟨rfl, _, rfl, h3⟩

theorem ev_part11 (v1 : BitVec 32) (s : St F) (X : Vec F S2x256x6784 .f32) (h0 : Proj i s 14 X) :
    Ev c A (k0_part11 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 17 X') := by
  rw [k0_part11_eq_skeleton]
  unfold k0_part11_skel
  refine Ev.load2 (foc3 _) rfl (o0 := 0) (o1 := 3584) rfl ?_
  refine Ev.loadSlot (foc14 _) rfl (k0_off14_eq i) (o0 := 0) (o1 := 3584) rfl ?_
  refine Ev.storeSlot (foc14 _) (k0_off14_eq i) (o0 := 0) (o1 := 3584) rfl ?_
  have h1 := h0.step (by omega) (w := k0_pay52 (k0_pay35 (xq3 i s)) (sub2 0 3584 s.x3)) rfl
  refine Ev.load3 (foc12 _) rfl (k0_off13_eq i) ?_
  refine Ev.load2 (foc3 _) rfl (o0 := 0) (o1 := 3840) rfl ?_
  refine Ev.loadSlot (foc14 _) rfl (k0_off14_eq i) (o0 := 0) (o1 := 3840) rfl ?_
  refine Ev.storeSlot (foc14 _) (k0_off14_eq i) (o0 := 0) (o1 := 3840) rfl ?_
  have h2 := h1.step (by omega) (w := k0_pay53 (xq3 i s) (sub2 0 3840 s.x3)) rfl
  refine Ev.load3 (foc12 _) rfl (k0_off13_eq i) ?_
  refine Ev.load2 (foc3 _) rfl (o0 := 0) (o1 := 4096) rfl ?_
  refine Ev.loadSlot (foc14 _) rfl (k0_off14_eq i) (o0 := 0) (o1 := 4096) rfl ?_
  refine Ev.storeSlot (foc14 _) (k0_off14_eq i) (o0 := 0) (o1 := 4096) rfl ?_
  have h3 := h2.step (by omega) (w := k0_pay54 (xq3 i s) (sub2 0 4096 s.x3)) rfl
  refine Ev.load3 (foc12 _) rfl (k0_off13_eq i) ?_
  exact Ev.pure ⟨rfl, _, rfl, h3⟩

theorem ev_part12 (v1 : BitVec 32) (s : St F) (X : Vec F S2x256x6784 .f32) (h0 : Proj i s 17 X) :
    Ev c A (k0_part12 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 20 X') := by
  rw [k0_part12_eq_skeleton]
  unfold k0_part12_skel
  refine Ev.load2 (foc3 _) rfl (o0 := 0) (o1 := 4352) rfl ?_
  refine Ev.loadSlot (foc14 _) rfl (k0_off14_eq i) (o0 := 0) (o1 := 4352) rfl ?_
  refine Ev.storeSlot (foc14 _) (k0_off14_eq i) (o0 := 0) (o1 := 4352) rfl ?_
  have h1 := h0.step (by omega) (w := k0_pay56 (k0_pay35 (xq3 i s)) (sub2 0 4352 s.x3)) rfl
  refine Ev.load3 (foc12 _) rfl (k0_off13_eq i) ?_
  refine Ev.load2 (foc3 _) rfl (o0 := 0) (o1 := 4608) rfl ?_
  refine Ev.loadSlot (foc14 _) rfl (k0_off14_eq i) (o0 := 0) (o1 := 4608) rfl ?_
  refine Ev.storeSlot (foc14 _) (k0_off14_eq i) (o0 := 0) (o1 := 4608) rfl ?_
  have h2 := h1.step (by omega) (w := k0_pay57 (xq3 i s) (sub2 0 4608 s.x3)) rfl
  refine Ev.load3 (foc12 _) rfl (k0_off13_eq i) ?_
  refine Ev.load2 (foc3 _) rfl (o0 := 0) (o1 := 4864) rfl ?_
  refine Ev.loadSlot (foc14 _) rfl (k0_off14_eq i) (o0 := 0) (o1 := 4864) rfl ?_
  refine Ev.storeSlot (foc14 _) (k0_off14_eq i) (o0 := 0) (o1 := 4864) rfl ?_
  have h3 := h2.step (by omega) (w := k0_pay58 (xq3 i s) (sub2 0 4864 s.x3)) rfl
  refine Ev.load3 (foc12 _) rfl (k0_off13_eq i) ?_
  exact Ev.pure ⟨rfl, _, rfl, h3⟩

theorem ev_part13 (v1 : BitVec 32) (s : St F) (X : Vec F S2x256x6784 .f32) (h0 : Proj i s 20 X) :
    Ev c A (k0_part13 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 23 X') := by
  rw [k0_part13_eq_skeleton]
  unfold k0_part13_skel
  refine Ev.load2 (foc3 _) rfl (o0 := 0) (o1 := 5120) rfl ?_
  refine Ev.loadSlot (foc14 _) rfl (k0_off14_eq i) (o0 := 0) (o1 := 5120) rfl ?_
  refine Ev.storeSlot (foc14 _) (k0_off14_eq i) (o0 := 0) (o1 := 5120) rfl ?_
  have h1 := h0.step (by omega) (w := k0_pay60 (k0_pay35 (xq3 i s)) (sub2 0 5120 s.x3)) rfl
  refine Ev.load3 (foc12 _) rfl (k0_off13_eq i) ?_
  refine Ev.load2 (foc3 _) rfl (o0 := 0) (o1 := 5376) rfl ?_
  refine Ev.loadSlot (foc14 _) rfl (k0_off14_eq i) (o0 := 0) (o1 := 5376) rfl ?_
  refine Ev.storeSlot (foc14 _) (k0_off14_eq i) (o0 := 0) (o1 := 5376) rfl ?_
  have h2 := h1.step (by omega) (w := k0_pay61 (xq3 i s) (sub2 0 5376 s.x3)) rfl
  refine Ev.load3 (foc12 _) rfl (k0_off13_eq i) ?_
  refine Ev.load2 (foc3 _) rfl (o0 := 0) (o1 := 5632) rfl ?_
  refine Ev.loadSlot (foc14 _) rfl (k0_off14_eq i) (o0 := 0) (o1 := 5632) rfl ?_
  refine Ev.storeSlot (foc14 _) (k0_off14_eq i) (o0 := 0) (o1 := 5632) rfl ?_
  have h3 := h2.step (by omega) (w := k0_pay62 (xq3 i s) (sub2 0 5632 s.x3)) rfl
  refine Ev.load3 (foc12 _) rfl (k0_off13_eq i) ?_
  exact Ev.pure ⟨rfl, _, rfl, h3⟩

theorem ev_part14 (v1 : BitVec 32) (s : St F) (X : Vec F S2x256x6784 .f32) (h0 : Proj i s 23 X) :
    Ev c A (k0_part14 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 v1 (k0_pay35 (xq3 i s))) { s with x14 := X } (fun a s' => a = k0_pay35 (xq3 i s) ∧ ∃ X', s' = { s with x14 := X' } ∧ Proj i s 26 X') := by
  rw [k0_part14_eq_skeleton]
  unfold k0_part14_skel
  refine Ev.load2 (foc3 _) rfl (o0 := 0) (o1 := 5888) rfl ?_
  refine Ev.loadSlot (foc14 _) rfl (k0_off14_eq i) (o0 := 0) (o1 := 5888) rfl ?_
  refine Ev.storeSlot (foc14 _) (k0_off14_eq i) (o0 := 0) (o1 := 5888) rfl ?_
  have h1 := h0.step (by omega) (w := k0_pay64 (k0_pay35 (xq3 i s)) (sub2 0 5888 s.x3)) rfl
  refine Ev.load3 (foc12 _) rfl (k0_off13_eq i) ?_
  refine Ev.load2 (foc3 _) rfl (o0 := 0) (o1 := 6144) rfl ?_
  refine Ev.loadSlot (foc14 _) rfl (k0_off14_eq i) (o0 := 0) (o1 := 6144) rfl ?_
  refine Ev.storeSlot (foc14 _) (k0_off14_eq i) (o0 := 0) (o1 := 6144) rfl ?_
  have h2 := h1.step (by omega) (w := k0_pay65 (xq3 i s) (sub2 0 6144 s.x3)) rfl
  refine Ev.load3 (foc12 _) rfl (k0_off13_eq i) ?_
  refine Ev.load2 (foc3 _) rfl (o0 := 0) (o1 := 6400) rfl ?_
  refine Ev.loadSlot (foc14 _) rfl (k0_off14_eq i) (o0 := 0) (o1 := 6400) rfl ?_
  refine Ev.storeSlot (foc14 _) (k0_off14_eq i) (o0 := 0) (o1 := 6400) rfl ?_
  have h3 := h2.step (by omega) (w := k0_pay66 (xq3 i s) (sub2 0 6400 s.x3)) rfl
  refine Ev.load3 (foc12 _) rfl (k0_off13_eq i) ?_
  exact Ev.pure ⟨rfl, _, rfl, h3⟩

theorem ev_part6 (s : St F) :
    Ev c A (k0_part6 i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14) s (fun a s' => a.2.2 = k0_pay35 (xq3 i s) ∧
      ∃ X7 X10 X11 X14, s' = { s with x7 := X7, x10 := X10, x11 := X11, x14 := X14 }
        ∧ (∀ g < 8, ∀ k < 53, B g k X7 = (epi i s g).h k) ∧ (∀ g < 8, ∀ k < 53, B g k X10 = (epi i s g).z k) ∧ (∀ g < 8, R1 g X11 = (epi i s g).zs)
        ∧ ∃ X, Proj i { s with x7 := X7, x10 := X10, x11 := X11, x14 := X } 2 X14) := by
  rw [k0_part6_eq_skeleton]
  unfold k0_part6_skel
  refine Ev.bind (ev_t1 s) ?_
  rintro _ _ ⟨X7, X10, X11, X14, rfl, h1, h2, h3, h4⟩
  have p0 : Proj i { s with x7 := X7, x10 := X10, x11 := X11, x14 := X14 } 0 X14 := ⟨fun b hb => absurd hb (by omega), rfl⟩
  refine Ev.load3 (foc12 _) rfl (k0_off13_eq i) ?_
  refine Ev.load2 (foc3 _) rfl (o0 := 0) (o1 := 0) rfl ?_
  refine Ev.loadSlot (foc14 _) rfl (k0_off14_eq i) (o0 := 0) (o1 := 0) rfl ?_
  refine Ev.storeSlot (foc14 _) (k0_off14_eq i) (o0 := 0) (o1 := 0) rfl ?_
  have p1 := p0.step (by omega) (w := k0_pay33 (xq3 i s) (sub2 0 0 s.x3)) rfl
  refine Ev.load3 (foc12 _) rfl (k0_off13_eq i) ?_
  refine Ev.load2 (foc3 _) rfl (o0 := 0) (o1 := 256) rfl ?_
  refine Ev.loadSlot (foc14 _) rfl (k0_off14_eq i) (o0 := 0) (o1 := 256) rfl ?_
  refine Ev.storeSlot (foc14 _) (k0_off14_eq i) (o0 := 0) (o1 := 256) rfl ?_
  have p2 := p1.step (by omega) (w := k0_pay34 (xq3 i s) (sub2 0 256 s.x3)) rfl
  refine Ev.load3 (foc12 _) rfl (k0_off13_eq i) ?_
  exact Ev.pure ⟨rfl, X7, X10, X11, _, rfl, h1, h2, h3, X14, p2⟩

/-- What the body leaves, off what it finds. -/
structure Post (i : grid0.Coords) (s s' : St F) : Prop where
  x1 : s'.x1 = s.x1
  x2 : s'.x2 = s.x2
  x3 : s'.x3 = s.x3
  x4 : s'.x4 = s.x4
  x5 : s'.x5 = s.x5
  x6 : s'.x6 = s.x6
  h : ∀ g < 8, ∀ k < 53, B g k s'.x7 = (epi i s g).h k
  z : ∀ g < 8, ∀ k < 53, B g k s'.x10 = (epi i s g).z k
  zs : ∀ g < 8, R1 g s'.x11 = (epi i s g).zs
  codes : ∀ g < 8, ∀ k < 9, B g k s'.x8 = k0_pay3 (xDown s.x1 g) (B g k s.x1)
  xq : ∀ g < 8, ∀ k < 9, B g k (slot (cur i) s'.x12) = k0_pay3 (xDown s.x1 g) (B g k s.x1)
  xs_out : ∀ g < 8, R1 g s'.x9 = xUp s.x1 g
  xs : ∀ g < 8, R1 g (slot ((i 0).val % 3) s'.x13) = xUp s.x1 g
  xs_ne : ∀ p < 3, p ≠ (i 0).val % 3 → slot p s'.x13 = slot p s.x13
  proj : ∀ b < 26, (sub2 0 (256 * b) (slot (prv i) s'.x14) : S256x256.Idx → _) = k0_pay33 (xq3 i s) (sub2 0 (256 * b) s.x3)
  proj_last : (sub2 0 6656 (slot (prv i) s'.x14) : S256x128.Idx → _) = k0_pay1 (k0_pay35 (xq3 i s)) (sub2 0 6656 s.x3)

set_option maxHeartbeats 1000000 in
/-- The body's triple. -/
theorem ev_body (s : St F) : Ev c A (cc0_out_proj_norm_quant i A.a1 A.w1 A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14) s (fun _ s' => Post i s s') := by
  have hp : prv i < 2 := by show 1 - (i 0).val % 2 < 2; omega
  rw [cc0_out_proj_norm_quant_eq_skeleton]
  unfold cc0_out_proj_norm_quant_skel
  refine Ev.bind (ev_part6 s) ?_
  rintro ⟨a0, v1, a2⟩ _ ⟨rfl, X7, X10, X11, Y2, rfl, h1, h2, h3, X, p2⟩
  dsimp only
  refine Ev.bind (ev_part7 v1 { s with x7 := X7, x10 := X10, x11 := X11, x14 := X } Y2 p2) ?_
  rintro _ _ ⟨rfl, Y3, rfl, p3⟩
  refine Ev.bind (ev_part8 v1 { s with x7 := X7, x10 := X10, x11 := X11, x14 := X } Y3 p3) ?_
  rintro _ _ ⟨rfl, Y4, rfl, p4⟩
  refine Ev.bind (ev_part9 v1 { s with x7 := X7, x10 := X10, x11 := X11, x14 := X } Y4 p4) ?_
  rintro _ _ ⟨rfl, Y5, rfl, p5⟩
  refine Ev.bind (ev_part10 v1 { s with x7 := X7, x10 := X10, x11 := X11, x14 := X } Y5 p5) ?_
  rintro _ _ ⟨rfl, Y6, rfl, p6⟩
  refine Ev.bind (ev_part11 v1 { s with x7 := X7, x10 := X10, x11 := X11, x14 := X } Y6 p6) ?_
  rintro _ _ ⟨rfl, Y7, rfl, p7⟩
  refine Ev.bind (ev_part12 v1 { s with x7 := X7, x10 := X10, x11 := X11, x14 := X } Y7 p7) ?_
  rintro _ _ ⟨rfl, Y8, rfl, p8⟩
  refine Ev.bind (ev_part13 v1 { s with x7 := X7, x10 := X10, x11 := X11, x14 := X } Y8 p8) ?_
  rintro _ _ ⟨rfl, Y9, rfl, p9⟩
  refine Ev.bind (ev_part14 v1 { s with x7 := X7, x10 := X10, x11 := X11, x14 := X } Y9 p9) ?_
  rintro _ _ ⟨rfl, Y10, rfl, p10⟩
  refine Ev.load2 (foc3 _) rfl (o0 := 0) (o1 := 6656) rfl ?_
  refine Ev.loadSlot (foc14 _) rfl (k0_off14_eq i) (o0 := 0) (o1 := 6656) rfl ?_
  refine Ev.storeSlot (foc14 _) (k0_off14_eq i) (o0 := 0) (o1 := 6656) rfl ?_
  refine Ev.bind (ev_t5 _) ?_
  rintro _ _ ⟨X8, X9, X12, X13, rfl, k1, k2, k3, k4, k5, k6⟩
  refine Ev.pure { x1 := rfl, x2 := rfl, x3 := rfl, x4 := rfl, x5 := rfl, x6 := rfl, h := h1, z := h2, zs := h3, codes := k1, xq := k2, xs_out := k4, xs := k5, xs_ne := k6, proj := ?_, proj_last := ?_ }
  · intro b hb
    refine (congrArg (sub2 0 (256 * b)) (slot_setSlot hp _ _)).trans ?_
    exact (sub2_put2_ne (by omega) (by omega) (by omega) _ _).trans (p10.1 b hb)
  · refine (congrArg (sub2 0 6656) (slot_setSlot hp _ _)).trans ?_
    exact sub2_put2 (by omega) (by omega) _ _

end Cert.KernelIdeal.Hand

end
-- ==== Proof.KI.Launch.lean ====
/- The launch: what the kernel carries in scratch from point to point, and what it leaves in each array. -/
module

public import proofs.«01_k».proof.Proof.KI.Body
public import Idealize.ShloMosaic.Lib.ValueLayout
public import Idealize.ShloMosaic.Lib.ValueLayoutCasts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Blocks Idealize.ShloMosaic.ValueIdx

variable {F : FTy → Type} [FloatOps F]

local notation "𝕄" => MT nD τ sig Unit (Elt F) ℕ (UR sig nD τ) ℕ

/-! ## What the kernel computes, as relations -/

/-- `Q` holds the codes of the rows `X`. -/
def IsCodes (X : Vec F S256x1152 .bf16) (Q : Vec F S256x1152 .fp8e4m3) : Prop := ∀ g < 8, ∀ k < 9, B g k Q = k0_pay3 (xDown X g) (B g k X)
/-- `S` holds the scales of the rows `X`. -/
def IsScale (X : Vec F S256x1152 .bf16) (S : Vec F S256x1 .f32) : Prop := ∀ g < 8, R1 g S = xUp X g
/-- `y` is the product of the codes `Q` with the matrix `w`, block column by block column. -/
def IsProj (Q : Vec F S256x1152 .fp8e4m3) (w : Vec F S1152x6784 .fp8e4m3) (y : Vec F S256x6784 .f32) : Prop :=
  (∀ b < 26, (sub2 0 (256 * b) y : S256x256.Idx → _) = k0_pay33 (fun j => Q (ix2 (j 1) (j 2))) (sub2 0 (256 * b) w))
    ∧ (sub2 0 6656 y : S256x128.Idx → _) = k0_pay1 (k0_pay35 (fun j => Q (ix2 (j 1) (j 2)))) (sub2 0 6656 w)

/-- What the normalising of group `g` reads. -/
def epiOf (y : Vec F S256x6784 .f32) (xs : Vec F S256x1 .f32) (rs : Vec F S256x6784 .bf16) (ws cpost cpre : Vec F S1x6784 .f32) (g : ℕ) : Epi F where
  xs := R1 g xs
  y := fun k => B g k y
  rs := fun k => B g k rs
  ws := fun k => C1 k ws
  cpost := fun k => C1 k cpost
  cpre := fun k => C1 k cpre

variable (m : (ℓ : Loc nD τ sig) → Buf (Elt F) ℓ) (ρ : Dev nD → PrngReg)

/-- The point of a number. -/
def pt (n : ℕ) : Fin cfg0.N := ⟨min n 97, lt_of_le_of_lt (Nat.min_le_right _ _) (by decide)⟩
theorem pt_val (t : Fin cfg0.N) : pt t.val = t := Fin.ext (Nat.min_eq_left (by have := t.isLt; have h : cfg0.N = 98 := N_0; omega))

/-- The blocks of the inputs at a point. -/
def xb (c : Dev nD) (n : ℕ) : Vec F S256x1152 .bf16 := iblk m c 0 (pt n)
def rb (c : Dev nD) (n : ℕ) : Vec F S256x6784 .bf16 := iblk m c 1 (pt n)
def wb (c : Dev nD) (n : ℕ) : Vec F S1152x6784 .fp8e4m3 := iblk m c 2 (pt n)
def wsb (c : Dev nD) (n : ℕ) : Vec F S1x6784 .f32 := iblk m c 3 (pt n)
def cpostb (c : Dev nD) (n : ℕ) : Vec F S1x6784 .f32 := iblk m c 4 (pt n)
def cpreb (c : Dev nD) (n : ℕ) : Vec F S1x6784 .f32 := iblk m c 5 (pt n)

/-- `e g` is what the normalising at point `n` reads for group `g`. -/
def Reads (c : Dev nD) (n : ℕ) (e : ℕ → Epi F) : Prop :=
  ∃ Q S y, IsCodes (xb m c (n - 2)) Q ∧ IsScale (xb m c (n - 2)) S ∧ IsProj Q (wb m c (n - 1)) y
    ∧ e = epiOf y S (rb m c n) (wsb m c n) (cpostb m c n) (cpreb m c n)

/-- What the body leaves in the windows of the first normalisation and of the second one's codes and scales. -/
def HMade (c : Dev nD) (n : ℕ) (X : Vec F S256x6784 .bf16) : Prop := 2 ≤ n → ∃ e, Reads m c n e ∧ ∀ g < 8, ∀ k < 53, B g k X = (e g).h k
def ZMade (c : Dev nD) (n : ℕ) (X : Vec F S256x6784 .fp8e4m3) : Prop := 2 ≤ n → ∃ e, Reads m c n e ∧ ∀ g < 8, ∀ k < 53, B g k X = (e g).z k
def ZsMade (c : Dev nD) (n : ℕ) (X : Vec F S256x1 .f32) : Prop := 2 ≤ n → ∃ e, Reads m c n e ∧ ∀ g < 8, R1 g X = (e g).zs

/-- What the scratch buffers hold before point `n`. -/
def Inv (c : Dev nD) (n : ℕ) (f12 : Vec F S2x256x1152 .fp8e4m3) (f13 : Vec F S3x256x1 .f32) (f14 : Vec F S2x256x6784 .f32) : Prop :=
  (1 ≤ n → IsCodes (xb m c (n - 1)) (slot ((n - 1) % 2) f12) ∧ IsScale (xb m c (n - 1)) (slot ((n - 1) % 3) f13))
    ∧ (2 ≤ n → IsScale (xb m c (n - 2)) (slot ((n - 2) % 3) f13) ∧ ∃ Q, IsCodes (xb m c (n - 2)) Q ∧ IsProj Q (wb m c (n - 1)) (slot (n % 2) f14))

/-- The invariant on scratch before a point. -/
def PhiN (c : Dev nD) (n : ℕ) : sProp 𝕄 :=
  iprop((∃ f12 f13 f14, ⌜Inv m c n f12 f13 f14⌝ ∗ owns (c : Thread nD τ) (Memref.whole cc0_scratch0) fullShare f12
    ∗ owns (c : Thread nD τ) (Memref.whole cc0_scratch1) fullShare f13 ∗ owns (c : Thread nD τ) (Memref.whole cc0_scratch2) fullShare f14) ∗ ∃ r, prngReg c r)

/-- What the body may leave in each window. -/
def aft (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => HMade m c t.val X
  | 7 => fun t _ X => IsCodes (xb m c t.val) X
  | 8 => fun t _ X => IsScale (xb m c t.val) X
  | 9 => fun t _ X => ZMade m c t.val X
  | 10 => fun t _ X => ZsMade m c t.val X
  | ⟨_ + 11, h⟩ => absurd h (Nat.not_lt.2 (Nat.le_add_left _ _))

/-- The proof data. -/
def rdat (c : Dev nD) : RDat τ (Elt F) Unit ℕ (UR sig nD τ) ℕ cfg0 c where
  A w := V m c (Pipeline.arrRef spec0 w)
  after := aft m c
  Φ t := PhiN m c t.val
  q _ := fullShare
  owed _ := 0

theorem coords_eq (t : Fin cfg0.N) : (grid0.coords t 0).val = t.val := by
  have h := Pipeline.Grid.coords_val (G := grid0) t 0 (S := 1) (B := 98) (by decide) rfl
  have ht : t.val < 98 := lt_of_lt_of_eq t.isLt N_0
  omega

/-! ## The body's obligation -/

theorem finds_in (c : Dev nD) (w : Fin cfg0.W) (hw : (cfg0.win w).isOut = false)
    (hclip : ∀ t t' : Fin cfg0.N, (cfg0.win w).index t = (cfg0.win w).index t' → (cfg0.win w).clip (cfg0.grid.coords t) = (cfg0.win w).clip (cfg0.grid.coords t'))
    (hkeep : ∀ t Y X, aft m c w t Y X → X = Y) (t : Fin cfg0.N) (Y) (h : (rdat m c).Finds w t Y) : ∃ d, Y = (rdat m c).fetched w t d :=
  (rdat m c).finds_in_eq_fetched w hw hclip hkeep t Y h

/-- The buffers of a point. -/
def argsAt (t : Fin cfg0.N) : Args where
  a1 := st0_0 t
  w1 := hstage0_0 ((cfg0.slots t 0).cast nbuf0_0)
  a2 := st0_1 t
  w2 := hstage0_1 ((cfg0.slots t 1).cast nbuf0_1)
  a3 := st0_2 t
  w3 := hstage0_2 ((cfg0.slots t 2).cast nbuf0_2)
  a4 := st0_3 t
  w4 := hstage0_3 ((cfg0.slots t 3).cast nbuf0_3)
  a5 := st0_4 t
  w5 := hstage0_4 ((cfg0.slots t 4).cast nbuf0_4)
  a6 := st0_5 t
  w6 := hstage0_5 ((cfg0.slots t 5).cast nbuf0_5)
  a7 := st0_6 t
  w7 := hstage0_6 ((cfg0.slots t 6).cast nbuf0_6)
  a8 := st0_7 t
  w8 := hstage0_7 ((cfg0.slots t 7).cast nbuf0_7)
  a9 := st0_8 t
  w9 := hstage0_8 ((cfg0.slots t 8).cast nbuf0_8)
  a10 := st0_9 t
  w10 := hstage0_9 ((cfg0.slots t 9).cast nbuf0_9)
  a11 := st0_10 t
  w11 := hstage0_10 ((cfg0.slots t 10).cast nbuf0_10)
  a12 := Memref.whole cc0_scratch0
  w12 := Memref.isWhole_whole _
  a13 := Memref.whole cc0_scratch1
  w13 := Memref.isWhole_whole _
  a14 := Memref.whole cc0_scratch2
  w14 := Memref.isWhole_whole _

/-- The body's postcondition carries the invariant one point on and makes the outputs. -/
theorem post_inv (c : Dev nD) (t : Fin cfg0.N) (s s' : St F) (h : Post (grid0.coords t) s s')
    (h1 : s.x1 = xb m c t.val) (h2 : s.x2 = rb m c t.val) (h3 : s.x3 = wb m c t.val) (h4 : s.x4 = wsb m c t.val)
    (h5 : s.x5 = cpostb m c t.val) (h6 : s.x6 = cpreb m c t.val) (hI : Inv m c t.val s.x12 s.x13 s.x14) :
    Inv m c (t.val + 1) s'.x12 s'.x13 s'.x14 ∧ HMade m c t.val s'.x7 ∧ IsCodes (xb m c t.val) s'.x8 ∧ IsScale (xb m c t.val) s'.x9
      ∧ ZMade m c t.val s'.x10 ∧ ZsMade m c t.val s'.x11 := by
  have e0 : (grid0.coords t 0).val = t.val := coords_eq t
  have hR : 2 ≤ t.val → Reads m c t.val (epi (grid0.coords t) s) := by
    intro h2'
    obtain ⟨-, hI2⟩ := hI
    obtain ⟨hS, Q, hQ, hP⟩ := hI2 h2'
    refine ⟨Q, _, _, hQ, hS, hP, ?_⟩
    funext g
    unfold epi epiOf cur
    rw [e0, h2, h4, h5, h6, show (t.val + 1) % 3 = (t.val - 2) % 3 by omega]
  have hx : ∀ g, xDown s.x1 g = xDown (xb m c t.val) g := fun g => by rw [h1]
  refine ⟨⟨fun _ => ⟨?_, ?_⟩, fun h2' => ⟨?_, ?_⟩⟩, fun h2' => ⟨_, hR h2', h.h⟩, ?_, ?_, fun h2' => ⟨_, hR h2', h.z⟩, fun h2' => ⟨_, hR h2', h.zs⟩⟩
  · rw [Nat.add_sub_cancel, ← h1, ← e0]; exact h.xq
  · rw [Nat.add_sub_cancel, ← h1, ← e0]; exact h.xs
  · have := h.xs_ne ((t.val + 1 - 2) % 3) (by omega) (by rw [e0]; omega)
    rw [this]
    exact (hI.1 (by omega)).2
  · refine ⟨slot (prv (grid0.coords t)) s.x12, ?_, ?_⟩
    · have := (hI.1 (by omega)).1
      unfold prv
      rw [e0, show 1 - t.val % 2 = (t.val - 1) % 2 by omega]
      exact this
    · have p1 := h.proj
      have p2 := h.proj_last
      rw [h3] at p1 p2
      rw [Nat.add_sub_cancel, show (t.val + 1) % 2 = prv (grid0.coords t) by unfold prv; rw [e0]; omega]
      exact ⟨p1, p2⟩
  · rw [← h1]; exact h.codes
  · rw [← h1]; exact h.xs_out

theorem sound_body (c : Dev nD) (t : Fin cfg0.N) (s : St F)
    (h1 : s.x1 = xb m c t.val) (h2 : s.x2 = rb m c t.val) (h3 : s.x3 = wb m c t.val) (h4 : s.x4 = wsb m c t.val)
    (h5 : s.x5 = cpostb m c t.val) (h6 : s.x6 = cpreb m c t.val) (hI : Inv m c t.val s.x12 s.x13 s.x14) :
    holds c (argsAt t) s ⊢ wp frame (wpE (defs₀ (F := F)) Variants.none c none) Set.univ (bodyAt0 t) (fun _ =>
      iprop(∃ s', ⌜(Inv m c (t.val + 1) s'.x12 s'.x13 s'.x14 ∧ HMade m c t.val s'.x7 ∧ IsCodes (xb m c t.val) s'.x8 ∧ IsScale (xb m c t.val) s'.x9
      ∧ ZMade m c t.val s'.x10 ∧ ZsMade m c t.val s'.x11) ∧ s'.x1 = s.x1 ∧ s'.x2 = s.x2 ∧ s'.x3 = s.x3 ∧ s'.x4 = s.x4 ∧ s'.x5 = s.x5 ∧ s'.x6 = s.x6⌝ ∗ holds c (argsAt t) s')) :=
  Ev.mono (ev_body (c := c) (A := argsAt t) (i := grid0.coords t) s) (fun _ s' h => ⟨post_inv m c t s s' h h1 h2 h3 h4 h5 h6 hI, h.x1, h.x2, h.x3, h.x4, h.x5, h.x6⟩)

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ ∗ (∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))

theorem sound_point (c : Dev nD) (t : Fin cfg0.N) (Y : (w : Fin cfg0.W) → (cfg0.win w).block.Idx → Elt F (cfg0.win w).elt)
    (h1 : Y 0 = xb m c t.val) (h2 : Y 1 = rb m c t.val) (h3 : Y 2 = wb m c t.val) (h4 : Y 3 = wsb m c t.val)
    (h5 : Y 4 = cpostb m c t.val) (h6 : Y 5 = cpreb m c t.val) :
    bodyPre m c t Y ⊢ wp frame (wpE (defs₀ (F := F)) Variants.none c none) Set.univ (bodyAt0 t) (fun _ => bodyPost m c t Y) := by
  unfold bodyPre bodyPost
  rw [show (rdat m c).Φ t.succ = PhiN m c (t.val + 1) from rfl, show (rdat m c).Φ t.castSucc = PhiN m c t.val from rfl]
  unfold PhiN
  iintro ⟨⟨⟨%f12, %f13, %f14, %hI, S0, S1, S2⟩, Hg⟩, HO, H0, H1, H2, H3, H4, H5, H6, H7, H8, H9, H10⟩
  have hB := sound_body m c t ⟨Y 0, Y 1, Y 2, Y 3, Y 4, Y 5, Y 6, Y 7, Y 8, Y 9, Y 10, f12, f13, f14⟩ h1 h2 h3 h4 h5 h6 hI
  iapply (wp_wand_r (p := bodyAt0 (F := F) t) frame (wpE (defs₀ (F := F)) Variants.none c none) Set.univ)
  isplitl [S0 S1 S2 H0 H1 H2 H3 H4 H5 H6 H7 H8 H9 H10]
  · iapply hB
    unfold holds argsAt
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iexact S2
  iintro %a ⟨%s', %hs, H⟩
  unfold holds argsAt
  obtain ⟨⟨hI', hh, hc, hsc, hz, hzs⟩, e1, e2, e3, e4, e5, e6⟩ := hs
  icases H with ⟨H0, H1, H2, H3, H4, H5, H6, H7, H8, H9, H10, S0, S1, S2⟩
  isplitl [S0 S1 S2 Hg]
  · isplitl [S0 S1 S2]
    · iexists s'.x12, s'.x13, s'.x14
      isplitr; · ipureintro; exact hI'
      isplitl [S0]; · iexact S0
      isplitl [S1]; · iexact S1
      iexact S2
    iexact Hg
  isplitl [HO]; · iexact HO
  isplitl [H0]
  · iexists s'.x1
    isplitr; · ipureintro; exact e1
    iexact H0
  isplitl [H1]
  · iexists s'.x2
    isplitr; · ipureintro; exact e2
    iexact H1
  isplitl [H2]
  · iexists s'.x3
    isplitr; · ipureintro; exact e3
    iexact H2
  isplitl [H3]
  · iexists s'.x4
    isplitr; · ipureintro; exact e4
    iexact H3
  isplitl [H4]
  · iexists s'.x5
    isplitr; · ipureintro; exact e5
    iexact H4
  isplitl [H5]
  · iexists s'.x6
    isplitr; · ipureintro; exact e6
    iexact H5
  isplitl [H6]
  · iexists s'.x7
    isplitr; · ipureintro; exact hh
    iexact H6
  isplitl [H7]
  · iexists s'.x8
    isplitr; · ipureintro; exact hc
    iexact H7
  isplitl [H8]
  · iexists s'.x9
    isplitr; · ipureintro; exact hsc
    iexact H8
  isplitl [H9]
  · iexists s'.x10
    isplitr; · ipureintro; exact hz
    iexact H9
  iexists s'.x11
  isplitr; · ipureintro; exact hzs
  iexact H10

theorem find0 (c : Dev nD) (t : Fin cfg0.N) (Y) (h : (rdat m c).Finds 0 t Y) : Y = xb m c t.val := by
  obtain ⟨d, rfl⟩ := finds_in m c 0 rfl (fun _ _ _ => rfl) (fun _ _ _ h => h) t Y h
  unfold xb RDat.fetched RDat.blockOf iblk
  rw [pt_val]
  rfl
theorem find1 (c : Dev nD) (t : Fin cfg0.N) (Y) (h : (rdat m c).Finds 1 t Y) : Y = rb m c t.val := by
  obtain ⟨d, rfl⟩ := finds_in m c 1 rfl (fun _ _ _ => rfl) (fun _ _ _ h => h) t Y h
  unfold rb RDat.fetched RDat.blockOf iblk
  rw [pt_val]
  rfl
theorem find2 (c : Dev nD) (t : Fin cfg0.N) (Y) (h : (rdat m c).Finds 2 t Y) : Y = wb m c t.val := by
  obtain ⟨d, rfl⟩ := finds_in m c 2 rfl (fun _ _ _ => rfl) (fun _ _ _ h => h) t Y h
  unfold wb RDat.fetched RDat.blockOf iblk
  rw [pt_val]
  rfl
theorem find3 (c : Dev nD) (t : Fin cfg0.N) (Y) (h : (rdat m c).Finds 3 t Y) : Y = wsb m c t.val := by
  obtain ⟨d, rfl⟩ := finds_in m c 3 rfl (fun _ _ _ => rfl) (fun _ _ _ h => h) t Y h
  unfold wsb RDat.fetched RDat.blockOf iblk
  rw [pt_val]
  rfl
theorem find4 (c : Dev nD) (t : Fin cfg0.N) (Y) (h : (rdat m c).Finds 4 t Y) : Y = cpostb m c t.val := by
  obtain ⟨d, rfl⟩ := finds_in m c 4 rfl (fun _ _ _ => rfl) (fun _ _ _ h => h) t Y h
  unfold cpostb RDat.fetched RDat.blockOf iblk
  rw [pt_val]
  rfl
theorem find5 (c : Dev nD) (t : Fin cfg0.N) (Y) (h : (rdat m c).Finds 5 t Y) : Y = cpreb m c t.val := by
  obtain ⟨d, rfl⟩ := finds_in m c 5 rfl (fun _ _ _ => rfl) (fun _ _ _ h => h) t Y h
  unfold cpreb RDat.fetched RDat.blockOf iblk
  rw [pt_val]
  rfl

theorem body_obligation (c : Dev nD) : (rdat (F := F) m c).BodyObligation (defs₀ (F := F)) Variants.none () Set.univ := fun t Y hY => by
  rw [bigSep_W0, bigSep_W0, defs₀_row]
  exact triple_restated (sound_point m c t Y (find0 m c t _ (hY 0)) (find1 m c t _ (hY 1)) (find2 m c t _ (hY 2)) (find3 m c t _ (hY 3)) (find4 m c t _ (hY 4)) (find5 m c t _ (hY 5))) rfl .rfl fun _ => .rfl

theorem hin (c : Dev nD) : (Pipeline.ΦA spec0 c : sProp 𝕄) ⊢ (rdat m c).Φ 0 := by
  rw [show (rdat m c).Φ 0 = PhiN m c 0 from rfl]
  unfold Pipeline.ΦA PhiN
  rw [scopedRest0_eq]
  simp only [owns_whole]
  iintro ⟨⟨⟨%f0, S0⟩, ⟨%f1, S1⟩, ⟨%f2, S2⟩⟩, Hg⟩
  isplitr [Hg]
  · iexists f0, f1, f2
    isplitr
    · ipureintro; exact ⟨fun h => absurd h (by decide), fun h => absurd h (by decide)⟩
    isplitl [S0]; · iexact S0
    isplitl [S1]; · iexact S1
    iexact S2
  iexact Hg

theorem hout (c : Dev nD) : (rdat m c).Φ (Fin.last cfg0.N) ⊢ (Pipeline.ΦA spec0 c : sProp 𝕄) := by
  rw [show (rdat m c).Φ (Fin.last cfg0.N) = PhiN m c cfg0.N from rfl]
  unfold Pipeline.ΦA PhiN
  rw [scopedRest0_eq]
  simp only [owns_whole]
  iintro ⟨⟨%f0, %f1, %f2, -, S0, S1, S2⟩, Hg⟩
  isplitr [Hg]
  · isplitl [S0]; · iexists f0; iexact S0
    isplitl [S1]; · iexists f1; iexact S1
    iexists f2; iexact S2
  iexact Hg

set_option backward.isDefEq.respectTransparency.types false in
/-- The run: every array at contents the relations allow, and every counter back at zero. -/
theorem run_main :
    θ_run defs (onTc (τ := τ) (main (F := F))) (s₀ m ρ)
      (fun r => Pipeline.RDat.FramePost cfg0 (rdat m) (V m) r ∧ r.2.sem = fun _ => 0) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := hin m) (hout := hout m) (Q' := fun r => Pipeline.RDat.FramePost cfg0 (rdat m) (V m) r ∧ r.2.sem = fun _ => 0) (hQ' := fun _ h => h)

/-- The frame. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.Val.Scale.lean ====
/- The power-of-two scales: the search over the exponent's bits, and the floor of a logarithm, agree. -/
module

public import Idealize.ShloMosaic.PureOps.Ideal
public import Idealize.ShloMosaic.PureOps.Vector
public import Mathlib.Analysis.SpecialFunctions.Pow.Real
public import Mathlib.Algebra.Order.Archimedean.Basic

@[expose] public section

noncomputable section

namespace Cert.Val

open Idealize.ShloMosaic

/-- The number an exponent field of eight bits denotes, with no fraction. -/
def pw (n : ℕ) : EReal := if n = 0 then 0 else if n = 255 then ⊤ else (((2 : ℝ) ^ ((n : ℤ) - 127) : ℝ) : EReal)

/-- A word holding only an exponent field. -/
def fld (t : BitVec 32) : EReal := FloatOps.ofBits (F := Ideal) .f32 (IntOp.shli .vector t 23#32)

theorem fld_eq (t : BitVec 32) (ht : t.toNat ≤ 255) : fld t = pw t.toNat := by
  obtain ⟨n, hn⟩ : ∃ n, n = t.toNat := ⟨_, rfl⟩
  have hs : (IntOp.shli .vector t 23#32).toNat = n * 2 ^ 23 := by
    have : IntOp.shli .vector t 23#32 = t <<< 23 := by
      simp only [IntOp.shli]; rw [if_pos (by decide)]; rfl
    rw [this, BitVec.toNat_shiftLeft, Nat.shiftLeft_eq, ← hn]
    omega
  have h0 : (IntOp.shli .vector t 23#32).extractLsb' 23 8 = BitVec.ofNat 8 n := by
    apply BitVec.eq_of_toNat_eq
    rw [BitVec.extractLsb'_toNat, hs, Nat.shiftRight_eq_div_pow]; simp
  have h1 : ((IntOp.shli .vector t 23#32).extractLsb' 0 23).toNat = 0 := by
    rw [BitVec.extractLsb'_toNat, hs]; simp
  have h2 : ((IntOp.shli .vector t 23#32).extractLsb' 31 1 == 1#1) = false := by
    rw [beq_eq_false_iff_ne]
    intro h
    have := congrArg BitVec.toNat h
    rw [BitVec.extractLsb'_toNat, hs, Nat.shiftRight_eq_div_pow] at this
    simp at this; omega
  show Ideal.ieee 8 23 (IntOp.shli .vector t 23#32) = _
  rw [← hn] at ht ⊢
  have h3 : (BitVec.ofNat 8 n).toNat = n := by simp; omega
  simp only [Ideal.ieee, h0, h1, h2, h3, pw]
  by_cases a : n = 255
  · subst a; simp
  · by_cases b : n = 0
    · subst b; simp
    · simp only [a, b, if_false]
      rw [if_neg (by omega)]
      norm_num
      rw [show (8388608 : ℝ) = 2 ^ (23 : ℤ) by norm_num, ← EReal.coe_mul, ← zpow_add₀ (by norm_num : (2 : ℝ) ≠ 0)]
      exact congrArg (fun z : ℤ => (((2 : ℝ) ^ z : ℝ) : EReal)) (by ring)

/-- One step of the search: the bit is kept when the number is at least the trial's. -/
def kstep (m : EReal) (b w : BitVec 32) : BitVec 32 :=
  Scalar.select (FloatOps.cmpf (F := Ideal) (φ := .f32) .oge m (fld (IntOp.addi b w))) (IntOp.addi b w) b

/-- The search's first four steps. -/
def ksrch4 (m : EReal) : BitVec 32 := kstep m (kstep m (kstep m (kstep m 0#32 128#32) 64#32) 32#32) 16#32
/-- The search's last four steps. -/
def ksrch8 (m : EReal) (b : BitVec 32) : BitVec 32 := kstep m (kstep m (kstep m (kstep m b 8#32) 4#32) 2#32) 1#32
/-- The exponent from the field found. -/
def kexp (b : BitVec 32) : BitVec 32 := Scalar.select (IntOp.cmpi .eq b 0#32) 0#32 (IntOp.subi b 126#32)

/-- The scale of a row, as the search finds it. -/
def kup (m : EReal) : EReal := fld (IntOp.addi (kexp (ksrch8 m (ksrch4 m))) 127#32)
/-- Its reciprocal. -/
def kdn (m : EReal) : EReal := fld (IntOp.subi 127#32 (kexp (ksrch8 m (ksrch4 m))))

/-- The exponent as the reference takes it. -/
def rexp (m : EReal) : EReal :=
  Scalar.select (FloatOps.cmpf (F := Ideal) (φ := .f32) .olt m (Scalar.ofBits (F := Ideal) .f32 0x00800000#32))
    (Scalar.ofBits (F := Ideal) .f32 0x00000000#32)
    (FloatOps.addf (F := Ideal) (φ := .f32) (FloatOps.floor (F := Ideal) (φ := .f32)
      (FloatOps.divf (F := Ideal) (φ := .f32) (FloatOps.log (F := Ideal) (φ := .f32) m)
        (FloatOps.log (F := Ideal) (φ := .f32) (Scalar.ofBits (F := Ideal) .f32 0x40000000#32))))
      (Scalar.ofBits (F := Ideal) .f32 0x3F800000#32))

def rup (m : EReal) : EReal := FloatOps.exp2 (F := Ideal) (φ := .f32) (rexp m)
def rdn (m : EReal) : EReal :=
  FloatOps.exp2 (F := Ideal) (φ := .f32) (FloatOps.subf (F := Ideal) (φ := .f32) (Scalar.ofBits (F := Ideal) .f32 0x00000000#32) (rexp m))

theorem kstep_inv {m : EReal} {p w : ℕ} {b v : BitVec 32}
    (hm : ∀ t : BitVec 32, t.toNat ≤ 255 → (fld t ≤ m ↔ t.toNat ≤ p)) (hv : v.toNat = w) (hw : 0 < w)
    (h : b.toNat ≤ p ∧ p < b.toNat + 2 * w ∧ b.toNat + 2 * w ≤ 256) :
    (kstep m b v).toNat ≤ p ∧ p < (kstep m b v).toNat + w ∧ (kstep m b v).toNat + w ≤ 256 := by
  have ha : (IntOp.addi b v).toNat = b.toNat + w := by
    show (b + v).toNat = _
    rw [BitVec.toNat_add, hv]; omega
  have hc := hm (IntOp.addi b v) (by omega)
  rw [ha] at hc
  have hk : kstep m b v = if b.toNat + w ≤ p then IntOp.addi b v else b := by
    unfold kstep Scalar.select
    show (if Ideal.cmp .oge m (fld (IntOp.addi b v)) = 1 then _ else _) = _
    simp only [Ideal.cmp, hc]
    by_cases q : b.toNat + w ≤ p <;> simp [q]
  rw [hk]
  split
  · rw [ha]; omega
  · omega

theorem ksrch_eq {m : EReal} {p : ℕ} (hp : p < 256)
    (hm : ∀ t : BitVec 32, t.toNat ≤ 255 → (fld t ≤ m ↔ t.toNat ≤ p)) :
    ksrch8 m (ksrch4 m) = BitVec.ofNat 32 p := by
  have i0 : (0#32 : BitVec 32).toNat ≤ p ∧ p < (0#32 : BitVec 32).toNat + 2 * 128 ∧ (0#32 : BitVec 32).toNat + 2 * 128 ≤ 256 := by
    simp; omega
  have i1 := kstep_inv hm (v := 128#32) (w := 2 * 64) rfl (by omega) i0
  have i2 := kstep_inv hm (v := 64#32) (w := 2 * 32) rfl (by omega) i1
  have i3 := kstep_inv hm (v := 32#32) (w := 2 * 16) rfl (by omega) i2
  have i4 := kstep_inv hm (v := 16#32) (w := 2 * 8) rfl (by omega) i3
  have i5 := kstep_inv hm (v := 8#32) (w := 2 * 4) rfl (by omega) i4
  have i6 := kstep_inv hm (v := 4#32) (w := 2 * 2) rfl (by omega) i5
  have i7 := kstep_inv hm (v := 2#32) (w := 2 * 1) rfl (by omega) i6
  have i8 := kstep_inv hm (v := 1#32) (w := 1) rfl (by omega) i7
  apply BitVec.eq_of_toNat_eq
  rw [BitVec.toNat_ofNat, Nat.mod_eq_of_lt (by omega)]
  unfold ksrch8 ksrch4
  omega

theorem pw_pos {n : ℕ} (h0 : n ≠ 0) (h1 : n ≠ 255) : pw n = (((2 : ℝ) ^ ((n : ℤ) - 127) : ℝ) : EReal) := by
  simp [pw, h0, h1]

theorem ofBits_zero : Scalar.ofBits (F := Ideal) .f32 0x00000000#32 = (0 : EReal) :=
  (show Scalar.ofBits (F := Ideal) .f32 0x00000000#32 = fld 0#32 from rfl).trans ((fld_eq _ (by decide)).trans (by simp [pw]))

theorem ofBits_one : Scalar.ofBits (F := Ideal) .f32 0x3F800000#32 = (1 : EReal) :=
  (show Scalar.ofBits (F := Ideal) .f32 0x3F800000#32 = fld 127#32 from rfl).trans ((fld_eq _ (by decide)).trans (by simp [pw]))

theorem ofBits_two : Scalar.ofBits (F := Ideal) .f32 0x40000000#32 = ((2 : ℝ) : EReal) :=
  (show Scalar.ofBits (F := Ideal) .f32 0x40000000#32 = fld 128#32 from rfl).trans ((fld_eq _ (by decide)).trans (by
    rw [pw_pos (by decide) (by decide)]; exact congrArg _ (show (2 : ℝ) ^ (1 : ℤ) = 2 by norm_num)))

theorem ofBits_tiny : Scalar.ofBits (F := Ideal) .f32 0x00800000#32 = (((2 : ℝ) ^ (-126 : ℤ) : ℝ) : EReal) :=
  (show Scalar.ofBits (F := Ideal) .f32 0x00800000#32 = fld 1#32 from rfl).trans ((fld_eq _ (by decide)).trans (by
    rw [pw_pos (by decide) (by decide)]; congr 1))

theorem exp2_int (z : ℤ) : FloatOps.exp2 (F := Ideal) (φ := .f32) (((z : ℝ) : EReal)) = (((2 : ℝ) ^ z : ℝ) : EReal) := by
  show (((Real.rpow 2 (z : ℝ)) : ℝ) : EReal) = _
  rw [show Real.rpow 2 (z : ℝ) = (2 : ℝ) ^ (z : ℝ) from rfl, Real.rpow_intCast]

/-- The number of a row and its exponent. -/
theorem scales_eq {m : EReal} (h0 : 0 ≤ m) (h1 : m < (((2 : ℝ) ^ (126 : ℤ) : ℝ) : EReal)) :
    ∃ z : ℤ, -126 < z + 1 ∧ z < 127 ∧ kup m = (((2 : ℝ) ^ z : ℝ) : EReal) ∧ kdn m = (((2 : ℝ) ^ (-z) : ℝ) : EReal) ∧
      rup m = (((2 : ℝ) ^ z : ℝ) : EReal) ∧ rdn m = (((2 : ℝ) ^ (-z) : ℝ) : EReal) := by
  have hb : m ≠ ⊥ := fun h => by rw [h] at h0; exact absurd h0 (by simp)
  have ht : m ≠ ⊤ := fun h => by rw [h] at h1; exact absurd h1 (by simp)
  obtain ⟨r, rfl⟩ : ∃ r : ℝ, m = (r : EReal) := ⟨m.toReal, (EReal.coe_toReal ht hb).symm⟩
  have hr0 : 0 ≤ r := by exact_mod_cast h0
  have hr1 : r < (2 : ℝ) ^ (126 : ℤ) := by exact_mod_cast h1
  -- the exponent, as an integer, from either side
  suffices H : ∃ z : ℤ, -126 < z + 1 ∧ z < 127 ∧ (kexp (ksrch8 (r : EReal) (ksrch4 (r : EReal)))) = BitVec.ofInt 32 z ∧ rexp (r : EReal) = (((z : ℝ)) : EReal) by
    obtain ⟨z, hz1, hz2, hk, hr⟩ := H
    refine ⟨z, hz1, hz2, ?_, ?_, ?_, ?_⟩
    · unfold kup
      rw [hk]
      have : (IntOp.addi (BitVec.ofInt 32 z) 127#32).toNat = (z + 127).toNat := by
        show (BitVec.ofInt 32 z + 127#32).toNat = _
        rw [BitVec.toNat_add, BitVec.toNat_ofInt]; simp; omega
      rw [fld_eq _ (by omega), this, pw_pos (by omega) (by omega)]
      congr 2; omega
    · unfold kdn
      rw [hk]
      have : (IntOp.subi 127#32 (BitVec.ofInt 32 z)).toNat = (127 - z).toNat := by
        show (127#32 - BitVec.ofInt 32 z).toNat = _
        rw [BitVec.toNat_sub, BitVec.toNat_ofInt]; simp; omega
      rw [fld_eq _ (by omega), this, pw_pos (by omega) (by omega)]
      congr 2; omega
    · unfold rup
      rw [hr, exp2_int]
    · unfold rdn
      rw [hr, ofBits_zero]
      show FloatOps.exp2 (F := Ideal) (φ := .f32) ((0 : EReal) - ((z : ℝ) : EReal)) = _
      rw [show ((0 : EReal) - ((z : ℝ) : EReal)) = (((-z : ℤ) : ℝ) : EReal) by rw [zero_sub]; push_cast; rfl, exp2_int]
  by_cases hs : r < (2 : ℝ) ^ (-126 : ℤ)
  · have hp : ksrch8 (r : EReal) (ksrch4 (r : EReal)) = BitVec.ofNat 32 0 := by
      refine ksrch_eq (by omega) fun t ht => ?_
      rw [fld_eq t ht]
      by_cases h : t.toNat = 0
      · simp [h, pw, hr0]
      · by_cases h' : t.toNat = 255
        · simp [h', pw]
        · rw [pw_pos h h']
          constructor
          · intro q
            have q : (2 : ℝ) ^ ((t.toNat : ℤ) - 127) ≤ r := by exact_mod_cast q
            have : (2 : ℝ) ^ (-126 : ℤ) ≤ (2 : ℝ) ^ ((t.toNat : ℤ) - 127) := zpow_le_zpow_right₀ (by norm_num) (by omega)
            linarith
          · omega
    refine ⟨0, by omega, by omega, ?_, ?_⟩
    · rw [hp]; decide
    · unfold rexp
      rw [ofBits_tiny]
      have : FloatOps.cmpf (F := Ideal) (φ := .f32) .olt (r : EReal) (((2 : ℝ) ^ (-126 : ℤ) : ℝ) : EReal) = 1#1 := by
        show Ideal.cmp .olt _ _ = _
        simp only [Ideal.cmp]
        rw [decide_eq_true (by exact_mod_cast hs)]; rfl
      rw [this, ofBits_zero]
      simp [Scalar.select]
  · have hs : (2 : ℝ) ^ (-126 : ℤ) ≤ r := le_of_not_gt hs
    have hpos : 0 < r := lt_of_lt_of_le (by positivity) hs
    obtain ⟨k, k1, k2⟩ := exists_mem_Ico_zpow (y := (2 : ℝ)) hpos (by norm_num)
    have k3 : -126 ≤ k := by
      have : (2 : ℝ) ^ (-126 : ℤ) < (2 : ℝ) ^ (k + 1) := lt_of_le_of_lt hs k2
      have := (zpow_lt_zpow_iff_right₀ (by norm_num : (1 : ℝ) < 2)).1 this
      omega
    have k4 : k < 126 := (zpow_lt_zpow_iff_right₀ (by norm_num : (1 : ℝ) < 2)).1 (lt_of_le_of_lt k1 hr1)
    have hp : ksrch8 (r : EReal) (ksrch4 (r : EReal)) = BitVec.ofNat 32 (k + 127).toNat := by
      refine ksrch_eq (by omega) fun t ht => ?_
      rw [fld_eq t ht]
      by_cases h : t.toNat = 0
      · simp [h, pw, hr0]
      · by_cases h' : t.toNat = 255
        · simp [h', pw]; omega
        · rw [pw_pos h h']
          constructor
          · intro q
            have q : (2 : ℝ) ^ ((t.toNat : ℤ) - 127) ≤ r := by exact_mod_cast q
            have := (zpow_lt_zpow_iff_right₀ (by norm_num : (1 : ℝ) < 2)).1 (lt_of_le_of_lt q k2)
            omega
          · intro q
            have : (2 : ℝ) ^ ((t.toNat : ℤ) - 127) ≤ (2 : ℝ) ^ k := zpow_le_zpow_right₀ (by norm_num) (by omega)
            exact_mod_cast this.trans k1
    refine ⟨k + 1, by omega, by omega, ?_, ?_⟩
    · rw [hp]
      unfold kexp Scalar.select
      have hne : IntOp.cmpi .eq (BitVec.ofNat 32 (k + 127).toNat) 0#32 = 0#1 := by
        simp only [IntOp.cmpi]
        have : (BitVec.ofNat 32 (k + 127).toNat == 0#32) = false := by
          rw [beq_eq_false_iff_ne]
          intro h
          have := congrArg BitVec.toNat h
          simp at this
          omega
        rw [this]; rfl
      rw [hne, if_neg (by decide)]
      apply BitVec.eq_of_toNat_eq
      show (BitVec.ofNat 32 (k + 127).toNat - 126#32).toNat = _
      rw [BitVec.toNat_sub, BitVec.toNat_ofInt, BitVec.toNat_ofNat]
      simp
      omega
    · unfold rexp
      rw [ofBits_tiny, ofBits_zero, ofBits_two, ofBits_one]
      have : FloatOps.cmpf (F := Ideal) (φ := .f32) .olt (r : EReal) (((2 : ℝ) ^ (-126 : ℤ) : ℝ) : EReal) = 0#1 := by
        show Ideal.cmp .olt _ _ = _
        simp only [Ideal.cmp]
        rw [decide_eq_false (by rw [not_lt]; exact_mod_cast hs)]; rfl
      rw [this, Scalar.select, if_neg (by decide)]
      show Ideal.liftRound Int.floor (Ideal.div (Ideal.log (r : EReal)) (Ideal.log ((2 : ℝ) : EReal))) + 1 = _
      have l1 : Ideal.log (r : EReal) = ((Real.log r : ℝ) : EReal) := by
        show (if r ≤ 0 then ⊥ else (Real.log r : EReal)) = _
        rw [if_neg (not_le.2 hpos)]
      have l2 : Ideal.log ((2 : ℝ) : EReal) = ((Real.log 2 : ℝ) : EReal) := by
        show (if (2 : ℝ) ≤ 0 then ⊥ else (Real.log 2 : EReal)) = _
        rw [if_neg (by norm_num)]
      have l3 : Real.log 2 ≠ 0 := (Real.log_pos (by norm_num)).ne'
      have l4 : Ideal.div ((Real.log r : ℝ) : EReal) ((Real.log 2 : ℝ) : EReal) = ((Real.log r / Real.log 2 : ℝ) : EReal) := by
        unfold Ideal.div
        rw [if_neg (by exact_mod_cast l3), ← EReal.coe_inv, ← EReal.coe_mul]
        rfl
      have l5 : ⌊Real.log r / Real.log 2⌋ = k := by
        have p2 : 0 < Real.log 2 := Real.log_pos (by norm_num)
        rw [Int.floor_eq_iff, le_div_iff₀ p2, div_lt_iff₀ p2]
        constructor
        · rw [← Real.log_zpow]; exact Real.log_le_log (by positivity) k1
        · have := Real.log_lt_log hpos k2
          rw [Real.log_zpow] at this
          push_cast at this ⊢; exact this
      rw [l1, l2, l4]
      show (((⌊Real.log r / Real.log 2⌋ : ℤ) : ℝ) : EReal) + 1 = _
      rw [l5]; push_cast; rfl

end Cert.Val
-- ==== Proof.Val.Spec.lean ====
/- The operation on one row, in the reference's order and in the kernel's, and that the two agree. -/
module

public import proofs.«01_k».proof.Proof.Val.Scale

@[expose] public section

noncomputable section

namespace Cert.Val

open Idealize.ShloMosaic
open scoped BigOperators

def c6784 : EReal := Scalar.ofBits (F := Ideal) .f32 0x391A90E8#32
def ceps : EReal := Scalar.ofBits (F := Ideal) .f32 0x358637BD#32
def c448 : EReal := Scalar.ofBits (F := Ideal) .f32 0x3B124925#32
def chi : EReal := Scalar.ofBits (F := Ideal) .f32 0x43E00000#32
def clo : EReal := Scalar.ofBits (F := Ideal) .f32 0xC3E00000#32
def cone : EReal := Scalar.ofBits (F := Ideal) .f32 0x3F800000#32
def cmax : EReal := Scalar.ofBits (F := Ideal) .f32 0x7F7FFFFF#32

/-- The absolute value. -/
def ab (x : EReal) : EReal := max x (-x)
/-- The largest absolute value of a row. -/
def am {n : ℕ} (v : Fin n → EReal) : EReal := Finset.univ.fold max 0 (fun i => ab (v i))
def clip (v : EReal) : EReal := min chi (max clo v)

/-- The reference's scale and codes of a row. -/
def rScale {n : ℕ} (v : Fin n → EReal) : EReal := rup (am v * c448)
def rCode {n : ℕ} (v : Fin n → EReal) (i : Fin n) : EReal := clip (v i * rdn (am v * c448))
/-- The reciprocal root of a row's mean square. -/
def rms {n : ℕ} (v : Fin n → EReal) : EReal := Ideal.rsqrt ((∑ i, v i * v i) * c6784 + ceps)
def rY {d n : ℕ} (q : Fin d → EReal) (s : EReal) (w : Fin d → Fin n → EReal) (ws : Fin n → EReal) (i : Fin n) : EReal :=
  (∑ k, q k * w k i) * s * ws i
def rH {n : ℕ} (y g rs : Fin n → EReal) (i : Fin n) : EReal := y i * rms y * (cone + g i) + rs i
def rZ {n : ℕ} (h g : Fin n → EReal) (i : Fin n) : EReal := h i * rms h * (cone + g i)

/-- The kernel's scale and codes of a row. -/
def kScale {n : ℕ} (v : Fin n → EReal) : EReal := kup (am v * c448)
def kCode {n : ℕ} (v : Fin n → EReal) (i : Fin n) : EReal := clip (v i * kdn (am v * c448))
/-- The kernel's residual row, from the row of products. -/
def kH {n : ℕ} (p : Fin n → EReal) (s : EReal) (ws g rs : Fin n → EReal) (i : Fin n) : EReal :=
  p i * (Ideal.rsqrt ((∑ j, (p j * ws j) * (p j * ws j)) * c6784 * s * s + ceps) * s) * (ws i * (cone + g i)) + rs i
def kU {n : ℕ} (h g : Fin n → EReal) (i : Fin n) : EReal := h i * (cone + g i)
def kZs {n : ℕ} (h g : Fin n → EReal) : EReal := kup (am (kU h g) * rms h * c448)
def kZ {n : ℕ} (h g : Fin n → EReal) (i : Fin n) : EReal :=
  clip (kU h g i * (rms h * kdn (am (kU h g) * rms h * c448)))

theorem am_le_iff {n : ℕ} {v : Fin n → EReal} {b : EReal} : am v ≤ b ↔ 0 ≤ b ∧ ∀ i, ab (v i) ≤ b := by
  unfold am; rw [Finset.fold_max_le]; simp

theorem am_nonneg {n : ℕ} (v : Fin n → EReal) : 0 ≤ am v := (am_le_iff.1 le_rfl).1

theorem ab_nonneg (x : EReal) : 0 ≤ ab x := by
  unfold ab
  rcases le_total 0 x with h | h
  · exact le_max_of_le_left h
  · exact le_max_of_le_right (by rw [EReal.neg_nonneg]; exact h)

theorem ab_coe (r : ℝ) : ab (r : EReal) = ((|r| : ℝ) : EReal) := by
  unfold ab; rw [← EReal.coe_neg]
  rw [show |r| = max r (-r) from rfl]; norm_cast

theorem real_of_ab_le {x : EReal} {B : ℝ} (h : ab x ≤ (B : EReal)) : ∃ b : ℝ, x = (b : EReal) ∧ |b| ≤ B := by
  induction x using EReal.rec with
  | bot =>
    rw [show ab ⊥ = ⊤ by simp [ab]] at h
    exact absurd h (not_le.2 (EReal.coe_lt_top B))
  | top =>
    rw [show ab ⊤ = ⊤ by simp [ab]] at h
    exact absurd h (not_le.2 (EReal.coe_lt_top B))
  | coe b => rw [ab_coe] at h; exact ⟨b, rfl, EReal.coe_le_coe_iff.1 h⟩

theorem ab_mul {x r : EReal} (hr : 0 ≤ r) : ab (x * r) = ab x * r := by
  unfold ab
  have hm : Monotone fun a : EReal => a * r := fun a b h => mul_le_mul_of_nonneg_right h hr
  rw [hm.map_max (a := x) (b := -x), EReal.neg_mul]

theorem am_mul {n : ℕ} {v : Fin n → EReal} {r : EReal} (hr : 0 ≤ r) : am (fun i => v i * r) = am v * r := by
  unfold am
  have hm : Monotone fun a : EReal => a * r := fun a b h => mul_le_mul_of_nonneg_right h hr
  have := Finset.fold_hom (op := max) (op' := max) (s := Finset.univ) (b := 0) (f := fun i => ab (v i)) (m := fun a : EReal => a * r)
    (fun x y => hm.map_max)
  rw [← this]
  simp only [ab_mul hr, zero_mul]

theorem fold_bot {n : ℕ} (hn : 0 < n) (v : Fin n → EReal) : Finset.univ.fold max ⊥ (fun i => ab (v i)) = am v := by
  apply eq_of_forall_ge_iff
  intro b
  rw [am_le_iff, Finset.fold_max_le]
  constructor
  · rintro ⟨_, h⟩
    exact ⟨(ab_nonneg (v ⟨0, hn⟩)).trans (h _ (Finset.mem_univ _)), fun i => h i (Finset.mem_univ _)⟩
  · rintro ⟨_, h⟩
    exact ⟨bot_le, fun i _ => h i⟩

/-! The constants, as real numbers. -/

theorem norm_word (e f : ℕ) (b : BitVec 32) (h1 : b.extractLsb' 31 1 = 0#1) (h2 : (b.extractLsb' 23 8).toNat = e) (h3 : (b.extractLsb' 0 23).toNat = f)
    (he0 : e ≠ 0) (he : e ≠ 255) :
    Scalar.ofBits (F := Ideal) .f32 b = ((((2 ^ 23 + f : ℕ) : ℝ) * (2 : ℝ) ^ ((e : ℤ) - 127 - 23) : ℝ) : EReal) := by
  show Ideal.ieee 8 23 b = _
  simp [Ideal.ieee, h1, h2, h3, he0, he]

theorem c6784_eq : c6784 = (((10129640 : ℝ) / 2 ^ 36 : ℝ) : EReal) := by
  unfold c6784
  rw [norm_word 114 1741032 _ (by decide) (by decide) (by decide) (by decide) (by decide)]
  exact congrArg _ (by norm_num)

theorem ceps_eq : ceps = (((8796093 : ℝ) / 2 ^ 43 : ℝ) : EReal) := by
  unfold ceps
  rw [norm_word 107 407485 _ (by decide) (by decide) (by decide) (by decide) (by decide)]
  exact congrArg _ (by norm_num)

theorem c448_eq : c448 = (((9586981 : ℝ) / 2 ^ 32 : ℝ) : EReal) := by
  unfold c448
  rw [norm_word 118 1198373 _ (by decide) (by decide) (by decide) (by decide) (by decide)]
  exact congrArg _ (by norm_num)

theorem cmax_eq : cmax = (((16777215 : ℝ) * 2 ^ 104 : ℝ) : EReal) := by
  unfold cmax
  rw [norm_word 254 8388607 _ (by decide) (by decide) (by decide) (by decide) (by decide)]
  exact congrArg _ (by norm_num)

/-- A row's scale is found the same either way when the row is bounded. -/
theorem scales_of_le {M : EReal} {B : ℝ} (h0 : 0 ≤ M) (hB : M ≤ (B : EReal)) (h : B * ((9586981 : ℝ) / 2 ^ 32) < (2 : ℝ) ^ (126 : ℤ)) :
    kup (M * c448) = rup (M * c448) ∧ kdn (M * c448) = rdn (M * c448) ∧ ∃ s : ℝ, 0 ≤ s ∧ rup (M * c448) = (s : EReal) := by
  have hc : (0 : EReal) ≤ c448 := by rw [c448_eq]; exact_mod_cast (by positivity)
  have h1 : M * c448 < (((2 : ℝ) ^ (126 : ℤ) : ℝ) : EReal) := by
    refine lt_of_le_of_lt (mul_le_mul_of_nonneg_right hB hc) ?_
    rw [c448_eq, ← EReal.coe_mul]
    exact EReal.coe_lt_coe_iff.2 h
  obtain ⟨z, _, _, a, b, c, d⟩ := scales_eq (mul_nonneg h0 hc) h1
  exact ⟨a.trans c.symm, b.trans d.symm, _, by positivity, c⟩

theorem codes_eq {n : ℕ} {v : Fin n → EReal} (hv : ∀ i, ab (v i) ≤ cmax) :
    kScale v = rScale v ∧ (∀ i, kCode v i = rCode v i) ∧ ∃ s : ℝ, 0 ≤ s ∧ rScale v = (s : EReal) := by
  have hM : am v ≤ ((16777215 * 2 ^ 104 : ℝ) : EReal) := by
    rw [← cmax_eq]
    refine am_le_iff.2 ⟨?_, hv⟩
    rw [cmax_eq]; exact_mod_cast (by positivity)
  obtain ⟨a, b, c⟩ := scales_of_le (am_nonneg v) hM (by norm_num)
  exact ⟨a, fun i => by unfold kCode rCode; rw [b], c⟩

theorem sq_nonneg' (a : EReal) : 0 ≤ a * a := by
  rcases le_total 0 a with h | h
  · exact mul_nonneg h h
  · rw [← neg_mul_neg]
    exact mul_nonneg (by rw [EReal.neg_nonneg]; exact h) (by rw [EReal.neg_nonneg]; exact h)

theorem sum_mul_of_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

/-- The residual row. -/
theorem kH_eq {d n : ℕ} (q : Fin d → EReal) (s : EReal) (w : Fin d → Fin n → EReal) (ws g rs : Fin n → EReal) (i : Fin n) :
    kH (fun i => ∑ k, q k * w k i) s ws g rs i = rH (rY q s w ws) g rs i := by
  unfold kH rH rms
  have hs : (∑ j, rY q s w ws j * rY q s w ws j)
      = (∑ j, ((∑ k, q k * w k j) * ws j) * ((∑ k, q k * w k j) * ws j)) * (s * s) := by
    rw [← sum_mul_of_nonneg _ _ (fun j => sq_nonneg' _)]
    refine Finset.sum_congr rfl fun j _ => ?_
    unfold rY
    ac_rfl
  rw [hs]
  have e1 : ∀ A : EReal, A * (s * s) * c6784 = A * c6784 * s * s := fun A => by ac_rfl
  rw [e1]
  unfold rY
  congr 1
  dsimp only
  ac_rfl

/-- Either the mean square is infinite and every product with its reciprocal root is zero, or the row is real and bounded by the root. -/
theorem rms_cases {n : ℕ} (h : Fin n → EReal) :
    rms h = 0 ∨ ∃ (a : Fin n → ℝ) (r : ℝ), (∀ i, h i = (a i : EReal)) ∧ 0 ≤ r ∧ rms h = (r : EReal) ∧ ∀ i, |a i| * r ≤ 91 := by
  have hn : ∀ i, 0 ≤ h i * h i := fun i => sq_nonneg' _
  have hle : ∀ i, h i * h i ≤ ∑ j, h j * h j := fun i => Finset.single_le_sum (fun j _ => hn j) (Finset.mem_univ i)
  have h0 : 0 ≤ ∑ j, h j * h j := Finset.sum_nonneg fun j _ => hn j
  unfold rms
  generalize (∑ j, h j * h j) = S at hle h0
  induction S using EReal.rec with
  | bot => simp at h0
  | top =>
    left
    rw [c6784_eq, ceps_eq, EReal.top_mul_coe_of_pos (by norm_num), EReal.top_add_coe]
    rfl
  | coe S =>
    right
    have h0 : 0 ≤ S := by exact_mod_cast h0
    have hreal : ∀ i, ∃ a : ℝ, h i = (a : EReal) := by
      intro i
      have := hle i
      generalize h i = x at this
      induction x using EReal.rec with
      | bot => simp at this
      | top => simp at this
      | coe a => exact ⟨a, rfl⟩
    choose a ha using hreal
    have hpos : 0 < S * (10129640 / 2 ^ 36) + 8796093 / 2 ^ 43 := by positivity
    have hr : Ideal.rsqrt ((S : EReal) * c6784 + ceps) = (((Real.sqrt (S * (10129640 / 2 ^ 36) + 8796093 / 2 ^ 43))⁻¹ : ℝ) : EReal) := by
      rw [c6784_eq, ceps_eq, ← EReal.coe_mul, ← EReal.coe_add]
      show (if _ < 0 then ⊥ else if _ = 0 then ⊤ else _) = _
      rw [if_neg (not_lt.2 hpos.le), if_neg hpos.ne']
    refine ⟨a, _, ha, by positivity, hr, fun i => ?_⟩
    have hi : a i * a i ≤ S := by
      have := hle i
      rw [ha i, ← EReal.coe_mul] at this
      exact_mod_cast this
    rw [← div_eq_mul_inv, div_le_iff₀ (Real.sqrt_pos.2 hpos)]
    refine abs_le_of_sq_le_sq ?_ (by positivity)
    rw [mul_pow, Real.sq_sqrt hpos.le]
    have e6 : (10129640 : ℝ) / 2 ^ 36 * 8281 ≥ 1 := by norm_num
    have e7 : (0 : ℝ) ≤ 8796093 / 2 ^ 43 := by positivity
    nlinarith

/-- The codes and the scale of the second row. -/
theorem kZ_eq {n : ℕ} {h g : Fin n → EReal} (hg : ∀ i, ab (g i) ≤ cmax) :
    kZs h g = rScale (rZ h g) ∧ ∀ i, kZ h g i = rCode (rZ h g) i := by
  have hr0 : 0 ≤ rms h := by
    rcases rms_cases h with e | ⟨_, r, _, hr, e, _⟩
    · rw [e]
    · rw [e]; exact_mod_cast hr
  have hz : rZ h g = fun i => kU h g i * rms h := by
    funext i; unfold rZ kU; ac_rfl
  have hm : am (rZ h g) = am (kU h g) * rms h := by rw [hz, am_mul hr0]
  have hb : am (rZ h g) ≤ ((91 * (1 + 16777215 * 2 ^ 104) : ℝ) : EReal) := by
    refine am_le_iff.2 ⟨by exact_mod_cast (by positivity), fun i => ?_⟩
    rw [hz]
    rcases rms_cases h with e | ⟨a, r, ha, hr, e, hle⟩
    · simp only [e, mul_zero]
      rw [show ab 0 = 0 by simp [ab]]
      exact_mod_cast (by positivity)
    · have hgi : ∃ b : ℝ, g i = (b : EReal) ∧ |b| ≤ 16777215 * 2 ^ 104 := by
        exact real_of_ab_le (by rw [← cmax_eq]; exact hg i)
      obtain ⟨b, hb, hbl⟩ := hgi
      have : kU h g i * rms h = (((a i * (1 + b) * r : ℝ)) : EReal) := by
        unfold kU cone
        rw [ofBits_one, ha i, hb, e]; push_cast; rfl
      dsimp only
      rw [this, ab_coe]
      refine EReal.coe_le_coe_iff.2 ?_
      rw [show a i * (1 + b) * r = (a i * r) * (1 + b) by ring, abs_mul, abs_mul, abs_of_nonneg hr]
      refine mul_le_mul (hle i) ?_ (abs_nonneg _) (by norm_num)
      refine (abs_add_le _ _).trans ?_
      rw [abs_one]; linarith
  obtain ⟨e1, e2, _⟩ := scales_of_le (am_nonneg _) hb (by norm_num)
  constructor
  · unfold kZs rScale
    rw [← hm]; exact e1
  · intro i
    unfold kZ rCode
    rw [← hm, e2, hz]
    congr 1
    dsimp only
    ac_rfl

end Cert.Val
-- ==== Proof.Val.Generic.lean ====
/- A row's largest value, a row's sum, a column spread over a row: read at an index, at any sizes. -/
module

public import proofs.«01_k».proof.Proof.Val.Spec
public import Idealize.ShloMosaic.Lib.Pointwise
public import Idealize.ShloMosaic.Lib.ValueLayout
public import Idealize.ShloMosaic.Lib.ValueLayoutCasts

@[expose] public section

noncomputable section

namespace Cert.Val

open Idealize.ShloMosaic
open scoped BigOperators

theorem lift_row {a b : ℕ} (h : (⟨2, ![a, b]⟩ : Shape).Reduces [1] ⟨1, ![a]⟩) (i : Fin a) (k : Fin ((⟨2, ![a, b]⟩ : Shape).size 1)) :
    h.lift (ValueIdx.ix1 i) k = ix2 i (show Fin b from k) := by
  funext c
  apply Fin.ext
  rw [Shape.Reduces.lift_val]
  match c with
  | ⟨0, _⟩ => rfl
  | ⟨1, _⟩ => rfl

theorem row_max {a b : ℕ} (v : FVec Ideal (⟨2, ![a, b]⟩ : Shape) .f32) (h : (⟨2, ![a, b]⟩ : Shape).Reduces [1] ⟨1, ![a]⟩)
    (hφ : FKind.Formats .f32) (hacc : (0xFF800000#32 : BitVec 32) = FKind.maximumf.neutral .f32 hφ)
    (h' : (⟨1, ![a]⟩ : Shape).ShapeCasts ⟨2, ![a, 1]⟩) (i : Fin a) (u : Fin 1) :
    shapeCast ⟨2, ![a, 1]⟩ (multiReduction .maximumf [1] ⟨1, ![a]⟩ v 0xFF800000#32 h hφ hacc) h' (ix2 i u)
      = Finset.univ.fold max ⊥ (fun k : Fin b => v (ix2 i k)) := by
  rw [ix2_eq_valueIdx, ValueIdx.shapeCast_a_a1_apply]
  refine (Ideal.multiReduction_maximumf_single (a := (1 : Fin 2)) v _ h hφ hacc _).trans ?_
  have hb : FloatOps.ofBits (F := Ideal) .f32 0xFF800000#32 = (⊥ : EReal) := by
    show Ideal.ieee 8 23 (0xFF800000#32 : BitVec 32) = _
    simp [Ideal.ieee]
  rw [hb]
  refine congrArg (fun f => Finset.fold max (⊥ : EReal) f Finset.univ) ?_
  funext k
  exact congrArg v (lift_row h i k)

theorem row_sum {a b : ℕ} (v : FVec Ideal (⟨2, ![a, b]⟩ : Shape) .f32) (h : (⟨2, ![a, b]⟩ : Shape).Reduces [1] ⟨1, ![a]⟩)
    (hφ : FKind.Formats .f32) (hacc : (0x00000000#32 : BitVec 32) = FKind.add.neutral .f32 hφ)
    (h' : (⟨1, ![a]⟩ : Shape).ShapeCasts ⟨2, ![a, 1]⟩) (i : Fin a) (u : Fin 1) :
    shapeCast ⟨2, ![a, 1]⟩ (multiReduction .add [1] ⟨1, ![a]⟩ v 0x00000000#32 h hφ hacc) h' (ix2 i u)
      = ∑ k : Fin b, v (ix2 i k) := by
  rw [ix2_eq_valueIdx, ValueIdx.shapeCast_a_a1_apply]
  refine (Ideal.multiReduction_add_single (a := (1 : Fin 2)) v _ h hφ hacc _).trans ?_
  refine Finset.sum_congr rfl fun k _ => ?_
  exact congrArg v (lift_row h i k)

theorem col_bc {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  rw [ix2_eq_valueIdx, ix2_eq_valueIdx]
  refine broadcastTo_apply v h _ _ fun ax => ?_
  match ax with
  | ⟨0, _⟩ =>
    show p.val = if a = 1 then 0 else p.val
    split
    · have := p.isLt; omega
    · rfl
  | ⟨1, _⟩ => rfl

theorem row_bc {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 0 c) := by
  rw [ix2_eq_valueIdx, ix2_eq_valueIdx]
  exact ValueIdx.broadcastTo_1b_ab_apply v h p c

theorem cast_self {s : Shape} {α : Type} (x : s.Idx → α) (h : s.ShapeCasts s) : shapeCast s x h = x := shapeCast_id x h

end Cert.Val
-- ==== Proof.Val.KerPay.lean ====
/- The kernel's blocks at an index: each row of a block is the operation on one row. -/
module

public import proofs.«01_k».proof.Proof.Val.Generic
public import proofs.«01_k».proof.Proof.KI.Launch

@[expose] public section

set_option maxRecDepth 16384

noncomputable section

namespace Cert.Val.Ker

open Cert.Val Cert.KernelIdeal Cert.KernelIdeal.Gen Cert.KernelIdeal.Hand Cert.Blocks
open Idealize.ShloMosaic
open scoped BigOperators

/-! ## Chunks of 128 columns -/

theorem exists_fi {n m : ℕ} [NeZero n] (hn : n = m * 128) (i : Fin n) : ∃ k < m, ∃ l : Fin 128, i = fi n (128 * k + l.val) := by
  have hi := i.isLt
  refine ⟨i.val / 128, by omega, ⟨i.val % 128, by omega⟩, Fin.ext ?_⟩
  rw [fi_val (by dsimp only; omega)]
  dsimp only; omega

theorem sum_chunks {n m : ℕ} [NeZero n] (hn : n = m * 128) (f : Fin n → EReal) :
    ∑ l : Fin 128, ∑ k ∈ Finset.range m, f (fi n (128 * k + l.val)) = ∑ i, f i := by
  rw [Finset.sum_comm, Finset.sum_range, ← Fintype.sum_prod_type' (f := fun (k : Fin m) (l : Fin 128) => f (fi n (128 * k.val + l.val)))]
  refine Fintype.sum_equiv (finProdFinEquiv.trans (finCongr hn.symm)) _ _ fun x => ?_
  refine congrArg f (fi_eq _ ?_)
  show x.2.val + 128 * x.1.val = _
  omega

theorem max_chunks {n m : ℕ} [NeZero n] (hn : n = m * 128) (v : Fin n → EReal) :
    Finset.univ.fold max ⊥ (fun l : Fin 128 => (Finset.range m).fold max 0 (fun k => ab (v (fi n (128 * k + l.val))))) = am v := by
  refine eq_of_forall_ge_iff fun c => ?_
  rw [Finset.fold_max_le, am_le_iff]
  constructor
  · rintro ⟨-, h⟩
    have h' := fun l => Finset.fold_max_le c |>.1 (h l (Finset.mem_univ _))
    refine ⟨(h' ⟨0, by norm_num⟩).1, fun i => ?_⟩
    obtain ⟨k, hk, l, rfl⟩ := exists_fi hn i
    exact (h' l).2 k (Finset.mem_range.2 hk)
  · rintro ⟨h0, h⟩
    exact ⟨bot_le, fun l _ => (Finset.fold_max_le c).2 ⟨h0, fun k _ => h _⟩⟩

/-! ## The quantising loops -/

theorem pay28_at (A : FVec Ideal S32x128 .bf16) (j : S32x1.Idx) : k0_pay28 A j = ksrch4 (k0_pay27 A j) := rfl
theorem pay29_at (m : FVec Ideal S32x1 .f32) (b : IVec S32x1 32) (j : S32x1.Idx) : k0_pay29 m b j = kexp (ksrch8 (m j) (b j)) := rfl
theorem pay30_at (m : FVec Ideal S32x1 .f32) (b : IVec S32x1 32) (j : S32x1.Idx) : k0_pay30 m b j = fld (IntOp.addi (k0_pay29 m b j) 127#32) := rfl
theorem pay31_at (m : FVec Ideal S32x1 .f32) (b : IVec S32x1 32) (j : S32x1.Idx) : k0_pay31 m b j = fld (IntOp.subi 127#32 (k0_pay29 m b j)) := rfl

theorem pay27_at (A : FVec Ideal S32x128 .bf16) (r : Fin 32) (u : Fin 1) :
    k0_pay27 A (ix2 r u) = Finset.univ.fold max ⊥ (fun l : Fin 128 => A (ix2 r l)) * c448 := by
  exact congrArg (· * c448) (row_max (a := 32) (b := 128) (extf .f32 A bitsLt_bf16_f32) reduces_S32x128_S32 (.inl rfl) rfl shapeCasts_S32_S32x1 r u)

theorem pay25_eq (x : Vec Ideal S32x128 .bf16) (j : S32x128.Idx) : k0_pay25 x j = ab (x j) := by
  show ab (shapeCast S32x128 x _ j) = _
  rw [cast_self]
theorem pay26_eq (a x : Vec Ideal S32x128 .bf16) (j : S32x128.Idx) : k0_pay26 a x j = max (a j) (ab (x j)) := by
  show max (a j) (ab (shapeCast S32x128 x _ j)) = _
  rw [cast_self]

theorem fold_range_succ (f : ℕ → EReal) (n : ℕ) : (Finset.range (n + 1)).fold max 0 f = max ((Finset.range n).fold max 0 f) (f n) := by
  rw [Finset.range_add_one, Finset.fold_insert Finset.notMem_range_self, max_comm]

theorem B_at {N : ℕ} [NeZero N] {β : Type} (g k : ℕ) (X : (⟨2, ![256, N]⟩ : Shape).Idx → β) (r : Fin 32) (l : Fin 128) :
    B g k X (ix2 r l) = X (ix2 (fi 256 (32 * g + r.val)) (fi N (128 * k + l.val))) := by
  rw [ix2_eq_valueIdx, ix2_eq_valueIdx]; rfl
theorem R1_at {β : Type} (g : ℕ) (X : S256x1.Idx → β) (r : Fin 32) : R1 g X (ix2 r 0) = X (ix2 (fi 256 (32 * g + r.val)) 0) := by
  rw [ix2_eq_valueIdx, ix2_eq_valueIdx]; rfl
theorem C1_at {β : Type} (k : ℕ) (X : S1x6784.Idx → β) (l : Fin 128) : C1 k X (ix2 0 l) = X (ix2 0 (fi 6784 (128 * k + l.val))) := by
  rw [ix2_eq_valueIdx, ix2_eq_valueIdx]; rfl

theorem amax6_at (X : Vec Ideal S256x1152 .bf16) (g n : ℕ) (r : Fin 32) (l : Fin 128) :
    amax6 X g n (ix2 r l) = (Finset.range (n + 1)).fold max 0 (fun k => ab (X (ix2 (fi 256 (32 * g + r.val)) (fi 1152 (128 * k + l.val))))) := by
  induction n with
  | zero =>
    rw [fold_range_succ, Finset.range_zero, Finset.fold_empty, max_eq_right (ab_nonneg _)]
    show k0_pay25 (B g 0 X) (ix2 r l) = _
    rw [pay25_eq, B_at]
  | succ n ih =>
    rw [fold_range_succ, ← ih]
    show k0_pay26 (amax6 X g n) (B g (n + 1) X) (ix2 r l) = _
    rw [pay26_eq, B_at]

theorem top6_at (X : Vec Ideal S256x1152 .bf16) (g : ℕ) (r : Fin 32) :
    k0_pay27 (amax6 X g 8) (ix2 r 0) = am (fun i => X (ix2 (fi 256 (32 * g + r.val)) i)) * c448 := by
  rw [pay27_at]
  simp only [amax6_at]
  exact congrArg (· * c448) (max_chunks (m := 9) (by norm_num) fun i => X (ix2 (fi 256 (32 * g + r.val)) i))

theorem xUp_at (X : Vec Ideal S256x1152 .bf16) (g : ℕ) (r : Fin 32) : xUp X g (ix2 r 0) = kScale (fun i => X (ix2 (fi 256 (32 * g + r.val)) i)) := by
  unfold xUp
  rw [pay30_at, pay29_at, pay28_at, top6_at]; rfl
theorem xDown_at (X : Vec Ideal S256x1152 .bf16) (g : ℕ) (r : Fin 32) :
    xDown X g (ix2 r 0) = kdn (am (fun i => X (ix2 (fi 256 (32 * g + r.val)) i)) * c448) := by
  unfold xDown
  rw [pay31_at, pay29_at, pay28_at, top6_at]; rfl

theorem pay3_at (d : FVec Ideal S32x1 .f32) (v : Vec Ideal S32x128 .bf16) (r : Fin 32) (l : Fin 128) :
    k0_pay3 d v (ix2 r l) = clip (v (ix2 r l) * d (ix2 r 0)) := by
  show min chi (max clo (shapeCast S32x128 v shapeCasts_S32x128_S32x128 (ix2 r l) * broadcastTo S32x128 (shapeCast S32x1 d shapeCasts_S32x1_S32x1) broadcasts_S32x1_S32x128 (ix2 r l))) = _
  rw [col_bc (a := 32) (b := 128), cast_self, cast_self]; rfl

theorem exists_row (R : Fin 256) : ∃ g < 8, ∃ r : Fin 32, R = fi 256 (32 * g + r.val) := by
  have hi := R.isLt
  refine ⟨R.val / 32, by omega, ⟨R.val % 32, by omega⟩, Fin.ext ?_⟩
  rw [fi_val (by dsimp only; omega)]
  dsimp only; omega

theorem codes_at {X : Vec Ideal S256x1152 .bf16} {Q : Vec Ideal S256x1152 .fp8e4m3} (h : IsCodes X Q) (R : Fin 256) (i : Fin 1152) :
    Q (ix2 R i) = kCode (fun j => X (ix2 R j)) i := by
  obtain ⟨g, hg, r, rfl⟩ := exists_row R
  obtain ⟨k, hk, l, rfl⟩ := exists_fi (m := 9) (by norm_num) i
  rw [← B_at g k Q, h g hg k hk, pay3_at, xDown_at, B_at]; rfl

theorem scale_at {X : Vec Ideal S256x1152 .bf16} {S : Vec Ideal S256x1 .f32} (h : IsScale X S) (R : Fin 256) :
    S (ix2 R 0) = kScale (fun j => X (ix2 R j)) := by
  obtain ⟨g, hg, r, rfl⟩ := exists_row R
  rw [← R1_at g S, h g hg, xUp_at]

end Cert.Val.Ker
-- ==== Proof.Val.KerEpi.lean ====
/- The kernel's normalisations at an index, and its products. -/
module

public import proofs.«01_k».proof.Proof.Val.KerPay

@[expose] public section

set_option maxRecDepth 16384

noncomputable section

namespace Cert.Val.Ker

open Cert.Val Cert.KernelIdeal Cert.KernelIdeal.Gen Cert.KernelIdeal.Hand Cert.Blocks
open Idealize.ShloMosaic
open scoped BigOperators

/-! ## The body's values at an index -/

theorem pay5_at (y : Vec Ideal S32x128 .f32) (w : Vec Ideal S1x128 .f32) (r : Fin 32) (l : Fin 128) :
    k0_pay5 y w (ix2 r l) = (y (ix2 r l) * w (ix2 0 l)) * (y (ix2 r l) * w (ix2 0 l)) := by
  show (y (ix2 r l) * broadcastTo S32x128 (shapeCast S1x128 w shapeCasts_S1x128_S1x128) broadcasts_S1x128_S32x128 (ix2 r l))
    * (y (ix2 r l) * broadcastTo S32x128 (shapeCast S1x128 w shapeCasts_S1x128_S1x128) broadcasts_S1x128_S32x128 (ix2 r l)) = _
  rw [row_bc (a := 32) (b := 128), cast_self]

theorem pay6_at (a : FVec Ideal S32x128 .f32) (y : Vec Ideal S32x128 .f32) (w : Vec Ideal S1x128 .f32) (r : Fin 32) (l : Fin 128) :
    k0_pay6 a y w (ix2 r l) = a (ix2 r l) + (y (ix2 r l) * w (ix2 0 l)) * (y (ix2 r l) * w (ix2 0 l)) :=
  congrArg (a (ix2 r l) + ·) (pay5_at y w r l)

theorem pay9_at (xs : Vec Ideal S32x1 .f32) (raw : FVec Ideal S32x128 .f32) (y : Vec Ideal S32x128 .f32) (cp : Vec Ideal S1x128 .f32) (rs : Vec Ideal S32x128 .bf16) (r : Fin 32) (l : Fin 128) :
    k0_pay9 xs raw y cp rs (ix2 r l)
      = y (ix2 r l) * (Ideal.rsqrt ((∑ j, raw (ix2 r j)) * c6784 * xs (ix2 r 0) * xs (ix2 r 0) + ceps) * xs (ix2 r 0)) * cp (ix2 0 l) + rs (ix2 r l) := by
  show y (ix2 r l) * broadcastTo S32x128 (shapeCast S32x1 (mulf (F := Ideal) (rsqrt (addf (mulf (mulf (mulf (shapeCast S32x1
      (multiReduction .add [1] S32 raw 0x00000000#32 reduces_S32x128_S32 (.inl rfl) rfl) shapeCasts_S32_S32x1) (broadcast S32x1 (Scalar.ofBits .f32 0x391A90E8#32))) xs) xs)
      (broadcast S32x1 (Scalar.ofBits .f32 0x358637BD#32)))) xs) shapeCasts_S32x1_S32x1) broadcasts_S32x1_S32x128 (ix2 r l)
    * broadcastTo S32x128 (shapeCast S1x128 cp shapeCasts_S1x128_S1x128) broadcasts_S1x128_S32x128 (ix2 r l)
    + shapeCast S32x128 rs shapeCasts_S32x128_S32x128 (ix2 r l) = _
  rw [row_bc (a := 32) (b := 128), col_bc (a := 32) (b := 128), cast_self, cast_self, cast_self]
  exact congrArg (fun t => y (ix2 r l) * (Ideal.rsqrt (t * c6784 * xs (ix2 r 0) * xs (ix2 r 0) + ceps) * xs (ix2 r 0)) * cp (ix2 0 l) + rs (ix2 r l))
    (row_sum (a := 32) (b := 128) raw reduces_S32x128_S32 (.inl rfl) rfl shapeCasts_S32_S32x1 r 0)

theorem slice_at {α : Type} {a b c o : ℕ} (x : (⟨2, ![a, b]⟩ : Shape).Idx → α) (h : (⟨2, ![a, b]⟩ : Shape).Slices ![o, 0] ⟨2, ![c, b]⟩)
    (q : Fin c) (l : Fin b) (r : Fin a) (hr : r.val = o + q.val) :
    extractStridedSlice ⟨2, ![c, b]⟩ ![o, 0] x h (ix2 q l) = x (ix2 r l) := by
  refine congrArg x (funext fun ax => Fin.ext ?_)
  match ax with
  | ⟨0, _⟩ => exact hr.symm
  | ⟨1, _⟩ => exact Nat.zero_add _

theorem pay11_at (xs : Vec Ideal S32x1 .f32) (raw : FVec Ideal S32x128 .f32) (a : FVec Ideal S16x128 .f32) (y : Vec Ideal S32x128 .f32) (cp : Vec Ideal S1x128 .f32)
    (rs : Vec Ideal S32x128 .bf16) (q : Fin 16) (r : Fin 32) (hr : r.val = 0 + q.val) (l : Fin 128) :
    k0_pay11 xs raw a y cp rs (ix2 q l) = a (ix2 q l) + k0_pay9 xs raw y cp rs (ix2 r l) * k0_pay9 xs raw y cp rs (ix2 r l) := by
  show a (ix2 q l) + extractStridedSlice S16x128 ![0, 0] (k0_pay9 xs raw y cp rs) slices_S32x128_o0_0_S16x128 (ix2 q l)
    * extractStridedSlice S16x128 ![0, 0] (k0_pay9 xs raw y cp rs) slices_S32x128_o0_0_S16x128 (ix2 q l) = _
  rw [slice_at (a := 32) (b := 128) (c := 16) _ _ q l r hr]

theorem pay12_at (xs : Vec Ideal S32x1 .f32) (raw : FVec Ideal S32x128 .f32) (a : FVec Ideal S16x128 .f32) (y : Vec Ideal S32x128 .f32) (cp : Vec Ideal S1x128 .f32)
    (rs : Vec Ideal S32x128 .bf16) (q : Fin 16) (r : Fin 32) (hr : r.val = 16 + q.val) (l : Fin 128) :
    k0_pay12 xs raw a y cp rs (ix2 q l) = a (ix2 q l) + k0_pay9 xs raw y cp rs (ix2 r l) * k0_pay9 xs raw y cp rs (ix2 r l) := by
  show a (ix2 q l) + extractStridedSlice S16x128 ![16, 0] (k0_pay9 xs raw y cp rs) slices_S32x128_o16_0_S16x128 (ix2 q l)
    * extractStridedSlice S16x128 ![16, 0] (k0_pay9 xs raw y cp rs) slices_S32x128_o16_0_S16x128 (ix2 q l) = _
  rw [slice_at (a := 32) (b := 128) (c := 16) _ _ q l r hr]

theorem pay13_at (xs : Vec Ideal S32x1 .f32) (raw : FVec Ideal S32x128 .f32) (y : Vec Ideal S32x128 .f32) (cp : Vec Ideal S1x128 .f32) (rs : Vec Ideal S32x128 .bf16) (gp : Vec Ideal S1x128 .f32) (r : Fin 32) (l : Fin 128) :
    k0_pay13 xs raw y cp rs gp (ix2 r l) = k0_pay9 xs raw y cp rs (ix2 r l) * gp (ix2 0 l) := by
  show k0_pay9 xs raw y cp rs (ix2 r l) * broadcastTo S32x128 (shapeCast S1x128 gp shapeCasts_S1x128_S1x128) broadcasts_S1x128_S32x128 (ix2 r l) = _
  rw [row_bc (a := 32) (b := 128), cast_self]

theorem pay14_at (xs : Vec Ideal S32x1 .f32) (raw : FVec Ideal S32x128 .f32) (y : Vec Ideal S32x128 .f32) (cp : Vec Ideal S1x128 .f32) (rs : Vec Ideal S32x128 .bf16) (gp : Vec Ideal S1x128 .f32) (r : Fin 32) (l : Fin 128) :
    k0_pay14 xs raw y cp rs gp (ix2 r l) = k0_pay9 xs raw y cp rs (ix2 r l) * gp (ix2 0 l) := by
  unfold k0_pay14
  rw [cast_self, pay13_at]

theorem pay15_at (xs : Vec Ideal S32x1 .f32) (raw a : FVec Ideal S32x128 .f32) (y : Vec Ideal S32x128 .f32) (cp : Vec Ideal S1x128 .f32) (rs : Vec Ideal S32x128 .bf16) (gp : Vec Ideal S1x128 .f32) (r : Fin 32) (l : Fin 128) :
    k0_pay15 xs raw a y cp rs gp (ix2 r l) = max (a (ix2 r l)) (ab (k0_pay9 xs raw y cp rs (ix2 r l) * gp (ix2 0 l))) :=
  congrArg (fun t => max (a (ix2 r l)) (ab t)) (pay13_at xs raw y cp rs gp r l)

theorem pay16_lo (a b : FVec Ideal S16x128 .f32) (q : Fin 16) (r : Fin 32) (hr : r.val = 0 + q.val) : k0_pay16 a b (ix2 r 0) = ∑ l, a (ix2 q l) := by
  refine (row_sum (a := 32) (b := 128) _ reduces_S32x128_S32 (.inl rfl) rfl shapeCasts_S32_S32x1 r 0).trans (Finset.sum_congr rfl fun l _ => ?_)
  rw [concatenate_pair_apply]
  refine (dif_pos (show r.val < 16 by omega)).trans ?_
  refine congrArg a (funext fun ax => Fin.ext ?_)
  match ax with
  | ⟨0, _⟩ => exact hr.trans (Nat.zero_add _)
  | ⟨1, _⟩ => rfl

theorem pay16_hi (a b : FVec Ideal S16x128 .f32) (q : Fin 16) (r : Fin 32) (hr : r.val = 16 + q.val) : k0_pay16 a b (ix2 r 0) = ∑ l, b (ix2 q l) := by
  refine (row_sum (a := 32) (b := 128) _ reduces_S32x128_S32 (.inl rfl) rfl shapeCasts_S32_S32x1 r 0).trans (Finset.sum_congr rfl fun l _ => ?_)
  rw [concatenate_pair_apply]
  refine (dif_neg (show ¬ r.val < 16 by omega)).trans ?_
  refine congrArg b (funext fun ax => Fin.ext ?_)
  match ax with
  | ⟨0, _⟩ => show r.val - 16 = q.val; omega
  | ⟨1, _⟩ => rfl

theorem pay17_at (ss : FVec Ideal S32x1 .f32) (j : S32x1.Idx) : k0_pay17 ss j = Ideal.rsqrt (ss j * c6784 + ceps) := rfl

theorem pay18_at (A : FVec Ideal S32x128 .f32) (ss : FVec Ideal S32x1 .f32) (r : Fin 32) :
    k0_pay18 A ss (ix2 r 0) = Finset.univ.fold max ⊥ (fun l : Fin 128 => A (ix2 r l)) * k0_pay17 ss (ix2 r 0) * c448 :=
  congrArg (fun t => t * k0_pay17 ss (ix2 r 0) * c448) (row_max (a := 32) (b := 128) A reduces_S32x128_S32 (.inl rfl) rfl shapeCasts_S32_S32x1 r 0)

theorem pay19_at (A : FVec Ideal S32x128 .f32) (ss : FVec Ideal S32x1 .f32) (j : S32x1.Idx) : k0_pay19 A ss j = ksrch4 (k0_pay18 A ss j) := rfl
theorem pay22_at (A : FVec Ideal S32x128 .f32) (ss : FVec Ideal S32x1 .f32) (j : S32x1.Idx) :
    k0_pay22 (k0_pay18 A ss) (k0_pay19 A ss) (k0_pay20 A ss) (k0_pay21 A ss) j = kexp (ksrch8 (k0_pay18 A ss j) (k0_pay19 A ss j)) := rfl

theorem pay23_at (A : FVec Ideal S32x128 .f32) (ss : FVec Ideal S32x1 .f32) (j : S32x1.Idx) :
    k0_pay23 (k0_pay18 A ss) (k0_pay19 A ss) (k0_pay20 A ss) (k0_pay21 A ss) j = kup (k0_pay18 A ss j) := by
  show fld (IntOp.addi (k0_pay22 (k0_pay18 A ss) (k0_pay19 A ss) (k0_pay20 A ss) (k0_pay21 A ss) j) 127#32) = _
  rw [pay22_at, pay19_at]; rfl

theorem pay24_at (A : FVec Ideal S32x128 .f32) (ss : FVec Ideal S32x1 .f32) (r : Fin 32) (l : Fin 128) :
    k0_pay24 (k0_pay17 ss) (k0_pay18 A ss) (k0_pay19 A ss) (k0_pay20 A ss) (k0_pay21 A ss) (ix2 r l)
      = k0_pay17 ss (ix2 r 0) * kdn (k0_pay18 A ss (ix2 r 0)) := by
  unfold k0_pay24
  rw [col_bc (a := 32) (b := 128), cast_self]
  show k0_pay17 ss (ix2 r 0) * fld (IntOp.subi 127#32 (k0_pay22 (k0_pay18 A ss) (k0_pay19 A ss) (k0_pay20 A ss) (k0_pay21 A ss) (ix2 r 0))) = _
  rw [pay22_at, pay19_at]; rfl

theorem pay32_at (f : FVec Ideal S32x128 .f32) (u : Vec Ideal S32x128 .f32) (j : S32x128.Idx) : k0_pay32 f u j = clip (u j * f j) := rfl

/-! ## One group of rows -/

section Group

variable {e : Epi Ideal} {r : Fin 32} {p ws g rs gp : Fin 6784 → EReal} {s : EReal}

/-- Row `r` of a group is made of these rows. -/
structure RowOf (e : Epi Ideal) (r : Fin 32) (p ws g rs gp : Fin 6784 → EReal) (s : EReal) : Prop where
  hxs : e.xs (ix2 r 0) = s
  hy : ∀ k l, e.y k (ix2 r l) = p (fi 6784 (128 * k + l.val))
  hrs : ∀ k l, e.rs k (ix2 r l) = rs (fi 6784 (128 * k + l.val))
  hws : ∀ k l, e.ws k (ix2 0 l) = ws (fi 6784 (128 * k + l.val))
  hcpost : ∀ k l, e.cpost k (ix2 0 l) = ws (fi 6784 (128 * k + l.val)) * (cone + g (fi 6784 (128 * k + l.val)))
  hcpre : ∀ k l, e.cpre k (ix2 0 l) = cone + gp (fi 6784 (128 * k + l.val))

theorem raw_at (H : RowOf e r p ws g rs gp s) (n : ℕ) (l : Fin 128) :
    e.raw n (ix2 r l) = ∑ k ∈ Finset.range (n + 1), (fun i => (p i * ws i) * (p i * ws i)) (fi 6784 (128 * k + l.val)) := by
  induction n with
  | zero =>
    rw [Finset.sum_range_one]
    show k0_pay5 (e.y 0) (e.ws 0) (ix2 r l) = _
    rw [pay5_at, H.hy, H.hws]
  | succ n ih =>
    rw [Finset.sum_range_succ, ← ih]
    show k0_pay6 (e.raw n) (e.y (n + 1)) (e.ws (n + 1)) (ix2 r l) = _
    rw [pay6_at, H.hy, H.hws]

theorem p9_at (H : RowOf e r p ws g rs gp s) (k : ℕ) (l : Fin 128) :
    k0_pay9 e.xs (e.raw 52) (e.y k) (e.cpost k) (e.rs k) (ix2 r l) = kH p s ws g rs (fi 6784 (128 * k + l.val)) := by
  rw [pay9_at, H.hxs, H.hy, H.hcpost, H.hrs]
  simp only [raw_at H]
  rw [sum_chunks (m := 53) (by norm_num) (fun i => (p i * ws i) * (p i * ws i))]
  rfl

theorem h_at (H : RowOf e r p ws g rs gp s) (k : ℕ) (l : Fin 128) : e.h k (ix2 r l) = kH p s ws g rs (fi 6784 (128 * k + l.val)) := p9_at H k l

theorem u_at (H : RowOf e r p ws g rs gp s) (k : ℕ) (l : Fin 128) : e.u k (ix2 r l) = kU (kH p s ws g rs) gp (fi 6784 (128 * k + l.val)) := by
  unfold Epi.u
  rw [pay14_at, p9_at H, H.hcpre]; rfl

theorem acc1_at (H : RowOf e r p ws g rs gp s) (q : Fin 16) (hr : r.val = 0 + q.val) (n : ℕ) (l : Fin 128) :
    (e.acc n).1 (ix2 q l) = ∑ k ∈ Finset.range n, (fun i => kH p s ws g rs i * kH p s ws g rs i) (fi 6784 (128 * k + l.val)) := by
  induction n with
  | zero =>
    rw [Finset.sum_range_zero]
    exact ofBits_zero
  | succ n ih =>
    rw [Finset.sum_range_succ, ← ih]
    refine (pay11_at _ _ _ _ _ _ q r hr l).trans ?_
    rw [p9_at H]

theorem acc2_at (H : RowOf e r p ws g rs gp s) (q : Fin 16) (hr : r.val = 16 + q.val) (n : ℕ) (l : Fin 128) :
    (e.acc n).2.1 (ix2 q l) = ∑ k ∈ Finset.range n, (fun i => kH p s ws g rs i * kH p s ws g rs i) (fi 6784 (128 * k + l.val)) := by
  induction n with
  | zero =>
    rw [Finset.sum_range_zero]
    exact ofBits_zero
  | succ n ih =>
    rw [Finset.sum_range_succ, ← ih]
    refine (pay12_at _ _ _ _ _ _ q r hr l).trans ?_
    rw [p9_at H]

theorem acc3_at (H : RowOf e r p ws g rs gp s) (n : ℕ) (l : Fin 128) :
    (e.acc n).2.2 (ix2 r l) = (Finset.range n).fold max 0 (fun k => ab (kU (kH p s ws g rs) gp (fi 6784 (128 * k + l.val)))) := by
  induction n with
  | zero =>
    rw [Finset.range_zero, Finset.fold_empty]
    exact ofBits_zero
  | succ n ih =>
    rw [fold_range_succ, ← ih]
    refine (pay15_at _ _ _ _ _ _ _ r l).trans ?_
    rw [p9_at H, H.hcpre]; rfl

theorem ss_at (H : RowOf e r p ws g rs gp s) : e.ss (ix2 r 0) = ∑ i, kH p s ws g rs i * kH p s ws g rs i := by
  have hs := sum_chunks (m := 53) (by norm_num) (fun i : Fin 6784 => kH p s ws g rs i * kH p s ws g rs i)
  have hr := r.isLt
  unfold Epi.ss
  by_cases h : r.val < 16
  · rw [pay16_lo _ _ ⟨r.val, h⟩ r (Nat.zero_add _).symm, ← hs]
    exact Finset.sum_congr rfl fun l _ => acc1_at H _ (Nat.zero_add _).symm 53 l
  · have hq : r.val = 16 + (⟨r.val - 16, by omega⟩ : Fin 16).val := by dsimp only; omega
    rw [pay16_hi _ _ _ r hq, ← hs]
    exact Finset.sum_congr rfl fun l _ => acc2_at H _ hq 53 l

theorem p17_at (H : RowOf e r p ws g rs gp s) : k0_pay17 e.ss (ix2 r 0) = rms (kH p s ws g rs) := by
  rw [pay17_at, ss_at H]; rfl

theorem p18_at (H : RowOf e r p ws g rs gp s) :
    k0_pay18 (e.acc 53).2.2 e.ss (ix2 r 0) = am (kU (kH p s ws g rs) gp) * rms (kH p s ws g rs) * c448 := by
  rw [pay18_at, p17_at H]
  simp only [acc3_at H]
  rw [max_chunks (m := 53) (by norm_num) (kU (kH p s ws g rs) gp)]

theorem zs_at (H : RowOf e r p ws g rs gp s) : e.zs (ix2 r 0) = kZs (kH p s ws g rs) gp := by
  unfold Epi.zs
  rw [pay23_at, p18_at H]; rfl

theorem z_at (H : RowOf e r p ws g rs gp s) (k : ℕ) (l : Fin 128) : e.z k (ix2 r l) = kZ (kH p s ws g rs) gp (fi 6784 (128 * k + l.val)) := by
  unfold Epi.z
  rw [pay32_at, u_at H]
  unfold Epi.fac
  rw [pay24_at, p17_at H, p18_at H]; rfl

end Group

/-! ## The products -/

theorem pay33_at (q : Vec Ideal S1x256x1152 .fp8e4m3) (w : Vec Ideal S1152x256 .fp8e4m3) (r l : Fin 256) :
    k0_pay33 q w (ix2 r l) = ∑ k, q (ix3 0 r k) * w (ix2 k l) := by
  pointwise [k0_pay33]

theorem pay1_at (q : Vec Ideal S1x256x1152 .fp8e4m3) (w : Vec Ideal S1152x128 .fp8e4m3) (r : Fin 256) (l : Fin 128) :
    k0_pay1 (k0_pay35 q) w (ix2 r l) = ∑ k, q (ix3 0 r k) * w (ix2 k l) := by
  pointwise [k0_pay1, k0_pay35]

theorem proj_at {Q : Vec Ideal S256x1152 .fp8e4m3} {w : Vec Ideal S1152x6784 .fp8e4m3} {y : Vec Ideal S256x6784 .f32} (h : IsProj Q w y) (R : Fin 256) (i : Fin 6784) :
    y (ix2 R i) = ∑ k, Q (ix2 R k) * w (ix2 k i) := by
  have hi := i.isLt
  have hR : fi 256 (0 + R.val) = R := fi_eq _ (Nat.zero_add _).symm
  have hk : ∀ k : Fin 1152, fi 1152 (0 + k.val) = k := fun k => fi_eq _ (Nat.zero_add _).symm
  by_cases hlt : i.val < 6656
  · have hl : fi 6784 (256 * (i.val / 256) + (⟨i.val % 256, by omega⟩ : Fin 256).val) = i := fi_eq _ (by dsimp only; omega)
    have := congrFun (h.1 (i.val / 256) (by omega)) (ValueIdx.ix2 R ⟨i.val % 256, by omega⟩)
    rw [← ix2_eq_valueIdx, pay33_at] at this
    refine Eq.trans ?_ (this.trans (Finset.sum_congr rfl fun k _ => ?_))
    · rw [ix2_eq_valueIdx, ix2_eq_valueIdx]
      show _ = y (ValueIdx.ix2 (fi 256 (0 + R.val)) (fi 6784 (256 * (i.val / 256) + i.val % 256)))
      rw [hR]; exact congrArg (fun t => y (ValueIdx.ix2 R t)) hl.symm
    · rw [ix2_eq_valueIdx, ix2_eq_valueIdx, ix2_eq_valueIdx]
      refine congrArg (Q (ValueIdx.ix2 R k) * ·) ?_
      show w (ValueIdx.ix2 (fi 1152 (0 + k.val)) (fi 6784 (256 * (i.val / 256) + i.val % 256))) = _
      rw [hk]; exact congrArg (fun t => w (ValueIdx.ix2 k t)) hl
  · have hl : fi 6784 (6656 + (⟨i.val - 6656, by omega⟩ : Fin 128).val) = i := fi_eq _ (by dsimp only; omega)
    have := congrFun h.2 (ValueIdx.ix2 R ⟨i.val - 6656, by omega⟩)
    rw [← ix2_eq_valueIdx, pay1_at] at this
    refine Eq.trans ?_ (this.trans (Finset.sum_congr rfl fun k _ => ?_))
    · rw [ix2_eq_valueIdx, ix2_eq_valueIdx]
      show _ = y (ValueIdx.ix2 (fi 256 (0 + R.val)) (fi 6784 (6656 + (i.val - 6656))))
      rw [hR]; exact congrArg (fun t => y (ValueIdx.ix2 R t)) hl.symm
    · rw [ix2_eq_valueIdx, ix2_eq_valueIdx, ix2_eq_valueIdx]
      refine congrArg (Q (ValueIdx.ix2 R k) * ·) ?_
      show w (ValueIdx.ix2 (fi 1152 (0 + k.val)) (fi 6784 (6656 + (i.val - 6656)))) = _
      rw [hk]; exact congrArg (fun t => w (ValueIdx.ix2 k t)) hl

end Cert.Val.Ker
-- ==== Proof.Val.Out.lean ====
/- The five results as arrays, from the six arguments reshaped to matrices. -/
module

public import proofs.«01_k».proof.Proof.Val.Spec
public import proofs.«01_k».proof.Proof.Val.Generic

@[expose] public section

noncomputable section

namespace Cert.Val

open Idealize.ShloMosaic
open scoped BigOperators

/-- A matrix of `a` rows and `b` columns. -/
abbrev Mat (a b : ℕ) : Type := (⟨2, ![a, b]⟩ : Shape).Idx → EReal

def row {a b : ℕ} (X : Mat a b) (r : Fin a) : Fin b → EReal := fun j => X (ix2 r j)
def mat {a b : ℕ} (X : Mat a b) : Fin a → Fin b → EReal := fun k i => X (ix2 k i)

theorem eq_ix2 {a b : ℕ} (j : (⟨2, ![a, b]⟩ : Shape).Idx) : j = ix2 (j 0) (j 1) := by
  funext x; exact Fin.cases rfl (fun i => Fin.cases rfl (fun i => i.elim0) i) x

/-- The codes and the scales of every row. -/
def oCode (x : Mat 24576 1152) : Mat 24576 1152 := fun j => rCode (row x (j 0)) (j 1)
def oScale (x : Mat 24576 1152) : Mat 24576 1 := fun j => rScale (row x (j 0))

variable (x : Mat 24576 1152) (rs : Mat 24576 6784) (w : Mat 1152 6784) (ws g gp : Mat 1 6784)

/-- Row `r` after the projection, the first norm and the residual. -/
def hRow (r : Fin 24576) : Fin 6784 → EReal :=
  rH (rY (rCode (row x r)) (rScale (row x r)) (mat w) (row ws 0)) (row g 0) (row rs r)

def oH : Mat 24576 6784 := fun j => hRow x rs w ws g (j 0) (j 1)
def oZ : Mat 24576 6784 := fun j => rCode (rZ (hRow x rs w ws g (j 0)) (row gp 0)) (j 1)
def oZs : Mat 24576 1 := fun j => rScale (rZ (hRow x rs w ws g (j 0)) (row gp 0))

end Cert.Val

end
-- ==== Proof.Val.KerRow.lean ====
/- What the kernel leaves in its output windows, row by row: the operation on the row of the arguments. -/
module

public import proofs.«01_k».proof.Proof.Val.KerEpi
public import proofs.«01_k».proof.Proof.Val.Out

@[expose] public section

set_option maxRecDepth 16384

noncomputable section

namespace Cert.Val.Ker

open Cert.Val Cert.KernelIdeal Cert.KernelIdeal.Gen Cert.KernelIdeal.Hand Cert.Blocks
open Idealize.ShloMosaic
open scoped BigOperators

variable {x : Mat 24576 1152} {rs : Mat 24576 6784} {w : Mat 1152 6784} {ws g gp : Mat 1 6784}

/-- Row `r` of a block is row `R` of a matrix. -/
def RowIs {b : ℕ} (X : Mat 256 b) (r : Fin 256) (M : Mat 24576 b) (R : Fin 24576) : Prop := ∀ j, X (ix2 r j) = M (ix2 R j)

theorem row_of_codes {X : Vec Ideal S256x1152 .bf16} {Q : Vec Ideal S256x1152 .fp8e4m3} (h : IsCodes X Q) {r : Fin 256} {R : Fin 24576}
    (hX : RowIs X r x R) (hx : ∀ j, ab (row x R j) ≤ cmax) (i : Fin 1152) : Q (ix2 r i) = rCode (row x R) i := by
  have e : (fun j => X (ix2 r j)) = row x R := funext hX
  rw [codes_at h, e]
  exact (codes_eq hx).2.1 i

theorem row_of_scale {X : Vec Ideal S256x1152 .bf16} {S : Vec Ideal S256x1 .f32} (h : IsScale X S) {r : Fin 256} {R : Fin 24576}
    (hX : RowIs X r x R) (hx : ∀ j, ab (row x R j) ≤ cmax) : S (ix2 r 0) = rScale (row x R) := by
  have e : (fun j => X (ix2 r j)) = row x R := funext hX
  rw [scale_at h, e]
  exact (codes_eq hx).1

/-- What the normalising of one block of rows reads. -/
structure Blk (x : Mat 24576 1152) (rs : Mat 24576 6784) (w : Mat 1152 6784) (ws g gp : Mat 1 6784)
    (X : Vec Ideal S256x1152 .bf16) (RS : Vec Ideal S256x6784 .bf16) (W : Vec Ideal S1152x6784 .fp8e4m3) (WS CP CG : Vec Ideal S1x6784 .f32)
    (e : ℕ → Epi Ideal) (o : ℕ) : Prop where
  ho : o < 96
  hx : ∀ r : Fin 256, RowIs X r x (fi 24576 (256 * o + r.val))
  hrs : ∀ r : Fin 256, RowIs RS r rs (fi 24576 (256 * o + r.val))
  hw : W = w
  hws : WS = ws
  hcp : ∀ i, CP (ix2 0 i) = ws (ix2 0 i) * (cone + g (ix2 0 i))
  hcg : ∀ i, CG (ix2 0 i) = cone + gp (ix2 0 i)
  he : ∃ Q S y, IsCodes X Q ∧ IsScale X S ∧ IsProj Q W y ∧ e = epiOf y S RS WS CP CG

variable {X : Vec Ideal S256x1152 .bf16} {RS : Vec Ideal S256x6784 .bf16} {W : Vec Ideal S1152x6784 .fp8e4m3} {WS CP CG : Vec Ideal S1x6784 .f32}
  {e : ℕ → Epi Ideal} {o : ℕ}

theorem rowOf (h : Blk x rs w ws g gp X RS W WS CP CG e o) (hx : ∀ j, ab (x j) ≤ cmax) (q : ℕ) (r : Fin 32) (R : Fin 24576)
    (hR : R = fi 24576 (256 * o + (fi 256 (32 * q + r.val)).val)) :
    RowOf (e q) r (fun i => ∑ k, rCode (row x R) k * mat w k i) (row ws 0) (row g 0) (row rs R) (row gp 0) (rScale (row x R)) := by
  obtain ⟨Q, S, y, hQ, hS, hy, rfl⟩ := h.he
  have hX : RowIs X (fi 256 (32 * q + r.val)) x R := hR ▸ h.hx _
  have hRS : RowIs RS (fi 256 (32 * q + r.val)) rs R := hR ▸ h.hrs _
  have hxr : ∀ j, ab (row x R j) ≤ cmax := fun j => hx _
  refine ⟨?_, fun k l => ?_, fun k l => ?_, fun k l => ?_, fun k l => ?_, fun k l => ?_⟩
  · exact (R1_at q S r).trans (row_of_scale hS hX hxr)
  · refine (B_at q k y r l).trans ((proj_at hy _ _).trans (Finset.sum_congr rfl fun i _ => ?_))
    rw [row_of_codes hQ hX hxr i, h.hw]; rfl
  · exact (B_at q k RS r l).trans (hRS _)
  · exact (C1_at k WS l).trans (by rw [h.hws]; rfl)
  · exact (C1_at k CP l).trans (h.hcp _)
  · exact (C1_at k CG l).trans (h.hcg _)

theorem kH_hRow (R : Fin 24576) :
    kH (fun i => ∑ k, rCode (row x R) k * mat w k i) (rScale (row x R)) (row ws 0) (row g 0) (row rs R) = hRow x rs w ws g R :=
  funext fun i => kH_eq (rCode (row x R)) (rScale (row x R)) (mat w) (row ws 0) (row g 0) (row rs R) i

variable (h : Blk x rs w ws g gp X RS W WS CP CG e o) (hx : ∀ j, ab (x j) ≤ cmax)
include h hx

theorem block_h {O : Vec Ideal S256x6784 .bf16} (hO : ∀ q < 8, ∀ k < 53, B q k O = (e q).h k) (r : Fin 256) (i : Fin 6784) :
    O (ix2 r i) = hRow x rs w ws g (fi 24576 (256 * o + r.val)) i := by
  obtain ⟨q, hq, r', rfl⟩ := exists_row r
  obtain ⟨k, hk, l, rfl⟩ := exists_fi (m := 53) (by norm_num) i
  rw [← B_at q k O, hO q hq k hk, h_at (rowOf h hx q r' _ rfl), kH_hRow]

theorem block_z {O : Vec Ideal S256x6784 .fp8e4m3} (hg : ∀ i, ab (gp i) ≤ cmax) (hO : ∀ q < 8, ∀ k < 53, B q k O = (e q).z k) (r : Fin 256) (i : Fin 6784) :
    O (ix2 r i) = rCode (rZ (hRow x rs w ws g (fi 24576 (256 * o + r.val))) (row gp 0)) i := by
  obtain ⟨q, hq, r', rfl⟩ := exists_row r
  obtain ⟨k, hk, l, rfl⟩ := exists_fi (m := 53) (by norm_num) i
  rw [← B_at q k O, hO q hq k hk, z_at (rowOf h hx q r' _ rfl), kH_hRow]
  exact (kZ_eq (fun i => hg _)).2 _

theorem block_zs {O : Vec Ideal S256x1 .f32} (hg : ∀ i, ab (gp i) ≤ cmax) (hO : ∀ q < 8, R1 q O = (e q).zs) (r : Fin 256) :
    O (ix2 r 0) = rScale (rZ (hRow x rs w ws g (fi 24576 (256 * o + r.val))) (row gp 0)) := by
  obtain ⟨q, hq, r', rfl⟩ := exists_row r
  rw [← R1_at q O, hO q hq, zs_at (rowOf h hx q r' _ rfl), kH_hRow]
  exact (kZ_eq (fun i => hg _)).1

end Cert.Val.Ker

end
-- ==== Proof.Val.KerRun.lean ====
/- The kernel's run: its results are the five arrays of its arguments. -/
module

public import proofs.«01_k».proof.Proof.Val.KerRow
public import proofs.«01_k».proof.Proof.KI.Launch
public import Idealize.ShloMosaic.Lib.Pipeline.Value
public import Idealize.ShloMosaic.Lib.Pipeline.ValueKit
public import Idealize.ShloMosaic.Lib.Pipeline.ArrRel

@[expose] public section

set_option maxRecDepth 16384

noncomputable section

namespace Cert.Val.Ker

open Cert.Val Cert.KernelIdeal Cert.KernelIdeal.Gen Cert.KernelIdeal.Hand Cert.Blocks
open Idealize.ShloMosaic Idealize.ShloMosaic.TcCoe Idealize.SL.Sem
open Idealize.ShloMosaic.Pipeline (Dat RDat)
open scoped BigOperators

/-! ## The index maps -/

theorem idx0 : ∀ t : Fin cfg0.N, win0_0.index t = ![min t.val 95, 0] := (by decide +kernel : ∀ t : Fin grid0.N, win0_0.index t = ![min t.val 95, 0])
theorem idx1 : ∀ t : Fin cfg0.N, win0_1.index t = ![t.val - 2, 0] := (by decide +kernel : ∀ t : Fin grid0.N, win0_1.index t = ![t.val - 2, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val - 2, 0] := (by decide +kernel : ∀ t : Fin grid0.N, win0_6.index t = ![t.val - 2, 0])
theorem idx7 : ∀ t : Fin cfg0.N, win0_7.index t = ![min t.val 95, 0] := (by decide +kernel : ∀ t : Fin grid0.N, win0_7.index t = ![min t.val 95, 0])
theorem idx8 : ∀ t : Fin cfg0.N, win0_8.index t = ![min t.val 95, 0] := (by decide +kernel : ∀ t : Fin grid0.N, win0_8.index t = ![min t.val 95, 0])
theorem idx9 : ∀ t : Fin cfg0.N, win0_9.index t = ![t.val - 2, 0] := (by decide +kernel : ∀ t : Fin grid0.N, win0_9.index t = ![t.val - 2, 0])
theorem idx10 : ∀ t : Fin cfg0.N, win0_10.index t = ![t.val - 2, 0] := (by decide +kernel : ∀ t : Fin grid0.N, win0_10.index t = ![t.val - 2, 0])
theorem late6 : ∀ t : Fin cfg0.N, (cfg0.win 6).flush t = true → 2 ≤ t.val := (by decide +kernel : ∀ t : Fin grid0.N, win0_6.flush t = true → 2 ≤ t.val)
theorem late9 : ∀ t : Fin cfg0.N, (cfg0.win 9).flush t = true → 2 ≤ t.val := (by decide +kernel : ∀ t : Fin grid0.N, win0_9.flush t = true → 2 ≤ t.val)
theorem late10 : ∀ t : Fin cfg0.N, (cfg0.win 10).flush t = true → 2 ≤ t.val := (by decide +kernel : ∀ t : Fin grid0.N, win0_10.flush t = true → 2 ≤ t.val)
theorem cov6 : (cfg0.win 6).Covers := by decide +kernel
theorem cov7 : (cfg0.win 7).Covers := by decide +kernel
theorem cov8 : (cfg0.win 8).Covers := by decide +kernel
theorem cov9 : (cfg0.win 9).Covers := by decide +kernel
theorem cov10 : (cfg0.win 10).Covers := by decide +kernel

/-! ## The inputs' blocks -/

variable (m : (ℓ : Loc nD τ sig) → Buf (Elt Ideal) ℓ) (ρ : Dev nD → PrngReg)

theorem V0 (c : Dev nD) : V m c main_v8 = shapeCast S24576x1152 (m ((c : Thread nD τ).loc main_arg0)) shapeCasts_S8x3072x1152_S24576x1152 := by
  entry_read; rfl
theorem V1 (c : Dev nD) : V m c main_v9 = shapeCast S24576x6784 (m ((c : Thread nD τ).loc main_arg1)) shapeCasts_S8x3072x6784_S24576x6784 := by
  entry_read; rfl
theorem V2 (c : Dev nD) : V m c main_v0 = shapeCast S1x6784 (m ((c : Thread nD τ).loc main_arg3)) shapeCasts_S6784_S1x6784 := by
  entry_read; rfl

def gm (c : Dev nD) : Mat 1 6784 := shapeCast S1x6784 (m ((c : Thread nD τ).loc main_arg4)) shapeCasts_S6784_S1x6784
def gpm (c : Dev nD) : Mat 1 6784 := shapeCast S1x6784 (m ((c : Thread nD τ).loc main_arg5)) shapeCasts_S6784_S1x6784

def xm (c : Dev nD) : Mat 24576 1152 := V m c main_v8
def rsm (c : Dev nD) : Mat 24576 6784 := V m c main_v9
def wm (c : Dev nD) : Mat 1152 6784 := V m c main_arg2
def wsm (c : Dev nD) : Mat 1 6784 := V m c main_v0
def cpm (c : Dev nD) : Mat 1 6784 := V m c main_v4
def cgm (c : Dev nD) : Mat 1 6784 := V m c main_v7

theorem V4 (c : Dev nD) (i : Fin 6784) : cpm m c (ix2 0 i) = wsm m c (ix2 0 i) * (cone + gm m c (ix2 0 i)) := by
  unfold cpm wsm; entry_read; rfl
theorem V7 (c : Dev nD) (i : Fin 6784) : cgm m c (ix2 0 i) = cone + gpm m c (ix2 0 i) := by
  unfold cgm; entry_read; rfl

theorem pt_lt {n : ℕ} (h : n < 98) : (pt n).val = n := Nat.min_eq_left (by omega)

theorem xb_at (c : Dev nD) (n : ℕ) (h : n < 98) (r : Fin 256) : RowIs (xb m c n) r (xm m c) (fi 24576 (256 * min n 95 + r.val)) := by
  intro j
  have e := pt_lt h
  have hr := r.isLt
  have ef : (fi 24576 (256 * min n 95 + r.val)).val = 256 * min n 95 + r.val := fi_val (by omega)
  unfold xb xm
  blk_simp [iblk]
  refine congrArg (V m c main_v8) (funext fun a => Fin.ext ?_)
  refine Fin.cases ?_ (fun a => Fin.cases ?_ (fun a => a.elim0) a) a
  · blk_simp
    rw [idx0, e]
    show min n 95 * 256 + r.val = (fi 24576 _).val
    rw [ef]; omega
  · blk_simp
    rw [idx0]
    show 0 * 1152 + j.val = j.val
    omega

theorem rb_at (c : Dev nD) (n : ℕ) (h : n < 98) (r : Fin 256) : RowIs (rb m c n) r (rsm m c) (fi 24576 (256 * (n - 2) + r.val)) := by
  intro j
  have e := pt_lt h
  have hr := r.isLt
  have ef : (fi 24576 (256 * (n - 2) + r.val)).val = 256 * (n - 2) + r.val := fi_val (by omega)
  unfold rb rsm
  blk_simp [iblk]
  refine congrArg (V m c main_v9) (funext fun a => Fin.ext ?_)
  refine Fin.cases ?_ (fun a => Fin.cases ?_ (fun a => a.elim0) a) a
  · blk_simp
    rw [idx1, e]
    show (n - 2) * 256 + r.val = (fi 24576 _).val
    rw [ef]; omega
  · blk_simp
    rw [idx1]
    show 0 * 6784 + j.val = j.val
    omega

theorem wb_eq (c : Dev nD) (n : ℕ) : wb m c n = wm m c := by
  funext y; unfold wb wm; blk_simp [iblk]; blk_ext [iblk, idx2 (pt n)]
theorem wsb_eq (c : Dev nD) (n : ℕ) : wsb m c n = wsm m c := by
  funext y; unfold wsb wsm; blk_simp [iblk]; blk_ext [iblk, idx3 (pt n)]
theorem cpostb_eq (c : Dev nD) (n : ℕ) : cpostb m c n = cpm m c := by
  funext y; unfold cpostb cpm; blk_simp [iblk]; blk_ext [iblk, idx4 (pt n)]
theorem cpreb_eq (c : Dev nD) (n : ℕ) : cpreb m c n = cgm m c := by
  funext y; unfold cpreb cgm; blk_simp [iblk]; blk_ext [iblk, idx5 (pt n)]

theorem blk_of_reads (c : Dev nD) (n : ℕ) (h2 : 2 ≤ n) (h : n < 98) {e : ℕ → Epi Ideal} (hR : Reads m c n e) :
    Blk (xm m c) (rsm m c) (wm m c) (wsm m c) (gm m c) (gpm m c) (xb m c (n - 2)) (rb m c n) (wm m c) (wsm m c) (cpm m c) (cgm m c) e (n - 2) where
  ho := by omega
  hx r := by
    have := xb_at m c (n - 2) (by omega) r
    rwa [show min (n - 2) 95 = n - 2 by omega] at this
  hrs r := rb_at m c n h r
  hw := rfl
  hws := rfl
  hcp := V4 m c
  hcg := V7 m c
  he := by
    obtain ⟨Q, S, y, hQ, hS, hy, he⟩ := hR
    rw [wb_eq] at hy
    rw [wsb_eq, cpostb_eq, cpreb_eq] at he
    exact ⟨Q, S, y, hQ, hS, hy, he⟩

/-! ## The arrays after the run -/

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
  (hx : ∀ j, ab (xm m c j) ≤ cmax)
include hL hx

theorem arr7 : ((rdat m c).withAfter after).arrAt 7 cfg0.N = oCode (xm m c) := by
  refine Dat.arrAt_eq_of_covers _ 7 _ cov7 fun t hf y => ?_
  obtain ⟨Y, -, hA⟩ := hL 7 t hf
  have hy0 : (y 0).val < 256 := (y 0).isLt
  have hy1 : (y 1).val < 1152 := (y 1).isLt
  have ht : t.val < 98 := t.isLt
  have ee : ((cfg0.win 7).blk t).view.emb y = (ix2 (fi 24576 (256 * min t.val 95 + (y 0).val)) (y 1) : (⟨2, ![24576, 1152]⟩ : Shape).Idx) := by
    refine (funext fun a => Fin.ext ?_)
    refine Fin.cases ?_ (fun a => Fin.cases ?_ (fun a => a.elim0) a) a
    · blk_simp
      rw [idx7]
      show min t.val 95 * 256 + (y 0).val = (fi 24576 _).val
      rw [fi_val (by omega)]; omega
    · blk_simp
      rw [idx7]
      show 0 * 1152 + (y 1).val = (y 1).val
      omega
  have ey : (cfg0.win 7).xinj (cfg0.grid.coords t) y = (ix2 (y 0) (y 1) : (⟨2, ![256, 1152]⟩ : Shape).Idx) := by
    refine (funext fun a => Fin.ext ?_)
    refine Fin.cases rfl (fun a => Fin.cases rfl (fun a => a.elim0) a) a
  rw [ee]
  refine (cast_eq _ _).trans ?_
  show after 7 t ((cfg0.win 7).xinj (cfg0.grid.coords t) y) = _
  rw [ey]
  have hQ : IsCodes (xb m c t.val) (after 7 t) := hA
  exact row_of_codes hQ (xb_at m c t.val ht (y 0)) (fun j => hx _) (y 1)

theorem arr8 : ((rdat m c).withAfter after).arrAt 8 cfg0.N = oScale (xm m c) := by
  refine Dat.arrAt_eq_of_covers _ 8 _ cov8 fun t hf y => ?_
  obtain ⟨Y, -, hA⟩ := hL 8 t hf
  have hy0 : (y 0).val < 256 := (y 0).isLt
  have hy1 : (y 1).val < 1 := (y 1).isLt
  have ht : t.val < 98 := t.isLt
  have ee : ((cfg0.win 8).blk t).view.emb y = (ix2 (fi 24576 (256 * min t.val 95 + (y 0).val)) (y 1) : (⟨2, ![24576, 1]⟩ : Shape).Idx) := by
    refine (funext fun a => Fin.ext ?_)
    refine Fin.cases ?_ (fun a => Fin.cases ?_ (fun a => a.elim0) a) a
    · blk_simp
      rw [idx8]
      show min t.val 95 * 256 + (y 0).val = (fi 24576 _).val
      rw [fi_val (by omega)]; omega
    · blk_simp
      rw [idx8]
      exact Nat.zero_mul _
  have ey : (cfg0.win 8).xinj (cfg0.grid.coords t) y = (ix2 (y 0) 0 : (⟨2, ![256, 1]⟩ : Shape).Idx) := by
    refine (funext fun a => Fin.ext ?_)
    refine Fin.cases rfl (fun a => Fin.cases (Nat.lt_one_iff.1 hy1) (fun a => a.elim0) a) a
  rw [ee]
  refine (cast_eq _ _).trans ?_
  show after 8 t ((cfg0.win 8).xinj (cfg0.grid.coords t) y) = _
  rw [ey]
  have hQ : IsScale (xb m c t.val) (after 8 t) := hA
  exact row_of_scale hQ (xb_at m c t.val ht (y 0)) (fun j => hx _)

theorem arr6 : ((rdat m c).withAfter after).arrAt 6 cfg0.N = oH (xm m c) (rsm m c) (wm m c) (wsm m c) (gm m c) := by
  refine Dat.arrAt_eq_of_covers _ 6 _ cov6 fun t hf y => ?_
  obtain ⟨Y, -, hA⟩ := hL 6 t hf
  have hy0 : (y 0).val < 256 := (y 0).isLt
  have hy1 : (y 1).val < 6784 := (y 1).isLt
  have ht : t.val < 98 := t.isLt
  have ee : ((cfg0.win 6).blk t).view.emb y = (ix2 (fi 24576 (256 * (t.val - 2) + (y 0).val)) (y 1) : (⟨2, ![24576, 6784]⟩ : Shape).Idx) := by
    refine (funext fun a => Fin.ext ?_)
    refine Fin.cases ?_ (fun a => Fin.cases ?_ (fun a => a.elim0) a) a
    · blk_simp
      rw [idx6]
      show (t.val - 2) * 256 + (y 0).val = (fi 24576 _).val
      rw [fi_val (by omega)]; omega
    · blk_simp
      rw [idx6]
      show 0 * 6784 + (y 1).val = (y 1).val
      omega
  have ey : (cfg0.win 6).xinj (cfg0.grid.coords t) y = (ix2 (y 0) (y 1) : (⟨2, ![256, 6784]⟩ : Shape).Idx) := by
    refine (funext fun a => Fin.ext ?_)
    refine Fin.cases rfl (fun a => Fin.cases rfl (fun a => a.elim0) a) a
  rw [ee]
  refine (cast_eq _ _).trans ?_
  show after 6 t ((cfg0.win 6).xinj (cfg0.grid.coords t) y) = _
  rw [ey]
  have hM : HMade m c t.val (after 6 t) := hA
  obtain ⟨e, hR, hO⟩ := hM (late6 t hf)
  exact block_h (blk_of_reads m c t.val (late6 t hf) ht hR) hx hO (y 0) (y 1)

theorem arr9 (hg : ∀ i, ab (gpm m c i) ≤ cmax) : ((rdat m c).withAfter after).arrAt 9 cfg0.N = oZ (xm m c) (rsm m c) (wm m c) (wsm m c) (gm m c) (gpm m c) := by
  refine Dat.arrAt_eq_of_covers _ 9 _ cov9 fun t hf y => ?_
  obtain ⟨Y, -, hA⟩ := hL 9 t hf
  have hy0 : (y 0).val < 256 := (y 0).isLt
  have hy1 : (y 1).val < 6784 := (y 1).isLt
  have ht : t.val < 98 := t.isLt
  have ee : ((cfg0.win 9).blk t).view.emb y = (ix2 (fi 24576 (256 * (t.val - 2) + (y 0).val)) (y 1) : (⟨2, ![24576, 6784]⟩ : Shape).Idx) := by
    refine (funext fun a => Fin.ext ?_)
    refine Fin.cases ?_ (fun a => Fin.cases ?_ (fun a => a.elim0) a) a
    · blk_simp
      rw [idx9]
      show (t.val - 2) * 256 + (y 0).val = (fi 24576 _).val
      rw [fi_val (by omega)]; omega
    · blk_simp
      rw [idx9]
      show 0 * 6784 + (y 1).val = (y 1).val
      omega
  have ey : (cfg0.win 9).xinj (cfg0.grid.coords t) y = (ix2 (y 0) (y 1) : (⟨2, ![256, 6784]⟩ : Shape).Idx) := by
    refine (funext fun a => Fin.ext ?_)
    refine Fin.cases rfl (fun a => Fin.cases rfl (fun a => a.elim0) a) a
  rw [ee]
  refine (cast_eq _ _).trans ?_
  show after 9 t ((cfg0.win 9).xinj (cfg0.grid.coords t) y) = _
  rw [ey]
  have hM : ZMade m c t.val (after 9 t) := hA
  obtain ⟨e, hR, hO⟩ := hM (late9 t hf)
  exact block_z (blk_of_reads m c t.val (late9 t hf) ht hR) hx hg hO (y 0) (y 1)

theorem arr10 (hg : ∀ i, ab (gpm m c i) ≤ cmax) : ((rdat m c).withAfter after).arrAt 10 cfg0.N = oZs (xm m c) (rsm m c) (wm m c) (wsm m c) (gm m c) (gpm m c) := by
  refine Dat.arrAt_eq_of_covers _ 10 _ cov10 fun t hf y => ?_
  obtain ⟨Y, -, hA⟩ := hL 10 t hf
  have hy0 : (y 0).val < 256 := (y 0).isLt
  have hy1 : (y 1).val < 1 := (y 1).isLt
  have ht : t.val < 98 := t.isLt
  have ee : ((cfg0.win 10).blk t).view.emb y = (ix2 (fi 24576 (256 * (t.val - 2) + (y 0).val)) (y 1) : (⟨2, ![24576, 1]⟩ : Shape).Idx) := by
    refine (funext fun a => Fin.ext ?_)
    refine Fin.cases ?_ (fun a => Fin.cases ?_ (fun a => a.elim0) a) a
    · blk_simp
      rw [idx10]
      show (t.val - 2) * 256 + (y 0).val = (fi 24576 _).val
      rw [fi_val (by omega)]; omega
    · blk_simp
      rw [idx10]
      exact Nat.zero_mul _
  have ey : (cfg0.win 10).xinj (cfg0.grid.coords t) y = (ix2 (y 0) 0 : (⟨2, ![256, 1]⟩ : Shape).Idx) := by
    refine (funext fun a => Fin.ext ?_)
    refine Fin.cases rfl (fun a => Fin.cases (Nat.lt_one_iff.1 hy1) (fun a => a.elim0) a) a
  rw [ee]
  refine (cast_eq _ _).trans ?_
  show after 10 t ((cfg0.win 10).xinj (cfg0.grid.coords t) y) = _
  rw [ey]
  have hM : ZsMade m c t.val (after 10 t) := hA
  obtain ⟨e, hR, hO⟩ := hM (late10 t hf)
  exact block_zs (blk_of_reads m c t.val (late10 t hf) ht hR) hx hg hO (y 0)

end

/-- Every run ends with the five arrays in the results and the arguments as they were. -/
theorem run_out (hx : ∀ c j, ab (xm m c j) ≤ cmax) (hg : ∀ c i, ab (gpm m c i) ≤ cmax) :
    θ_run defs (onTc (τ := τ) (main (F := Ideal))) ⟨m, fun _ => 0, ρ⟩ (fun r => ∀ c : Dev nD,
      r.2.mem ((c.tc : Thread nD τ).loc main_v10_0) = oH (xm m c) (rsm m c) (wm m c) (wsm m c) (gm m c)
      ∧ r.2.mem ((c.tc : Thread nD τ).loc main_v10_1) = oCode (xm m c)
      ∧ r.2.mem ((c.tc : Thread nD τ).loc main_v10_2) = oScale (xm m c)
      ∧ r.2.mem ((c.tc : Thread nD τ).loc main_v10_3) = oZ (xm m c) (rsm m c) (wm m c) (wsm m c) (gm m c) (gpm m c)
      ∧ r.2.mem ((c.tc : Thread nD τ).loc main_v10_4) = oZs (xm m c) (rsm m c) (wm m c) (wsm m c) (gm m c) (gpm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := RDat.FramePost.exists_exact h.1 c
    exact ⟨(hA 6).trans (arr6 m c after hL (hx c)), (hA 7).trans (arr7 m c after hL (hx c)), (hA 8).trans (arr8 m c after hL (hx c)),
      (hA 9).trans (arr9 m c after hL (hx c) (hg c)), (hA 10).trans (arr10 m c after hL (hx c) (hg c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.Val.Ker

end
-- ==== Proof.Val.RefGen.lean ====
/- The reference's operations, at any sizes, read at an index. -/
module

public import proofs.«01_k».proof.Proof.Val.Generic

@[expose] public section

noncomputable section

namespace Cert.Val

open Idealize.ShloMosaic
open scoped BigOperators

variable {a b : ℕ}

/-- A row's largest absolute value, scaled. -/
def mxg (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) : FVec Ideal (⟨2, ![a, 1]⟩ : Shape) .f32 :=
  mulf (shapeCast ⟨2, ![a, 1]⟩ (multiReduction .maximumf [1] ⟨1, ![a]⟩ (absf v) 0xFF800000#32 h (.inl rfl) rfl) h')
    (broadcast ⟨2, ![a, 1]⟩ (Scalar.ofBits .f32 0x3B124925#32))

theorem mxg_at (hb : 0 < b) (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) (r : Fin a) (l : Fin 1) : mxg v h h' (ix2 r l) = am (fun j => v (ix2 r j)) * c448 := by
  rw [← fold_bot hb]
  exact congrArg (· * c448) (row_max (absf v) h (.inl rfl) rfl h' r l)

/-- The exponents of the scales, of the rows' scaled largest values. -/
def exg (M : FVec Ideal (⟨2, ![a, 1]⟩ : Shape) .f32) : FVec Ideal (⟨2, ![a, 1]⟩ : Shape) .f32 :=
  select (cmpf .olt M (broadcast ⟨2, ![a, 1]⟩ (Scalar.ofBits .f32 0x00800000#32))) (broadcast ⟨2, ![a, 1]⟩ (Scalar.ofBits .f32 0x00000000#32))
    (addf (floor (divf (log M) (log (broadcast ⟨2, ![a, 1]⟩ (Scalar.ofBits .f32 0x40000000#32))))) (broadcast ⟨2, ![a, 1]⟩ (Scalar.ofBits .f32 0x3F800000#32)))

theorem exg_at (M : FVec Ideal (⟨2, ![a, 1]⟩ : Shape) .f32) (j : (⟨2, ![a, 1]⟩ : Shape).Idx) : exg M j = rexp (M j) := rfl

/-- The scales. -/
def scg (M : FVec Ideal (⟨2, ![a, 1]⟩ : Shape) .f32) : FVec Ideal (⟨2, ![a, 1]⟩ : Shape) .f32 := exp2 (exg M)

theorem scg_at (hb : 0 < b) (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) (r : Fin a) (l : Fin 1) : scg (mxg v h h') (ix2 r l) = rScale (fun j => v (ix2 r j)) := by
  show FloatOps.exp2 (F := Ideal) (φ := .f32) (exg _ (ix2 r l)) = _
  rw [exg_at, mxg_at hb]; rfl

/-- The codes. -/
def cdg (v : FVec Ideal (⟨2, ![a, b]⟩ : Shape) .f32) (M : FVec Ideal (⟨2, ![a, 1]⟩ : Shape) .f32)
    (hB : (⟨2, ![a, 1]⟩ : Shape).Broadcasts ⟨2, ![a, b]⟩) (hc : FTy.fp8e4m3.bits < FTy.f32.bits) : FVec Ideal (⟨2, ![a, b]⟩ : Shape) .fp8e4m3 :=
  truncf .fp8e4m3 (minimumf (broadcast ⟨2, ![a, b]⟩ (Scalar.ofBits .f32 0x43E00000#32)) (maximumf (broadcast ⟨2, ![a, b]⟩ (Scalar.ofBits .f32 0xC3E00000#32))
    (mulf v (broadcastTo ⟨2, ![a, b]⟩ (exp2 (subf (broadcast ⟨2, ![a, 1]⟩ (Scalar.ofBits .f32 0x00000000#32)) (exg M))) hB)))) hc

theorem cdg_at (hb : 0 < b) (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) (hB : (⟨2, ![a, 1]⟩ : Shape).Broadcasts ⟨2, ![a, b]⟩) (hc : FTy.fp8e4m3.bits < FTy.f32.bits)
    (r : Fin a) (l : Fin b) : cdg v (mxg v h h') hB hc (ix2 r l) = rCode (fun j => v (ix2 r j)) l := by
  show min chi (max clo (v (ix2 r l) * broadcastTo ⟨2, ![a, b]⟩ (exp2 (subf (broadcast ⟨2, ![a, 1]⟩ (Scalar.ofBits .f32 0x00000000#32)) (exg (mxg v h h')))) hB (ix2 r l))) = _
  rw [col_bc]
  show min chi (max clo (v (ix2 r l) * FloatOps.exp2 (F := Ideal) (φ := .f32) (FloatOps.subf (F := Ideal) (φ := .f32) (Scalar.ofBits (F := Ideal) .f32 0x00000000#32) (exg (mxg v h h') (ix2 r 0))))) = _
  rw [exg_at, mxg_at hb]; rfl

/-- A row's reciprocal root mean square. -/
def rmg (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) : FVec Ideal (⟨2, ![a, 1]⟩ : Shape) .f32 :=
  rsqrt (addf (mulf (shapeCast ⟨2, ![a, 1]⟩ (multiReduction .add [1] ⟨1, ![a]⟩ (mulf v v) 0x00000000#32 h (.inl rfl) rfl) h')
    (broadcast ⟨2, ![a, 1]⟩ (Scalar.ofBits .f32 0x391A90E8#32))) (broadcast ⟨2, ![a, 1]⟩ (Scalar.ofBits .f32 0x358637BD#32)))

theorem rmg_at (v : FVec Ideal (⟨2, ![a, b]⟩ : Shape) .f32) (h : (⟨2, ![a, b]⟩ : Shape).Reduces [1] ⟨1, ![a]⟩)
    (h' : (⟨1, ![a]⟩ : Shape).ShapeCasts ⟨2, ![a, 1]⟩) (r : Fin a) (l : Fin 1) : rmg v h h' (ix2 r l) = rms (fun j => v (ix2 r j)) :=
  congrArg (fun t => Ideal.rsqrt (t * c6784 + ceps)) (row_sum (mulf v v) h (.inl rfl) rfl h' r l)

/-- A row times its reciprocal root mean square and one more than a gain. -/
def nmg (v : FVec Ideal (⟨2, ![a, b]⟩ : Shape) .f32) (g : FVec Ideal (⟨2, ![1, b]⟩ : Shape) .f32) (h : (⟨2, ![a, b]⟩ : Shape).Reduces [1] ⟨1, ![a]⟩)
    (h' : (⟨1, ![a]⟩ : Shape).ShapeCasts ⟨2, ![a, 1]⟩) (hB : (⟨2, ![a, 1]⟩ : Shape).Broadcasts ⟨2, ![a, b]⟩)
    (hR : (⟨2, ![1, b]⟩ : Shape).Broadcasts ⟨2, ![a, b]⟩) : FVec Ideal (⟨2, ![a, b]⟩ : Shape) .f32 :=
  mulf (mulf v (broadcastTo ⟨2, ![a, b]⟩ (rmg v h h') hB)) (broadcastTo ⟨2, ![a, b]⟩ (addf (broadcast ⟨2, ![1, b]⟩ (Scalar.ofBits .f32 0x3F800000#32)) g) hR)

theorem nmg_at (v : FVec Ideal (⟨2, ![a, b]⟩ : Shape) .f32) (g : FVec Ideal (⟨2, ![1, b]⟩ : Shape) .f32) (h : (⟨2, ![a, b]⟩ : Shape).Reduces [1] ⟨1, ![a]⟩)
    (h' : (⟨1, ![a]⟩ : Shape).ShapeCasts ⟨2, ![a, 1]⟩) (hB : (⟨2, ![a, 1]⟩ : Shape).Broadcasts ⟨2, ![a, b]⟩)
    (hR : (⟨2, ![1, b]⟩ : Shape).Broadcasts ⟨2, ![a, b]⟩) (r : Fin a) (l : Fin b) :
    nmg v g h h' hB hR (ix2 r l) = rZ (fun j => v (ix2 r j)) (fun j => g (ix2 0 j)) l := by
  show v (ix2 r l) * broadcastTo ⟨2, ![a, b]⟩ (rmg v h h') hB (ix2 r l)
    * broadcastTo ⟨2, ![a, b]⟩ (addf (broadcast ⟨2, ![1, b]⟩ (Scalar.ofBits .f32 0x3F800000#32)) g) hR (ix2 r l) = _
  rw [col_bc, row_bc, rmg_at]; rfl

/-- The first result. -/
def hhg (v : FVec Ideal (⟨2, ![a, b]⟩ : Shape) .f32) (g : FVec Ideal (⟨2, ![1, b]⟩ : Shape) .f32) (rs : FVec Ideal (⟨2, ![a, b]⟩ : Shape) .bf16)
    (h : (⟨2, ![a, b]⟩ : Shape).Reduces [1] ⟨1, ![a]⟩)
    (h' : (⟨1, ![a]⟩ : Shape).ShapeCasts ⟨2, ![a, 1]⟩) (hB : (⟨2, ![a, 1]⟩ : Shape).Broadcasts ⟨2, ![a, b]⟩)
    (hR : (⟨2, ![1, b]⟩ : Shape).Broadcasts ⟨2, ![a, b]⟩) (hS : (⟨2, ![a, b]⟩ : Shape).ShapeCasts ⟨2, ![a, b]⟩)
    (hc : FTy.bf16.bits < FTy.f32.bits) : FVec Ideal (⟨2, ![a, b]⟩ : Shape) .bf16 :=
  truncf .bf16 (addf (nmg v g h h' hB hR) (extf .f32 (shapeCast ⟨2, ![a, b]⟩ rs hS) hc)) hc

theorem hhg_at (v : FVec Ideal (⟨2, ![a, b]⟩ : Shape) .f32) (g : FVec Ideal (⟨2, ![1, b]⟩ : Shape) .f32) (rs : FVec Ideal (⟨2, ![a, b]⟩ : Shape) .bf16)
    (h : (⟨2, ![a, b]⟩ : Shape).Reduces [1] ⟨1, ![a]⟩)
    (h' : (⟨1, ![a]⟩ : Shape).ShapeCasts ⟨2, ![a, 1]⟩) (hB : (⟨2, ![a, 1]⟩ : Shape).Broadcasts ⟨2, ![a, b]⟩)
    (hR : (⟨2, ![1, b]⟩ : Shape).Broadcasts ⟨2, ![a, b]⟩) (hS : (⟨2, ![a, b]⟩ : Shape).ShapeCasts ⟨2, ![a, b]⟩)
    (hc : FTy.bf16.bits < FTy.f32.bits) (r : Fin a) (l : Fin b) :
    hhg v g rs h h' hB hR hS hc (ix2 r l) = rH (fun j => v (ix2 r j)) (fun j => g (ix2 0 j)) (fun j => rs (ix2 r j)) l := by
  show nmg v g h h' hB hR (ix2 r l) + shapeCast ⟨2, ![a, b]⟩ rs hS (ix2 r l) = _
  rw [nmg_at, cast_self]; rfl

end Cert.Val
-- ==== Proof.Val.RefPay.lean ====
/- The reference's values at an index: each row is the operation on one row. -/
module

public import proofs.«01_k».proof.Proof.Val.RefGen
public import proofs.«01_k».proof.Proof.Gen.ReferenceIdeal.Frame

@[expose] public section

set_option maxRecDepth 16384

noncomputable section

namespace Cert.Val.Ref

open Cert.Val Cert.ReferenceIdeal Cert.ReferenceIdeal.Gen
open Idealize.ShloMosaic
open scoped BigOperators

theorem pay4_eq (x : Vec Ideal S24576x1152 .bf16) : k0_pay4 x = x := cast_self x _

theorem pay5_eq (x : Vec Ideal S24576x1152 .bf16) : k0_pay5 x = exg (mxg (k0_pay4 x) reduces_S24576x1152_S24576 shapeCasts_S24576_S24576x1) := rfl

theorem pay6_eq (x : Vec Ideal S24576x1152 .bf16) : k0_pay6 x = scg (mxg (k0_pay4 x) reduces_S24576x1152_S24576 shapeCasts_S24576_S24576x1) := rfl

theorem pay7_eq (x : Vec Ideal S24576x1152 .bf16) : k0_pay7 x
    = cdg (k0_pay4 x) (mxg (k0_pay4 x) reduces_S24576x1152_S24576 shapeCasts_S24576_S24576x1) broadcasts_S24576x1_S24576x1152 bitsLt_fp8e4m3_f32 := rfl

theorem pay6_at (x : Vec Ideal S24576x1152 .bf16) (r : Fin 24576) (l : Fin 1) :
    k0_pay6 x (ix2 r l) = rScale (fun j => x (ix2 r j)) := by
  rw [pay6_eq, pay4_eq]
  exact scg_at (by norm_num) x _ _ r l

theorem pay7_at (x : Vec Ideal S24576x1152 .bf16) (r : Fin 24576) (l : Fin 1152) :
    k0_pay7 x (ix2 r l) = rCode (fun j => x (ix2 r j)) l := by
  rw [pay7_eq, pay4_eq]
  exact cdg_at (by norm_num) x _ _ _ _ r l

theorem pay8_raw (x : Vec Ideal S24576x1152 .bf16) (w : Vec Ideal S1152x6784 .fp8e4m3) (ws : Vec Ideal S1x6784 .f32) (r : Fin 24576) (l : Fin 6784) :
    k0_pay8 x w ws (ix2 r l) = (∑ k, k0_pay7 x (ix2 r k) * w (ix2 k l)) * k0_pay6 x (ix2 r 0) * ws (ix2 0 l) := by
  pointwise [k0_pay8]

theorem pay8_at (x : Vec Ideal S24576x1152 .bf16) (w : Vec Ideal S1152x6784 .fp8e4m3) (ws : Vec Ideal S1x6784 .f32) (r : Fin 24576) (l : Fin 6784) :
    k0_pay8 x w ws (ix2 r l) = rY (rCode (fun j => x (ix2 r j))) (rScale (fun j => x (ix2 r j))) (fun k i => w (ix2 k i)) (fun i => ws (ix2 0 i)) l := by
  rw [pay8_raw, pay6_at]
  simp only [pay7_at]
  rfl

theorem pay9_eq (g : Vec Ideal S1x6784 .f32) : k0_pay9 g = g := cast_self g _

variable (y : FVec Ideal S24576x6784 .f32) (g : Vec Ideal S1x6784 .f32) (rs : Vec Ideal S24576x6784 .bf16) (gp : Vec Ideal S1x6784 .f32)

theorem pay11_eq : k0_pay11 y g (mulf y y) rs
    = hhg y g rs reduces_S24576x6784_S24576 shapeCasts_S24576_S24576x1 broadcasts_S24576x1_S24576x6784 broadcasts_S1x6784_S24576x6784
        shapeCasts_S24576x6784_S24576x6784 bitsLt_bf16_f32 := rfl

theorem pay11_at (r : Fin 24576) (l : Fin 6784) :
    k0_pay11 y (k0_pay9 g) (mulf y y) rs (ix2 r l) = rH (fun j => y (ix2 r j)) (fun j => g (ix2 0 j)) (fun j => rs (ix2 r j)) l := by
  rw [pay9_eq, pay11_eq]
  exact hhg_at y g rs _ _ _ _ _ _ r l

theorem pay12_eq (v39 : FVec Ideal S1x6784 .f32) : k0_pay12 y v39 (mulf y y) rs gp
    = nmg (extf .f32 (k0_pay11 y v39 (mulf y y) rs) bitsLt_bf16_f32) (k0_pay9 gp) reduces_S24576x6784_S24576 shapeCasts_S24576_S24576x1
        broadcasts_S24576x1_S24576x6784 broadcasts_S1x6784_S24576x6784 := rfl

theorem pay12_at (r : Fin 24576) (l : Fin 6784) :
    k0_pay12 y (k0_pay9 g) (mulf y y) rs gp (ix2 r l)
      = rZ (rH (fun j => y (ix2 r j)) (fun j => g (ix2 0 j)) (fun j => rs (ix2 r j))) (fun j => gp (ix2 0 j)) l := by
  rw [pay12_eq, pay9_eq gp]
  refine (nmg_at _ gp _ _ _ _ r l).trans ?_
  exact congrArg (fun h => rZ h (fun j => gp (ix2 0 j)) l) (funext fun j => pay11_at y g rs r j)

/-- The second normalisation's rows. -/
theorem row12 (r : Fin 24576) : (fun l => k0_pay12 y (k0_pay9 g) (mulf y y) rs gp (ix2 r l))
    = rZ (rH (fun j => y (ix2 r j)) (fun j => g (ix2 0 j)) (fun j => rs (ix2 r j))) (fun j => gp (ix2 0 j)) :=
  funext fun l => pay12_at y g rs gp r l

theorem pay2_eq (v39 : FVec Ideal S1x6784 .f32) (v40 : FVec Ideal S24576x6784 .f32) :
    k0_pay2 (k0_pay13 y v39 v40 rs gp) (k0_pay14 y v39 v40 rs gp) k0_pay15
      = scg (mxg (k0_pay12 y v39 v40 rs gp) reduces_S24576x6784_S24576 shapeCasts_S24576_S24576x1) := rfl

theorem pay2_at (r : Fin 24576) (l : Fin 1) :
    k0_pay2 (k0_pay13 y (k0_pay9 g) (mulf y y) rs gp) (k0_pay14 y (k0_pay9 g) (mulf y y) rs gp) k0_pay15 (ix2 r l)
      = rScale (rZ (rH (fun j => y (ix2 r j)) (fun j => g (ix2 0 j)) (fun j => rs (ix2 r j))) (fun j => gp (ix2 0 j))) := by
  rw [pay2_eq]
  refine (scg_at (by norm_num) _ _ _ r l).trans ?_
  rw [row12]

theorem pay3_eq (v39 : FVec Ideal S1x6784 .f32) (v40 : FVec Ideal S24576x6784 .f32) :
    k0_pay3 (k0_pay12 y v39 v40 rs gp) (k0_pay13 y v39 v40 rs gp) (k0_pay14 y v39 v40 rs gp) k0_pay15
      = cdg (k0_pay12 y v39 v40 rs gp) (mxg (k0_pay12 y v39 v40 rs gp) reduces_S24576x6784_S24576 shapeCasts_S24576_S24576x1)
          broadcasts_S24576x1_S24576x6784 bitsLt_fp8e4m3_f32 := rfl

theorem pay3_at (r : Fin 24576) (l : Fin 6784) :
    k0_pay3 (k0_pay12 y (k0_pay9 g) (mulf y y) rs gp) (k0_pay13 y (k0_pay9 g) (mulf y y) rs gp) (k0_pay14 y (k0_pay9 g) (mulf y y) rs gp) k0_pay15 (ix2 r l)
      = rCode (rZ (rH (fun j => y (ix2 r j)) (fun j => g (ix2 0 j)) (fun j => rs (ix2 r j))) (fun j => gp (ix2 0 j))) l := by
  rw [pay3_eq]
  refine (cdg_at (by norm_num) _ _ _ _ _ r l).trans ?_
  rw [row12]

end Cert.Val.Ref
-- ==== Proof.Val.RefRun.lean ====
/- The reference's run: its results are the five arrays of its arguments. -/
module

public import proofs.«01_k».proof.Proof.Val.Out
public import proofs.«01_k».proof.Proof.Val.RefPay
public import proofs.«01_k».proof.Proof.Gen.ReferenceIdeal.Frame
public import Idealize.ShloMosaic.Lib.Pipeline.Value
public import Idealize.ShloMosaic.Lib.Pipeline.ValueKit

@[expose] public section

set_option maxRecDepth 16384

noncomputable section

namespace Cert.Val.Ref

open Cert.Val Cert.ReferenceIdeal Cert.ReferenceIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v5_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v5_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_v5_2) = (dats m 0 c).arrAt 8 cfg0.N
      ∧ r.2.mem ((c : Thread nD τ).loc main_v5_3) = (dats m 0 c).arrAt 9 cfg0.N
      ∧ r.2.mem ((c : Thread nD τ).loc main_v5_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)
end

/-! ## The one block of each window is its array -/

section
variable {F : FTy → Type} [FloatOps F]
variable (m : (ℓ : Loc nD τ sig) → Buf (Elt F) ℓ)

theorem idx0 : ∀ t : Fin cfg0.N, win0_0.index t = ![0, 0] := (by decide +kernel : ∀ t : Fin grid0.N, win0_0.index t = ![0, 0])
theorem iblk0 (c : Dev nD) (t : Fin cfg0.N) : iblk m c 0 t = V m c main_v0 := by
  funext y; blk_simp [iblk]; blk_ext [iblk, idx0 t]
theorem idx1 : ∀ t : Fin cfg0.N, win0_1.index t = ![0, 0] := (by decide +kernel : ∀ t : Fin grid0.N, win0_1.index t = ![0, 0])
theorem iblk1 (c : Dev nD) (t : Fin cfg0.N) : iblk m c 1 t = V m c main_v1 := by
  funext y; blk_simp [iblk]; blk_ext [iblk, idx1 t]
theorem idx2 : ∀ t : Fin cfg0.N, win0_2.index t = ![0, 0] := (by decide +kernel : ∀ t : Fin grid0.N, win0_2.index t = ![0, 0])
theorem iblk2 (c : Dev nD) (t : Fin cfg0.N) : iblk m c 2 t = V m c main_arg2 := by
  funext y; blk_simp [iblk]; blk_ext [iblk, idx2 t]
theorem idx3 : ∀ t : Fin cfg0.N, win0_3.index t = ![0, 0] := (by decide +kernel : ∀ t : Fin grid0.N, win0_3.index t = ![0, 0])
theorem iblk3 (c : Dev nD) (t : Fin cfg0.N) : iblk m c 3 t = V m c main_v2 := by
  funext y; blk_simp [iblk]; blk_ext [iblk, idx3 t]
theorem idx4 : ∀ t : Fin cfg0.N, win0_4.index t = ![0, 0] := (by decide +kernel : ∀ t : Fin grid0.N, win0_4.index t = ![0, 0])
theorem iblk4 (c : Dev nD) (t : Fin cfg0.N) : iblk m c 4 t = V m c main_v3 := by
  funext y; blk_simp [iblk]; blk_ext [iblk, idx4 t]
theorem idx5 : ∀ t : Fin cfg0.N, win0_5.index t = ![0, 0] := (by decide +kernel : ∀ t : Fin grid0.N, win0_5.index t = ![0, 0])
theorem iblk5 (c : Dev nD) (t : Fin cfg0.N) : iblk m c 5 t = V m c main_v4 := by
  funext y; blk_simp [iblk]; blk_ext [iblk, idx5 t]
end

/-! ## What the body leaves -/

section
variable (x0 : Vec Ideal S24576x1152 .bf16) (x1 : Vec Ideal S24576x6784 .bf16) (x2 : Vec Ideal S1152x6784 .fp8e4m3) (x3 x4 x5 : Vec Ideal S1x6784 .f32)

theorem out7_eq : out0_7 x0 x1 x2 x3 x4 x5 = oCode x0 := by
  funext j
  frame_out
  rw [eq_ix2 j]
  exact pay7_at x0 (j 0) (j 1)

theorem out8_eq : out0_8 x0 x1 x2 x3 x4 x5 = oScale x0 := by
  funext j
  frame_out
  rw [eq_ix2 j]
  exact pay6_at x0 (j 0) (j 1)

theorem pay10_eq : k0_pay10 x0 x2 x3 = mulf (k0_pay8 x0 x2 x3) (k0_pay8 x0 x2 x3) := rfl

theorem ld0 : View.ld x0 r0_0 = x0 := View.ld_unit_lit _ _ (by decide)
theorem ld1 : View.ld x1 r0_3 = x1 := View.ld_unit_lit _ _ (by decide)
theorem ld2 : View.ld x2 r0_1 = x2 := View.ld_unit_lit _ _ (by decide)
theorem ld3 : View.ld x3 r0_2 = x3 := View.ld_unit_lit _ _ (by decide)

theorem pay16_eq : k0_pay16 x0 x1 x2 x3 x4 x5 = k0_pay8 x0 x2 x3 := by unfold k0_pay16; rw [ld0, ld2, ld3]
theorem pay17_eq : k0_pay17 x0 x1 x2 x3 x4 x5 = k0_pay9 x4 := by unfold k0_pay17; rw [ld3]
theorem pay18_eq : k0_pay18 x0 x1 x2 x3 x4 x5 = mulf (k0_pay8 x0 x2 x3) (k0_pay8 x0 x2 x3) := by unfold k0_pay18; rw [ld0, ld2, ld3, pay10_eq]
theorem pay19_eq : k0_pay19 x0 x1 x2 x3 x4 x5 = k0_pay13 (k0_pay8 x0 x2 x3) (k0_pay9 x4) (mulf (k0_pay8 x0 x2 x3) (k0_pay8 x0 x2 x3)) x1 x5 := by
  unfold k0_pay19; rw [pay16_eq, pay17_eq, pay18_eq, ld1, ld3]
theorem pay20_eq : k0_pay20 x0 x1 x2 x3 x4 x5 = k0_pay14 (k0_pay8 x0 x2 x3) (k0_pay9 x4) (mulf (k0_pay8 x0 x2 x3) (k0_pay8 x0 x2 x3)) x1 x5 := by
  unfold k0_pay20; rw [pay16_eq, pay17_eq, pay18_eq, ld1, ld3]

theorem hRow_eq (r : Fin 24576) : rH (fun j => k0_pay8 x0 x2 x3 (ix2 r j)) (fun j => x4 (ix2 0 j)) (fun j => x1 (ix2 r j)) = hRow x0 x1 x2 x3 x4 r := by
  have e : (fun j => k0_pay8 x0 x2 x3 (ix2 r j)) = rY (rCode (row x0 r)) (rScale (row x0 r)) (mat x2) (row x3 0) := funext fun j => pay8_at x0 x2 x3 r j
  rw [e]; rfl

theorem out6_eq : out0_6 x0 x1 x2 x3 x4 x5 = oH x0 x1 x2 x3 x4 := by
  funext j
  frame_out
  rw [pay16_eq, pay17_eq, pay18_eq, eq_ix2 j]
  refine (pay11_at (k0_pay8 x0 x2 x3) x4 x1 (j 0) (j 1)).trans ?_
  exact congrFun (hRow_eq x0 x1 x2 x3 x4 (j 0)) (j 1)

theorem out9_eq : out0_9 x0 x1 x2 x3 x4 x5 = oZ x0 x1 x2 x3 x4 x5 := by
  funext j
  frame_out
  rw [pay16_eq, pay17_eq, pay18_eq, pay19_eq, pay20_eq, eq_ix2 j]
  refine (pay3_at (k0_pay8 x0 x2 x3) x4 x1 x5 (j 0) (j 1)).trans ?_
  rw [hRow_eq x0 x1 x2 x3 x4 (j 0)]; rfl

theorem out10_eq : out0_10 x0 x1 x2 x3 x4 x5 = oZs x0 x1 x2 x3 x4 x5 := by
  funext j
  frame_out
  rw [pay19_eq, pay20_eq, eq_ix2 j]
  refine (pay2_at (k0_pay8 x0 x2 x3) x4 x1 x5 (j 0) (j 1)).trans ?_
  rw [hRow_eq x0 x1 x2 x3 x4 (j 0)]; rfl

end

/-! ## The arrays after the run -/

section
variable (m : (ℓ : Loc nD τ sig) → Buf (Elt Ideal) ℓ) (ρ : Dev nD → PrngReg)

theorem oidx6 : ∀ t : Fin cfg0.N, win0_6.index t = ![0, 0] := (by decide +kernel : ∀ t : Fin grid0.N, win0_6.index t = ![0, 0])
theorem arr6 (c : Dev nD) : (dats m 0 c).arrAt 6 cfg0.N = oH (V m c main_v0) (V m c main_v1) (V m c main_arg2) (V m c main_v2) (V m c main_v3) := by
  refine (dats m 0 c).arrAt_eq_of_after_last 6 t0_0 (by decide +kernel) _ fun j => ?_
  blk_simp
  rw [after0_6, out6_eq, iblk0, iblk1, iblk2, iblk3, iblk4]
  done
theorem oidx7 : ∀ t : Fin cfg0.N, win0_7.index t = ![0, 0] := (by decide +kernel : ∀ t : Fin grid0.N, win0_7.index t = ![0, 0])
theorem arr7 (c : Dev nD) : (dats m 0 c).arrAt 7 cfg0.N = oCode (V m c main_v0) := by
  refine (dats m 0 c).arrAt_eq_of_after_last 7 t0_0 (by decide +kernel) _ fun j => ?_
  blk_simp
  rw [after0_7, out7_eq, iblk0]
  done
theorem oidx8 : ∀ t : Fin cfg0.N, win0_8.index t = ![0, 0] := (by decide +kernel : ∀ t : Fin grid0.N, win0_8.index t = ![0, 0])
theorem arr8 (c : Dev nD) : (dats m 0 c).arrAt 8 cfg0.N = oScale (V m c main_v0) := by
  refine (dats m 0 c).arrAt_eq_of_after_last 8 t0_0 (by decide +kernel) _ fun j => ?_
  blk_simp
  rw [after0_8, out8_eq, iblk0]
  done
theorem oidx9 : ∀ t : Fin cfg0.N, win0_9.index t = ![0, 0] := (by decide +kernel : ∀ t : Fin grid0.N, win0_9.index t = ![0, 0])
theorem arr9 (c : Dev nD) : (dats m 0 c).arrAt 9 cfg0.N = oZ (V m c main_v0) (V m c main_v1) (V m c main_arg2) (V m c main_v2) (V m c main_v3) (V m c main_v4) := by
  refine (dats m 0 c).arrAt_eq_of_after_last 9 t0_0 (by decide +kernel) _ fun j => ?_
  blk_simp
  rw [after0_9, out9_eq, iblk0, iblk1, iblk2, iblk3, iblk4, iblk5]
  done
theorem oidx10 : ∀ t : Fin cfg0.N, win0_10.index t = ![0, 0] := (by decide +kernel : ∀ t : Fin grid0.N, win0_10.index t = ![0, 0])
theorem arr10 (c : Dev nD) : (dats m 0 c).arrAt 10 cfg0.N = oZs (V m c main_v0) (V m c main_v1) (V m c main_arg2) (V m c main_v2) (V m c main_v3) (V m c main_v4) := by
  refine (dats m 0 c).arrAt_eq_of_after_last 10 t0_0 (by decide +kernel) _ fun j => ?_
  blk_simp
  rw [after0_10, out10_eq, iblk0, iblk1, iblk2, iblk3, iblk4, iblk5]
  done
theorem V0 (c : Dev nD) : V m c main_v0 = shapeCast S24576x1152 (m ((c : Thread nD τ).loc main_arg0)) shapeCasts_S8x3072x1152_S24576x1152 := by
  entry_read; rfl
theorem V1 (c : Dev nD) : V m c main_v1 = shapeCast S24576x6784 (m ((c : Thread nD τ).loc main_arg1)) shapeCasts_S8x3072x6784_S24576x6784 := by
  entry_read; rfl
theorem V2 (c : Dev nD) : V m c main_v2 = shapeCast S1x6784 (m ((c : Thread nD τ).loc main_arg3)) shapeCasts_S6784_S1x6784 := by
  entry_read; rfl
theorem V3 (c : Dev nD) : V m c main_v3 = shapeCast S1x6784 (m ((c : Thread nD τ).loc main_arg4)) shapeCasts_S6784_S1x6784 := by
  entry_read; rfl
theorem V4 (c : Dev nD) : V m c main_v4 = shapeCast S1x6784 (m ((c : Thread nD τ).loc main_arg5)) shapeCasts_S6784_S1x6784 := by
  entry_read; rfl

/-- Every run ends with the five arrays in the results and the arguments as they were. -/
theorem run_out : θ_run defs (onTc (τ := τ) (main (F := Ideal))) ⟨m, fun _ => 0, ρ⟩ (fun r => ∀ c : Dev nD,
      r.2.mem ((c.tc : Thread nD τ).loc main_v5_0) = oH (V m c main_v0) (V m c main_v1) (V m c main_arg2) (V m c main_v2) (V m c main_v3)
      ∧ r.2.mem ((c.tc : Thread nD τ).loc main_v5_1) = oCode (V m c main_v0)
      ∧ r.2.mem ((c.tc : Thread nD τ).loc main_v5_2) = oScale (V m c main_v0)
      ∧ r.2.mem ((c.tc : Thread nD τ).loc main_v5_3) = oZ (V m c main_v0) (V m c main_v1) (V m c main_arg2) (V m c main_v2) (V m c main_v3) (V m c main_v4)
      ∧ r.2.mem ((c.tc : Thread nD τ).loc main_v5_4) = oZs (V m c main_v0) (V m c main_v1) (V m c main_arg2) (V m c main_v2) (V m c main_v3) (V m c main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1, h2, h3, h4, hk⟩ := h c
    exact ⟨h0.trans (arr6 m c), h1.trans (arr7 m c), h2.trans (arr8 m c), h3.trans (arr9 m c), h4.trans (arr10 m c), hk⟩) (run_blocks m ρ)

end

end Cert.Val.Ref

end
-- ==== Proof.Val.Pre.lean ====
/- The precondition read: the activations and the second norm's gain are bounded. -/
module

public import proofs.«01_k».proof.Pre_finite
public import proofs.«01_k».proof.Proof.Val.Out

@[expose] public section

noncomputable section

namespace Cert.Val.Pre

open Cert.Val Idealize.ShloMosaic
open Cert.Pre_finite (S8x3072x1152 S8x3072x6784 S1152x6784 S6784 S_)

theorem facts : Cert.Pre_finite.Facts := ⟨by decide, by decide, by decide⟩

theorem le_of_cmp {a b : EReal} (h : Ideal.cmp .ole a b = 1#1) : a ≤ b := by
  unfold Ideal.cmp at h
  by_contra hn
  simp [hn] at h

variable [Cert.Pre_finite.Facts] (a0 : FVec Ideal S8x3072x1152 .bf16) (a1 : FVec Ideal S8x3072x6784 .bf16) (a2 : FVec Ideal S1152x6784 .fp8e4m3) (a3 a4 a5 : FVec Ideal S6784 .f32)

theorem bound_x (h : (Cert.Pre_finite.fn a0 a1 a2 a3 a4 a5).1 = fun _ => 1#1) (i : S8x3072x1152.Idx) : ab (a0 i) ≤ cmax :=
  le_of_cmp (congrFun h i)
theorem bound_g (h : (Cert.Pre_finite.fn a0 a1 a2 a3 a4 a5).2 = fun _ => 1#1) (i : S6784.Idx) : ab (a5 i) ≤ cmax :=
  le_of_cmp (congrFun h i)

end Cert.Val.Pre

end
-- ==== Proof.lean ====
module

public import proofs.«01_k».proof.Defs
public import proofs.«01_k».proof.Proof.K.Launch
public import proofs.«01_k».proof.Proof.KI.Launch
public import proofs.«01_k».proof.Proof.Gen.ReferenceIdeal.Frame
public import proofs.«01_k».proof.Proof.Val.KerRun
public import proofs.«01_k».proof.Proof.Val.RefRun
public import proofs.«01_k».proof.Proof.Val.Pre
public import Idealize.ShloMosaic.Adequacy
public import Idealize.ShloMosaic.Init

@[expose] public section

noncomputable section

namespace Cert.Proof

open Idealize.ShloMosaic Idealize.ShloMosaic.TcCoe Idealize.SL.Sem
open Cert.Val

theorem algebraic : Cert.algebraic_KernelIdeal_ReferenceIdeal_pre_finite (hKernelIdeal := Cert.KernelIdeal.Gen.facts)
    (hReferenceIdeal := Cert.ReferenceIdeal.Gen.facts) (hPre_finite := Cert.Val.Pre.facts) := by
  intro m g m' g' hP hE
  have hx : ∀ c j, ab (Ker.xm m c j) ≤ cmax := fun c j => by
    unfold Ker.xm
    rw [Ker.V0]
    exact (@Cert.Val.Pre.bound_x Cert.Val.Pre.facts _ _ _ _ _ _ (hP c).1 _)
  have hg : ∀ c i, ab (Ker.gpm m c i) ≤ cmax := fun c i => by
    unfold Ker.gpm
    exact (@Cert.Val.Pre.bound_g Cert.Val.Pre.facts _ _ _ _ _ _ (hP c).2 _)
  have e0 : ∀ c, Cert.ReferenceIdeal.Gen.V m' c Cert.ReferenceIdeal.main_v0 = Ker.xm m c := fun c => by
    unfold Ker.xm; rw [Ref.V0, Ker.V0, (hE c).1]
  have e1 : ∀ c, Cert.ReferenceIdeal.Gen.V m' c Cert.ReferenceIdeal.main_v1 = Ker.rsm m c := fun c => by
    unfold Ker.rsm; rw [Ref.V1, Ker.V1, (hE c).2.1]
  have e2 : ∀ c, Cert.ReferenceIdeal.Gen.V m' c Cert.ReferenceIdeal.main_arg2 = Ker.wm m c := fun c => by
    unfold Ker.wm; rw [Cert.ReferenceIdeal.Gen.V_main_arg2, Cert.KernelIdeal.Gen.V_main_arg2, (hE c).2.2.1]
  have e3 : ∀ c, Cert.ReferenceIdeal.Gen.V m' c Cert.ReferenceIdeal.main_v2 = Ker.wsm m c := fun c => by
    unfold Ker.wsm; rw [Ref.V2, Ker.V2, (hE c).2.2.2.1]
  have e4 : ∀ c, Cert.ReferenceIdeal.Gen.V m' c Cert.ReferenceIdeal.main_v3 = Ker.gm m c := fun c => by
    unfold Ker.gm; rw [Ref.V3, (hE c).2.2.2.2.1]
  have e5 : ∀ c, Cert.ReferenceIdeal.Gen.V m' c Cert.ReferenceIdeal.main_v4 = Ker.gpm m c := fun c => by
    unfold Ker.gpm; rw [Ref.V4, (hE c).2.2.2.2.2]
  refine ⟨fun c => oH (Ker.xm m c) (Ker.rsm m c) (Ker.wm m c) (Ker.wsm m c) (Ker.gm m c), fun c => oCode (Ker.xm m c), fun c => oScale (Ker.xm m c),
    fun c => oZ (Ker.xm m c) (Ker.rsm m c) (Ker.wm m c) (Ker.wsm m c) (Ker.gm m c) (Ker.gpm m c),
    fun c => oZs (Ker.xm m c) (Ker.rsm m c) (Ker.wm m c) (Ker.wsm m c) (Ker.gm m c) (Ker.gpm m c), Ker.run_out m g hx hg, ?_⟩
  refine (θ_run _ _ _).mono (fun r h c => ?_) (Ref.run_out m' g')
  have h := h c
  rw [e0, e1, e2, e3, e4, e5] at h
  exact h

theorem claim : Cert.Claim := ⟨Cert.Kernel.Gen.facts, Cert.KernelIdeal.Gen.facts, Cert.ReferenceIdeal.Gen.facts, Cert.Val.Pre.facts,
  fun m ρ _ => Cert.Kernel.Hand.frame_main (F := Bits) m ρ,
  fun m ρ _ => Cert.KernelIdeal.Hand.frame_main (F := Ideal) m ρ,
  fun m ρ _ => Cert.KernelIdeal.Hand.frame_main (F := Ideal) m ρ,
  fun m ρ _ => Cert.ReferenceIdeal.Gen.frame (F := Ideal) m ρ,
  fun m ρ _ => Cert.ReferenceIdeal.Gen.frame (F := Ideal) m ρ,
  trivial, algebraic⟩

end Cert.Proof

end
